-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_norm [hPre_finite_norm : Cert.Pre_finite_norm.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.1 = (fun _ => 1#1)
    ∧ (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.1 = (fun _ => 1#1)
    ∧ (Cert.Pre_finite_norm.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_norm [hPre_finite_norm : Cert.Pre_finite_norm.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.1 = (fun _ => 1#1)
    ∧ (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.1 = (fun _ => 1#1)
    ∧ (Cert.Pre_finite_norm.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_norm2 [hPre_finite_norm2 : Cert.Pre_finite_norm2.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_norm2.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).1 = (fun _ => 1#1)
    ∧ (Cert.Pre_finite_norm2.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.1 = (fun _ => 1#1)
    ∧ (Cert.Pre_finite_norm2.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2.1 = (fun _ => 1#1)
    ∧ (Cert.Pre_finite_norm2.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2.2.1 = (fun _ => 1#1)
    ∧ (Cert.Pre_finite_norm2.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))).2.2.2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_norm2 [hPre_finite_norm2 : Cert.Pre_finite_norm2.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_norm2.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).1 = (fun _ => 1#1)
    ∧ (Cert.Pre_finite_norm2.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.1 = (fun _ => 1#1)
    ∧ (Cert.Pre_finite_norm2.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.2.1 = (fun _ => 1#1)
    ∧ (Cert.Pre_finite_norm2.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.2.2.1 = (fun _ => 1#1)
    ∧ (Cert.Pre_finite_norm2.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))).2.2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite_norm [hKernel5Ideal : Cert.Kernel5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_norm m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite_norm [hReference5Ideal : Cert.Reference5Ideal.Facts] [hPre_finite_norm : Cert.Pre_finite_norm.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_norm m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_finite_norm2 [hKernel16Ideal : Cert.Kernel16Ideal.Facts] [hPre_finite_norm2 : Cert.Pre_finite_norm2.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_norm2 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_finite_norm2 [hReference16Ideal : Cert.Reference16Ideal.Facts] [hPre_finite_norm2 : Cert.Pre_finite_norm2.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_norm2 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "cubic" .f32 0x3D372713#32 ((8943 / 200000 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v47) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_norm [hKernel5Ideal : Cert.Kernel5Ideal.Facts] [hReference5Ideal : Cert.Reference5Ideal.Facts] [hPre_finite_norm : Cert.Pre_finite_norm.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_norm m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v68) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_v27) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_v27) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal_pre_finite_norm2 [hKernel16Ideal : Cert.Kernel16Ideal.Facts] [hReference16Ideal : Cert.Reference16Ideal.Facts] [hPre_finite_norm2 : Cert.Pre_finite_norm2.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_norm2 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v69) = v0 c
          ∧ r.2.mem ((c.tc : Thread Cert.Reference16Ideal.nD Cert.Reference16Ideal.τ).loc Cert.Reference16Ideal.main_v70) = v1 c
          ∧ r.2.mem ((c.tc : Thread Cert.Reference16Ideal.nD Cert.Reference16Ideal.τ).loc Cert.Reference16Ideal.main_v71) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v45) = v0 c
          ∧ r.2.mem ((c.tc : Thread Cert.Reference17Ideal.nD Cert.Reference17Ideal.τ).loc Cert.Reference17Ideal.main_v41) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_v7) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite_norm : Cert.Pre_finite_norm.Facts) (hPre_finite_norm2 : Cert.Pre_finite_norm2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_norm (hKernel5Ideal := hKernel5Ideal) (hPre_finite_norm := hPre_finite_norm)
    ∧ quiescent_Reference5Ideal (hReference5Ideal := hReference5Ideal)
    ∧ quiescent_Reference5Ideal_pre_finite_norm (hReference5Ideal := hReference5Ideal) (hPre_finite_norm := hPre_finite_norm)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_norm2 (hKernel16Ideal := hKernel16Ideal) (hPre_finite_norm2 := hPre_finite_norm2)
    ∧ quiescent_Reference16Ideal (hReference16Ideal := hReference16Ideal)
    ∧ quiescent_Reference16Ideal_pre_finite_norm2 (hReference16Ideal := hReference16Ideal) (hPre_finite_norm2 := hPre_finite_norm2)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_norm (hKernel5Ideal := hKernel5Ideal) (hReference5Ideal := hReference5Ideal) (hPre_finite_norm := hPre_finite_norm)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_norm2 (hKernel16Ideal := hKernel16Ideal) (hReference16Ideal := hReference16Ideal) (hPre_finite_norm2 := hPre_finite_norm2)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S1024x5632 .f32) (main_arg2 : FVec F S3x5632 .f32) (main_arg3 : FVec F S5632 .f32) (main_arg4 : FVec F S4096x2816 .f32) : IVec S4096x1024 1 × IVec S1024x5632 1 × IVec S3x5632 1 × IVec S5632 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_v12 : FVec F S4096x2816 .f32 := Host.absf main_arg4
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  (main_v2, main_v5, main_v8, main_v11, main_v14)
-- ==== Pre_finite_norm.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S4096x1024 .f32) (main_arg3 : FVec F S1024 .f32) : IVec S4096x1024 1 × IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_finite_norm2.lean ====
abbrev S2x4096x1024 : Shape := ⟨3, ![2, 4096, 1024]⟩
abbrev S4096x1024 : Shape := ⟨2, ![4096, 1024]⟩
abbrev S1024 : Shape := ⟨1, ![1024]⟩
abbrev S_ : Shape := ⟨0, ![]⟩

class Facts : Prop where
  bcast_S_S2x4096x1024 : S_.BroadcastsInDim S2x4096x1024 (![] : Fin 0 → Fin S2x4096x1024.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S2x4096x1024 .f32) (main_arg1 : FVec F S4096x1024 .f32) (main_arg2 : FVec F S4096x1024 .f32) (main_arg3 : FVec F S4096x1024 .f32) (main_arg4 : FVec F S1024 .f32) : IVec S2x4096x1024 1 × IVec S4096x1024 1 × IVec S4096x1024 1 × IVec S4096x1024 1 × IVec S1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x2816 : Shape := ⟨2, ![4096, 2816]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x4096x1024 : Shape := ⟨3, ![2, 4096, 1024]⟩
abbrev S2x2x1024x1408 : Shape := ⟨4, ![2, 2, 1024, 1408]⟩
abbrev S2x512x1408 : Shape := ⟨3, ![2, 512, 1408]⟩
abbrev S2x8x1408 : Shape := ⟨3, ![2, 8, 1408]⟩
abbrev S512x1408 : Shape := ⟨2, ![512, 1408]⟩
abbrev S16x1408 : Shape := ⟨2, ![16, 1408]⟩
abbrev S1x1024x1408 : Shape := ⟨3, ![1, 1024, 1408]⟩
abbrev S512x1024 : Shape := ⟨2, ![512, 1024]⟩
abbrev S2x3x1408 : Shape := ⟨3, ![2, 3, 1408]⟩
abbrev S2x1x1408 : Shape := ⟨3, ![2, 1, 1408]⟩
abbrev S1x512x1024 : Shape := ⟨3, ![1, 512, 1024]⟩
abbrev S2x1x1024x1408 : Shape := ⟨4, ![2, 1, 1024, 1408]⟩
abbrev S2x1024x1408 : Shape := ⟨3, ![2, 1024, 1408]⟩
abbrev S1024x512 : Shape := ⟨2, ![1024, 512]⟩
abbrev S16x256 : Shape := ⟨2, ![16, 256]⟩
abbrev S8x256 : Shape := ⟨2, ![8, 256]⟩
abbrev S512x256 : Shape := ⟨2, ![512, 256]⟩
abbrev S528x256 : Shape := ⟨2, ![528, 256]⟩
abbrev S1x8x256 : Shape := ⟨3, ![1, 8, 256]⟩
abbrev S1x512x256 : Shape := ⟨3, ![1, 512, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S256 : Shape := ⟨1, ![256]⟩
abbrev S1x1024x256 : Shape := ⟨3, ![1, 1024, 256]⟩
abbrev S1024x256 : Shape := ⟨2, ![1024, 256]⟩
abbrev S16x128 : Shape := ⟨2, ![16, 128]⟩
abbrev S8x128 : Shape := ⟨2, ![8, 128]⟩
abbrev S512x128 : Shape := ⟨2, ![512, 128]⟩
abbrev S528x128 : Shape := ⟨2, ![528, 128]⟩
abbrev S1x8x128 : Shape := ⟨3, ![1, 8, 128]⟩
abbrev S1x512x128 : Shape := ⟨3, ![1, 512, 128]⟩
abbrev S1x3x128 : Shape := ⟨3, ![1, 3, 128]⟩
abbrev S3x128 : Shape := ⟨2, ![3, 128]⟩
abbrev S1x1x128 : Shape := ⟨3, ![1, 1, 128]⟩
abbrev S1x128 : Shape := ⟨2, ![1, 128]⟩
abbrev S128 : Shape := ⟨1, ![128]⟩
abbrev S1x1024x128 : Shape := ⟨3, ![1, 1024, 128]⟩
abbrev S1024x128 : Shape := ⟨2, ![1024, 128]⟩

abbrev nBuf : Space → Nat
  | .hbm => 19
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x2816, .f32⟩
  | .hbm, ⟨5, _⟩ => ⟨S4096x5632, .f32⟩
  | .hbm, ⟨6, _⟩ => ⟨S4096x2x2816, .f32⟩
  | .hbm, ⟨7, _⟩ => ⟨S2x4096x2816, .f32⟩
  | .hbm, ⟨8, _⟩ => ⟨S1024x4x1408, .f32⟩
  | .hbm, ⟨9, _⟩ => ⟨S4x1024x1408, .f32⟩
  | .hbm, ⟨10, _⟩ => ⟨S4x1024x1408, .bf16⟩
  | .hbm, ⟨11, _⟩ => ⟨S3x2x2816, .f32⟩
  | .hbm, ⟨12, _⟩ => ⟨S2x3x2816, .f32⟩
  | .hbm, ⟨13, _⟩ => ⟨S2x1x2816, .f32⟩
  | .hbm, ⟨14, _⟩ => ⟨S4096x2816, .bf16⟩
  | .hbm, ⟨15, _⟩ => ⟨S2x4096x1024, .f32⟩
  | .hbm, ⟨16, _⟩ => ⟨S2x2x1024x1408, .bf16⟩
  | .hbm, ⟨17, _⟩ => ⟨S2x3x2816, .f32⟩
  | .hbm, ⟨18, _⟩ => ⟨S2x1x2816, .f32⟩
  | .local _ .vmem, ⟨0, _⟩ => ⟨S2x512x1408, .f32⟩
  | .local _ .vmem, ⟨1, _⟩ => ⟨S2x512x1408, .f32⟩
  | .local _ .vmem, ⟨2, _⟩ => ⟨S2x8x1408, .f32⟩
  | .local _ .vmem, ⟨3, _⟩ => ⟨S2x8x1408, .f32⟩
  | .local _ .vmem, ⟨4, _⟩ => ⟨S2x8x1408, .f32⟩
  | .local _ .vmem, ⟨5, _⟩ => ⟨S2x8x1408, .f32⟩
  | .local _ .vmem, ⟨6, _⟩ => ⟨S512x1408, .bf16⟩
  | .local _ .vmem, ⟨7, _⟩ => ⟨S512x1408, .bf16⟩
  | .local _ .vmem, ⟨8, _⟩ => ⟨S16x1408, .bf16⟩
  | .local _ .vmem, ⟨9, _⟩ => ⟨S16x1408, .bf16⟩
  | .local _ .vmem, ⟨10, _⟩ => ⟨S1x1024x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S2x3x1408, .f32⟩
  | .local _ .vmem, ⟨15, _⟩ => ⟨S2x3x1408, .f32⟩
  | .local _ .vmem, ⟨16, _⟩ => ⟨S2x1x1408, .f32⟩
  | .local _ .vmem, ⟨17, _⟩ => ⟨S2x1x1408, .f32⟩
  | .local _ .vmem, ⟨18, _⟩ => ⟨S1x512x1024, .f32⟩
  | .local _ .vmem, ⟨19, _⟩ => ⟨S1x512x1024, .f32⟩
  | .local _ .vmem, ⟨20, _⟩ => ⟨S2x1x1024x1408, .bf16⟩
  | .local _ .vmem, ⟨21, _⟩ => ⟨S2x3x1408, .f32⟩
  | .local _ .vmem, ⟨22, _⟩ => ⟨S2x3x1408, .f32⟩
  | .local _ .vmem, ⟨23, _⟩ => ⟨S2x1x1408, .f32⟩
  | .local _ .vmem, ⟨24, _⟩ => ⟨S2x1x1408, .f32⟩
  | .local _ .vmem, ⟨25, _⟩ => ⟨S2x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v1 : BitVec 1 := Scalar.cmpi .eq arg1 c7_i32
  let v1425 : BitVec 32 := Scalar.extui v1
  let c0_i32_839 : BitVec 32 := 0#32
  let v1426 : BitVec 1 := Scalar.cmpi .ne v1425 c0_i32_839
  v1426

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x8x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x1x1024x1408 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S2x3x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x1x1408 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x2816 : Shape := ⟨2, ![4096, 2816]⟩
abbrev S1x4096x1024 : Shape := ⟨3, ![1, 4096, 1024]⟩
abbrev S2x4096x1024 : Shape := ⟨3, ![2, 4096, 1024]⟩
abbrev S1024x2x2x1408 : Shape := ⟨4, ![1024, 2, 2, 1408]⟩
abbrev S1024x2x1x1408 : Shape := ⟨4, ![1024, 2, 1, 1408]⟩
abbrev S1024x2x1408 : Shape := ⟨3, ![1024, 2, 1408]⟩
abbrev S4096x2x1408 : Shape := ⟨3, ![4096, 2, 1408]⟩
abbrev S4096x2x2816 : Shape := ⟨3, ![4096, 2, 2816]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S2x1408x1024 : Shape := ⟨3, ![2, 1408, 1024]⟩
abbrev S2x2x1024x1408 : Shape := ⟨4, ![2, 2, 1024, 1408]⟩
abbrev S3x2x2816 : Shape := ⟨3, ![3, 2, 2816]⟩
abbrev S2x3x2816 : Shape := ⟨3, ![2, 3, 2816]⟩
abbrev S2x1x2816 : Shape := ⟨3, ![2, 1, 2816]⟩

abbrev nBuf : Space → Nat
  | .hbm => 182
  | .vmem => 0
  | .smem => 0
  | _ => 0

abbrev hbmTy0_0 (i : Nat) : BufTy := match i % 128 with
  | 0 => ⟨S4096x1024, .f32⟩
  | 1 => ⟨S1024x5632, .f32⟩
  | 2 => ⟨S3x5632, .f32⟩
  | 3 => ⟨S5632, .f32⟩
  | 4 => ⟨S4096x2816, .f32⟩
  | 5 => ⟨S1x4096x1024, .f32⟩
  | 6 => ⟨S1x4096x1024, .f32⟩
  | 7 => ⟨S2x4096x1024, .f32⟩
  | 8 => ⟨S1024x2x2x1408, .f32⟩
  | 9 => ⟨S1x4096x1024, .f32⟩
  | 10 => ⟨S4096x1024, .f32⟩
  | 11 => ⟨S1024x2x1x1408, .f32⟩
  | 12 => ⟨S1024x2x1408, .f32⟩
  | 13 => ⟨S4096x2x1408, .f32⟩
  | 14 => ⟨S1x4096x1024, .f32⟩
  | 15 => ⟨S4096x1024, .f32⟩
  | 16 => ⟨S1024x2x1x1408, .f32⟩
  | 17 => ⟨S1024x2x1408, .f32⟩
  | 18 => ⟨S4096x2x1408, .f32⟩
  | 19 => ⟨S4096x2x2816, .f32⟩
  | 20 => ⟨S4096x5632, .f32⟩
  | 21 => ⟨S_, .f32⟩
  | 22 => ⟨S2x5632, .f32⟩
  | 23 => ⟨S4098x5632, .f32⟩
  | 24 => ⟨S_, .f32⟩
  | 25 => ⟨S2x5632, .f32⟩
  | 26 => ⟨S1x5632, .f32⟩
  | 27 => ⟨S5632, .f32⟩
  | 28 => ⟨S4096x5632, .f32⟩
  | 29 => ⟨S1x5632, .f32⟩
  | 30 => ⟨S4096x5632, .f32⟩
  | 31 => ⟨S4096x5632, .f32⟩
  | 32 => ⟨S_, .f32⟩
  | 33 => ⟨S4096x5632, .f32⟩
  | 34 => ⟨S4096x5632, .f32⟩
  | 35 => ⟨S1x5632, .f32⟩
  | 36 => ⟨S5632, .f32⟩
  | 37 => ⟨S4096x5632, .f32⟩
  | 38 => ⟨S1x5632, .f32⟩
  | 39 => ⟨S4096x5632, .f32⟩
  | 40 => ⟨S4096x5632, .f32⟩
  | 41 => ⟨S4096x5632, .f32⟩
  | 42 => ⟨S1x5632, .f32⟩
  | 43 => ⟨S5632, .f32⟩
  | 44 => ⟨S4096x5632, .f32⟩
  | 45 => ⟨S1x5632, .f32⟩
  | 46 => ⟨S4096x5632, .f32⟩
  | 47 => ⟨S4096x5632, .f32⟩
  | 48 => ⟨S4096x5632, .f32⟩
  | 49 => ⟨S1x5632, .f32⟩
  | 50 => ⟨S4096x5632, .f32⟩
  | 51 => ⟨S4096x5632, .f32⟩
  | 52 => ⟨S4096x2816, .f32⟩
  | 53 => ⟨S4096x2816, .f32⟩
  | 54 => ⟨S_, .f32⟩
  | 55 => ⟨S_, .f32⟩
  | 56 => ⟨S_, .f32⟩
  | 57 => ⟨S4096x2816, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S_, .f32⟩
  | 67 => ⟨S4096x2816, .f32⟩
  | 68 => ⟨S4096x2816, .f32⟩
  | 69 => ⟨S4096x2816, .f32⟩
  | 70 => ⟨S_, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S4096x2816, .f32⟩
  | 77 => ⟨S_, .f32⟩
  | 78 => ⟨S4096x2816, .f32⟩
  | 79 => ⟨S4096x2816, .f32⟩
  | 80 => ⟨S_, .f32⟩
  | 81 => ⟨S4096x2816, .f32⟩
  | 82 => ⟨S4096x2816, .f32⟩
  | 83 => ⟨S4096x2816, .f32⟩
  | 84 => ⟨S4096x2816, .f32⟩
  | 85 => ⟨S4096x2816, .f32⟩
  | 86 => ⟨S4096x2816, .f32⟩
  | 87 => ⟨S4096x2816, .f32⟩
  | 88 => ⟨S4096x2816, .f32⟩
  | 89 => ⟨S_, .f32⟩
  | 90 => ⟨S4096x2816, .f32⟩
  | 91 => ⟨S4096x2816, .f32⟩
  | 92 => ⟨S4096x2816, .f32⟩
  | 93 => ⟨S_, .f32⟩
  | 94 => ⟨S4096x2816, .f32⟩
  | 95 => ⟨S4096x2816, .f32⟩
  | 96 => ⟨S4096x2816, .f32⟩
  | 97 => ⟨S4096x2816, .f32⟩
  | 98 => ⟨S4096x2816, .f32⟩
  | 99 => ⟨S4096x2816, .f32⟩
  | 100 => ⟨S4096x2816, .f32⟩
  | 101 => ⟨S4096x5632, .f32⟩
  | 102 => ⟨S_, .f32⟩
  | 103 => ⟨S5632, .f32⟩
  | 104 => ⟨S1x5632, .f32⟩
  | 105 => ⟨S_, .f32⟩
  | 106 => ⟨S5632, .f32⟩
  | 107 => ⟨S4096x5632, .f32⟩
  | 108 => ⟨S4096x5632, .f32⟩
  | 109 => ⟨S4096x5632, .f32⟩
  | 110 => ⟨S_, .f32⟩
  | 111 => ⟨S5632, .f32⟩
  | 112 => ⟨S1x5632, .f32⟩
  | 113 => ⟨S_, .f32⟩
  | 114 => ⟨S5632, .f32⟩
  | 115 => ⟨S_, .f32⟩
  | 116 => ⟨S4098x5632, .f32⟩
  | 117 => ⟨S1x5632, .f32⟩
  | 118 => ⟨S_, .f32⟩
  | 119 => ⟨S3x5632, .f32⟩
  | 120 => ⟨S4096x5632, .f32⟩
  | 121 => ⟨S4096x5632, .f32⟩
  | 122 => ⟨S4096x5632, .f32⟩
  | 123 => ⟨S_, .f32⟩
  | 124 => ⟨S5632, .f32⟩
  | 125 => ⟨S1x5632, .f32⟩
  | 126 => ⟨S_, .f32⟩
  | 127 => ⟨S5632, .f32⟩
  | _ => ⟨S4096x1024, .f32⟩

abbrev hbmTy0_1 (i : Nat) : BufTy := match i % 128 with
  | 0 => ⟨S_, .f32⟩
  | 1 => ⟨S4098x5632, .f32⟩
  | 2 => ⟨S4098x5632, .f32⟩
  | 3 => ⟨S1x5632, .f32⟩
  | 4 => ⟨S_, .f32⟩
  | 5 => ⟨S3x5632, .f32⟩
  | 6 => ⟨S3x5632, .f32⟩
  | 7 => ⟨S4096x5632, .f32⟩
  | 8 => ⟨S4096x5632, .f32⟩
  | 9 => ⟨S4096x5632, .f32⟩
  | 10 => ⟨S_, .f32⟩
  | 11 => ⟨S5632, .f32⟩
  | 12 => ⟨S1x5632, .f32⟩
  | 13 => ⟨S_, .f32⟩
  | 14 => ⟨S5632, .f32⟩
  | 15 => ⟨S_, .f32⟩
  | 16 => ⟨S4098x5632, .f32⟩
  | 17 => ⟨S4098x5632, .f32⟩
  | 18 => ⟨S1x5632, .f32⟩
  | 19 => ⟨S_, .f32⟩
  | 20 => ⟨S3x5632, .f32⟩
  | 21 => ⟨S3x5632, .f32⟩
  | 22 => ⟨S2x5632, .f32⟩
  | 23 => ⟨S4096x5632, .f32⟩
  | 24 => ⟨S4096x2x2816, .f32⟩
  | 25 => ⟨S4096x2x1408, .f32⟩
  | 26 => ⟨S4096x2x1408, .f32⟩
  | 27 => ⟨S2x1408x1024, .f32⟩
  | 28 => ⟨S1024x2x1408, .f32⟩
  | 29 => ⟨S4096x1024, .f32⟩
  | 30 => ⟨S1024x2x1x1408, .f32⟩
  | 31 => ⟨S_, .f32⟩
  | 32 => ⟨S1024x2x2x1408, .f32⟩
  | 33 => ⟨S1x4096x1024, .f32⟩
  | 34 => ⟨S_, .f32⟩
  | 35 => ⟨S2x4096x1024, .f32⟩
  | 36 => ⟨S2x1408x1024, .f32⟩
  | 37 => ⟨S1024x2x1408, .f32⟩
  | 38 => ⟨S4096x1024, .f32⟩
  | 39 => ⟨S1024x2x1x1408, .f32⟩
  | 40 => ⟨S_, .f32⟩
  | 41 => ⟨S1024x2x2x1408, .f32⟩
  | 42 => ⟨S1024x2x2x1408, .f32⟩
  | 43 => ⟨S1x4096x1024, .f32⟩
  | 44 => ⟨S_, .f32⟩
  | 45 => ⟨S2x4096x1024, .f32⟩
  | 46 => ⟨S2x4096x1024, .f32⟩
  | 47 => ⟨S1024x5632, .f32⟩
  | 48 => ⟨S1024x2x2x1408, .f32⟩
  | 49 => ⟨S2x2x1024x1408, .f32⟩
  | 50 => ⟨S2x2x1024x1408, .bf16⟩
  | 51 => ⟨S3x2x2816, .f32⟩
  | 52 => ⟨S2x3x2816, .f32⟩
  | 53 => ⟨S2x1x2816, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_cst_3 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_4 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_11 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_12 : Ref sig .tc := ⟨.hbm, 102, rfl⟩
abbrev main_v84 : Ref sig .tc := ⟨.hbm, 103, rfl⟩
abbrev main_v85 : Ref sig .tc := ⟨.hbm, 104, rfl⟩
abbrev main_cst_13 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_14 : Ref sig .tc := ⟨.hbm, 110, rfl⟩
abbrev main_v90 : Ref sig .tc := ⟨.hbm, 111, rfl⟩
abbrev main_v91 : Ref sig .tc := ⟨.hbm, 112, rfl⟩
abbrev main_cst_15 : Ref sig .tc := ⟨.hbm, 113, rfl⟩
abbrev main_v92 : Ref sig .tc := ⟨.hbm, 114, rfl⟩
abbrev main_cst_16 : Ref sig .tc := ⟨.hbm, 115, rfl⟩
abbrev main_v93 : Ref sig .tc := ⟨.hbm, 116, rfl⟩
abbrev main_v94 : Ref sig .tc := ⟨.hbm, 117, rfl⟩
abbrev main_cst_17 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_18 : Ref sig .tc := ⟨.hbm, 123, rfl⟩
abbrev main_v99 : Ref sig .tc := ⟨.hbm, 124, rfl⟩
abbrev main_v100 : Ref sig .tc := ⟨.hbm, 125, rfl⟩
abbrev main_cst_19 : Ref sig .tc := ⟨.hbm, 126, rfl⟩
abbrev main_v101 : Ref sig .tc := ⟨.hbm, 127, rfl⟩
abbrev main_cst_20 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_21 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_22 : Ref sig .tc := ⟨.hbm, 138, rfl⟩
abbrev main_v110 : Ref sig .tc := ⟨.hbm, 139, rfl⟩
abbrev main_v111 : Ref sig .tc := ⟨.hbm, 140, rfl⟩
abbrev main_cst_23 : Ref sig .tc := ⟨.hbm, 141, rfl⟩
abbrev main_v112 : Ref sig .tc := ⟨.hbm, 142, rfl⟩
abbrev main_cst_24 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_25 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_26 : Ref sig .tc := ⟨.hbm, 159, rfl⟩
abbrev main_v127 : Ref sig .tc := ⟨.hbm, 160, rfl⟩
abbrev main_v128 : Ref sig .tc := ⟨.hbm, 161, rfl⟩
abbrev main_cst_27 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_28 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_29 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩

abbrev nD : Nat := 1
abbrev τ : Topo := Topo.v7x

variable {F : FTy → Type} [FloatOps F]
-- ==== Kernel2.lean ====
abbrev S2816x1024 : Shape := ⟨2, ![2816, 1024]⟩
abbrev S4096x1024 : Shape := ⟨2, ![4096, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 4
  | .vmem => 5
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S2816x1024, .bf16⟩
  | .hbm, ⟨3, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2816x1024 : Shape := ⟨2, ![2816, 1024]⟩
abbrev S4096x1024 : Shape := ⟨2, ![4096, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S4096x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S1024x4x1408 : Shape := ⟨3, ![1024, 4, 1408]⟩
abbrev S4x1024x1408 : Shape := ⟨3, ![4, 1024, 1408]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x4096x2816 : Shape := ⟨3, ![2, 4096, 2816]⟩
abbrev S4096x2816 : Shape := ⟨2, ![4096, 2816]⟩
abbrev S512x1024 : Shape := ⟨2, ![512, 1024]⟩
abbrev S1x1024x1408 : Shape := ⟨3, ![1, 1024, 1408]⟩
abbrev S2x3x1408 : Shape := ⟨3, ![2, 3, 1408]⟩
abbrev S2x1x1408 : Shape := ⟨3, ![2, 1, 1408]⟩
abbrev S2x512x1408 : Shape := ⟨3, ![2, 512, 1408]⟩
abbrev S512x1408 : Shape := ⟨2, ![512, 1408]⟩
abbrev S2x8x1408 : Shape := ⟨3, ![2, 8, 1408]⟩
abbrev S1024x1408 : Shape := ⟨2, ![1024, 1408]⟩
abbrev S1x512x1408 : Shape := ⟨3, ![1, 512, 1408]⟩
abbrev S1x8x1408 : Shape := ⟨3, ![1, 8, 1408]⟩
abbrev S8x1408 : Shape := ⟨2, ![8, 1408]⟩
abbrev S520x1408 : Shape := ⟨2, ![520, 1408]⟩
abbrev S1x3x1408 : Shape := ⟨3, ![1, 3, 1408]⟩
abbrev S3x1408 : Shape := ⟨2, ![3, 1408]⟩
abbrev S1x1x1408 : Shape := ⟨3, ![1, 1, 1408]⟩
abbrev S1x1408 : Shape := ⟨2, ![1, 1408]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S3x2x2816, .f32⟩
  | .hbm, ⟨8, _⟩ => ⟨S2x3x2816, .f32⟩
  | .hbm, ⟨9, _⟩ => ⟨S2x1x2816, .f32⟩
  | .hbm, ⟨10, _⟩ => ⟨S2x4096x2816, .f32⟩
  | .hbm, ⟨11, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x3x1408, .f32⟩
  | .local _ .vmem, ⟨7, _⟩ => ⟨S2x3x1408, .f32⟩
  | .local _ .vmem, ⟨8, _⟩ => ⟨S2x1x1408, .f32⟩
  | .local _ .vmem, ⟨9, _⟩ => ⟨S2x1x1408, .f32⟩
  | .local _ .vmem, ⟨10, _⟩ => ⟨S2x512x1408, .f32⟩
  | .local _ .vmem, ⟨11, _⟩ => ⟨S2x512x1408, .f32⟩
  | .local _ .vmem, ⟨12, _⟩ => ⟨S512x1408, .bf16⟩
  | .local _ .vmem, ⟨13, _⟩ => ⟨S512x1408, .bf16⟩
  | .local _ .vmem, ⟨14, _⟩ => ⟨S2x8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel4Ideal.lean ====
variable {F : FTy → Type} [FloatOps F] [Named F]
def κ : String → Option EReal := fun
  | "cubic" => some ((8943 / 200000 : ℝ) : EReal)
  | _ => none
-- ==== Reference4Ideal.lean ====
abbrev S4096x1024 : Shape := ⟨2, ![4096, 1024]⟩
abbrev S1024x5632 : Shape := ⟨2, ![1024, 5632]⟩
abbrev S3x5632 : Shape := ⟨2, ![3, 5632]⟩
abbrev S5632 : Shape := ⟨1, ![5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S4096x5632, .f32⟩
  | .hbm, ⟨5, _⟩ => ⟨S_, .f32⟩
  | .hbm, ⟨6, _⟩ => ⟨S2x5632, .f32⟩
  | .hbm, ⟨7, _⟩ => ⟨S4098x5632, .f32⟩
  | .hbm, ⟨8, _⟩ => ⟨S1x5632, .f32⟩
  | .hbm, ⟨9, _⟩ => ⟨S5632, .f32⟩
  | .hbm, ⟨10, _⟩ => ⟨S4096x5632, .f32⟩
  | .hbm, ⟨11, _⟩ => ⟨S1x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S4096x5632, .f32⟩
  | .hbm, ⟨20, _⟩ => ⟨S1x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S4096x5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S4096x2816, .f32⟩
  | .hbm, ⟨35, _⟩ => ⟨S4096x2816, .f32⟩
  | .hbm, ⟨36, _⟩ => ⟨S4096x2x2816, .f32⟩
  | .hbm, ⟨37, _⟩ => ⟨S2x4096x2816, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S_, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S1x1024, .f32⟩
  | .hbm, ⟨92, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_13 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S1024x1024 : Shape := ⟨2, ![1024, 1024]⟩
abbrev S4096x1024 : Shape := ⟨2, ![4096, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1024x1024 : Shape := ⟨2, ![1024, 1024]⟩
abbrev S4096x1024 : Shape := ⟨2, ![4096, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S4096x1280 : Shape := ⟨2, ![4096, 1280]⟩
abbrev S1024x1280 : Shape := ⟨2, ![1024, 1280]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S4096x1280, .bf16⟩
  | .hbm, ⟨3, _⟩ => ⟨S1024x1280, .bf16⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S4096x1280 : Shape := ⟨2, ![4096, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1280, .f32⟩
  | .hbm, ⟨2, _⟩ => ⟨S_, .f32⟩
  | .hbm, ⟨3, _⟩ => ⟨S1024x1280, .f32⟩
  | .hbm, ⟨4, _⟩ => ⟨S4096x1280, .f32⟩
  | .hbm, ⟨5, _⟩ => ⟨S1280x1024, .f32⟩
  | .hbm, ⟨6, _⟩ => ⟨S1024x1280, .f32⟩
  | .hbm, ⟨7, _⟩ => ⟨S1024x1280, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S1024x1280 : Shape := ⟨2, ![1024, 1280]⟩
abbrev S4096x1280 : Shape := ⟨2, ![4096, 1280]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x1280, .f32⟩
  | .hbm, ⟨1, _⟩ => ⟨S4096x1280, .f32⟩
  | .hbm, ⟨2, _⟩ => ⟨S4096x1024, .f32⟩
  | .hbm, ⟨3, _⟩ => ⟨S4096x1280, .bf16⟩
  | .hbm, ⟨4, _⟩ => ⟨S1024x1280, .bf16⟩
  | .hbm, ⟨5, _⟩ => ⟨S4096x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1280, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S1024x1280 : Shape := ⟨2, ![1024, 1280]⟩
abbrev S4096x1280 : Shape := ⟨2, ![4096, 1280]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S4096x1280, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1280, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel11.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S4096x1024 : Shape := ⟨2, ![4096, 1024]⟩
abbrev S1024x1280 : Shape := ⟨2, ![1024, 1280]⟩
abbrev S1280 : Shape := ⟨1, ![1280]⟩
abbrev S1x1280 : Shape := ⟨2, ![1, 1280]⟩
abbrev S4096x1280 : Shape := ⟨2, ![4096, 1280]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S1280, .f32⟩
  | .hbm, ⟨3, _⟩ => ⟨S1024x1280, .bf16⟩
  | .hbm, ⟨4, _⟩ => ⟨S1x1280, .f32⟩
  | .hbm, ⟨5, _⟩ => ⟨S4096x1280, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1x1280, .f32⟩
  | .local _ .vmem, ⟨4, _⟩ => ⟨S1024x1280, .f32⟩
  | .local _ .vmem, ⟨5, _⟩ => ⟨S1024x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x1024 : Shape := ⟨2, ![4096, 1024]⟩
abbrev S1024x1280 : Shape := ⟨2, ![1024, 1280]⟩
abbrev S1280 : Shape := ⟨1, ![1280]⟩
abbrev S4096x1280 : Shape := ⟨2, ![4096, 1280]⟩
abbrev S1x1280 : Shape := ⟨2, ![1, 1280]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1280, .f32⟩
  | .hbm, ⟨2, _⟩ => ⟨S1280, .f32⟩
  | .hbm, ⟨3, _⟩ => ⟨S4096x1280, .f32⟩
  | .hbm, ⟨4, _⟩ => ⟨S1x1280, .f32⟩
  | .hbm, ⟨5, _⟩ => ⟨S4096x1280, .f32⟩
  | .hbm, ⟨6, _⟩ => ⟨S4096x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel16.lean ====
abbrev S2x4096x1024 : Shape := ⟨3, ![2, 4096, 1024]⟩
abbrev S4096x1024 : Shape := ⟨2, ![4096, 1024]⟩
abbrev S1024 : Shape := ⟨1, ![1024]⟩
abbrev S1x1024 : Shape := ⟨2, ![1, 1024]⟩
abbrev S2x512x1024 : Shape := ⟨3, ![2, 512, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S2x512x1024, .f32⟩
  | .local _ .vmem, ⟨1, _⟩ => ⟨S2x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S2x4096x1024 : Shape := ⟨3, ![2, 4096, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S1x1024, .f32⟩
  | .hbm, ⟨98, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_15 : Ref sig .tc := ⟨.hbm, 74, rfl⟩
abbrev main_v53 : Ref sig .tc := ⟨.hbm, 75, rfl⟩
abbrev main_v54 : Ref sig .tc := ⟨.hbm, 76, rfl⟩
abbrev main_cst_16 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== Kernel17.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Kernel18.lean ====
abbrev S4096x1024 : Shape := ⟨2, ![4096, 1024]⟩
abbrev S4096x256 : Shape := ⟨2, ![4096, 256]⟩
abbrev S4096x1280 : Shape := ⟨2, ![4096, 1280]⟩
abbrev S1x1280 : Shape := ⟨2, ![1, 1280]⟩
abbrev S128x1024 : Shape := ⟨2, ![128, 1024]⟩
abbrev S128x256 : Shape := ⟨2, ![128, 256]⟩
abbrev S128x1280 : Shape := ⟨2, ![128, 1280]⟩
abbrev S1x1024 : Shape := ⟨2, ![1, 1024]⟩
abbrev S1024 : Shape := ⟨1, ![1024]⟩
abbrev S1x256 : Shape := ⟨2, ![1, 256]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1280, .bf16⟩
  | .hbm, ⟨4, _⟩ => ⟨S1x1280, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x1280, .bf16⟩
  | .local _ .vmem, ⟨7, _⟩ => ⟨S128x1280, .bf16⟩
  | .local _ .vmem, ⟨8, _⟩ => ⟨S1x1280, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference18Ideal.lean ====
abbrev S4096x1024 : Shape := ⟨2, ![4096, 1024]⟩
abbrev S4096x256 : Shape := ⟨2, ![4096, 256]⟩
abbrev S3968x256 : Shape := ⟨2, ![3968, 256]⟩
abbrev S_ : Shape := ⟨0, ![]⟩
abbrev S128x256 : Shape := ⟨2, ![128, 256]⟩
abbrev S4096x1280 : Shape := ⟨2, ![4096, 1280]⟩
abbrev S1280 : Shape := ⟨1, ![1280]⟩
abbrev S1x1280 : Shape := ⟨2, ![1, 1280]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S3968x256, .f32⟩
  | .hbm, ⟨4, _⟩ => ⟨S_, .f32⟩
  | .hbm, ⟨5, _⟩ => ⟨S128x256, .f32⟩
  | .hbm, ⟨6, _⟩ => ⟨S4096x256, .f32⟩
  | .hbm, ⟨7, _⟩ => ⟨S4096x256, .f32⟩
  | .hbm, ⟨8, _⟩ => ⟨S4096x1280, .f32⟩
  | .hbm, ⟨9, _⟩ => ⟨S4096x1280, .bf16⟩
  | .hbm, ⟨10, _⟩ => ⟨S_, .f32⟩
  | .hbm, ⟨11, _⟩ => ⟨S1280, .f32⟩
  | .hbm, ⟨12, _⟩ => ⟨S1x1280, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Columns.lean ====
/- The vectors of one column block of the kernel's body, for a block of any width `W`.

   The body cuts its 1408 columns into five blocks of 256 and one of 128 and does the same operations on each. This
   module states those operations once, with the width a variable, and reads each of them at an index; the two widths
   that occur are told apart only inside the proofs of the readings. -/
module

public import proofs.«01_k».proof.KernelIdeal
public import proofs.«01_k».proof.Proof.Gen.KernelIdeal
public import Idealize.ShloMosaic.Lib.Pointwise

@[expose] public section

set_option maxRecDepth 16384

noncomputable section

namespace Cert.Ffn

open Cert.KernelIdeal Cert.KernelIdeal.Gen Idealize.ShloMosaic

/-- A matrix of `n` rows and `W` columns. -/
abbrev M (n W : ℕ) : Shape := ⟨2, ![n, W]⟩
/-- A stack of `a` such matrices. -/
abbrev T (a n W : ℕ) : Shape := ⟨3, ![a, n, W]⟩

/-- The shape relations that the operations on a block of width `W` need. -/
structure Fits (W : ℕ) : Prop where
  width : W = 256 ∨ W = 128
  c16 : (M 16 W).ShapeCasts (M 16 W)
  s16 : (M 16 W).Slices ![0, 0] (M 8 W)
  c512 : (M 512 W).ShapeCasts (M 512 W)
  cat : Shape.Concatenates [M 8 W, M 512 W, M 8 W] (M 528 W) 0
  c8 : (T 1 8 W).ShapeCasts (M 8 W)
  ct512 : (T 1 512 W).ShapeCasts (M 512 W)
  c3 : (T 1 3 W).ShapeCasts (M 3 W)
  c1 : (T 1 1 W).ShapeCasts (M 1 W)
  rot : (M 528 W).Rotates 0 none
  s0 : (M 3 W).Slices ![0, 0] (M 1 W)
  s1 : (M 3 W).Slices ![1, 0] (M 1 W)
  s2 : (M 3 W).Slices ![2, 0] (M 1 W)
  bc : (M 1 W).Broadcasts (M 528 W)
  tile : (M 528 W).Slices ![8, 0] (M 512 W)
  red : (M 512 W).Reduces [0] ⟨1, ![W]⟩
  row : (⟨1, ![W]⟩ : Shape).ShapeCasts (M 1 W)
  up : (M 1 W).ShapeCasts (T 1 1 W)
  cw : (T 1 1024 W).ShapeCasts (M 1024 W)
  uw : (M 1024 W).ShapeCasts (T 1 1024 W)
  wfx : DotDims.WF (M 512 W) (M 1024 W) (M 512 1024) [1] [1] [0] [0] [] []
  wfw : DotDims.WF (M 1024 512) (M 512 W) (M 1024 W) [1] [0] [0] [1] [] []

theorem fits256 : Fits 256 :=
  ⟨.inl rfl, shapeCasts_S16x256_S16x256, slices_S16x256_o0_0_S8x256, shapeCasts_S512x256_S512x256,
   concatenates_S8x256_S512x256_S8x256_S528x256_d0, shapeCasts_S1x8x256_S8x256, shapeCasts_S1x512x256_S512x256,
   shapeCasts_S1x3x256_S3x256, shapeCasts_S1x1x256_S1x256, rotates_S528x256_d0, slices_S3x256_o0_0_S1x256,
   slices_S3x256_o1_0_S1x256, slices_S3x256_o2_0_S1x256, broadcasts_S1x256_S528x256, slices_S528x256_o8_0_S512x256,
   reduces_S512x256_S256, shapeCasts_S256_S1x256, shapeCasts_S1x256_S1x1x256, shapeCasts_S1x1024x256_S1024x256,
   shapeCasts_S1024x256_S1x1024x256, dot_S512x256_S1024x256_S512x1024_1_1_0_0_n_n_wf,
   dot_S1024x512_S512x256_S1024x256_1_0_0_1_n_n_wf⟩

theorem fits128 : Fits 128 :=
  ⟨.inr rfl, shapeCasts_S16x128_S16x128, slices_S16x128_o0_0_S8x128, shapeCasts_S512x128_S512x128,
   concatenates_S8x128_S512x128_S8x128_S528x128_d0, shapeCasts_S1x8x128_S8x128, shapeCasts_S1x512x128_S512x128,
   shapeCasts_S1x3x128_S3x128, shapeCasts_S1x1x128_S1x128, rotates_S528x128_d0, slices_S3x128_o0_0_S1x128,
   slices_S3x128_o1_0_S1x128, slices_S3x128_o2_0_S1x128, broadcasts_S1x128_S528x128, slices_S528x128_o8_0_S512x128,
   reduces_S512x128_S128, shapeCasts_S128_S1x128, shapeCasts_S1x128_S1x1x128, shapeCasts_S1x1024x128_S1024x128,
   shapeCasts_S1024x128_S1x1024x128, dot_S512x128_S1024x128_S512x1024_1_1_0_0_n_n_wf,
   dot_S1024x512_S512x128_S1024x128_1_0_0_1_n_n_wf⟩

variable {W : ℕ} (w : Fits W)

/-- The hidden rows with a halo of eight on each side, the one above zero at the first tile. -/
def extV (first : BitVec 1) (hp : Vec Ideal (T 1 8 W) .f32) (h : Vec Ideal (T 1 512 W) .f32) (hn : Vec Ideal (T 1 8 W) .f32) :
    FVec Ideal (M 528 W) .f32 :=
  concatenate (M 528 W) 0 [⟨M 8 W, Scalar.select first (broadcast (M 8 W) (Scalar.ofBits .f32 0x00000000#32)) (shapeCast (M 8 W) hp w.c8)⟩,
    ⟨M 512 W, shapeCast (M 512 W) h w.ct512⟩, ⟨M 8 W, shapeCast (M 8 W) hn w.c8⟩] w.cat

/-- The cotangent rows likewise, zero above, and zero below at the last tile. -/
def cotV (last : BitVec 1) (dn : Vec Ideal (M 16 W) .bf16) (d : Vec Ideal (M 512 W) .bf16) : FVec Ideal (M 528 W) .f32 :=
  concatenate (M 528 W) 0 [⟨M 8 W, broadcast (M 8 W) (Scalar.ofBits .f32 0x00000000#32)⟩,
    ⟨M 512 W, extf .f32 (shapeCast (M 512 W) d w.c512) bitsLt_bf16_f32⟩,
    ⟨M 8 W, Scalar.select last (broadcast (M 8 W) (Scalar.ofBits .f32 0x00000000#32))
      (extractStridedSlice (M 8 W) ![0, 0] (extf .f32 (shapeCast (M 16 W) dn w.c16) bitsLt_bf16_f32) w.s16)⟩] w.cat

/-- The rows moved down by `k`, around the end. -/
def rollV (k : BitVec 32) (e : FVec Ideal (M 528 W) .f32) : FVec Ideal (M 528 W) .f32 := dynamicRotate 0 k none e w.rot

/-- The convolution of three taps and its bias. -/
def convV (e : FVec Ideal (M 528 W) .f32) (cw : Vec Ideal (T 1 3 W) .f32) (cb : Vec Ideal (T 1 1 W) .f32) : FVec Ideal (M 528 W) .f32 :=
  addf (addf (addf
    (mulf (broadcastTo (M 528 W) (extractStridedSlice (M 1 W) ![0, 0] (shapeCast (M 3 W) cw w.c3) w.s0) w.bc) (rollV w 2#32 e))
    (mulf (broadcastTo (M 528 W) (extractStridedSlice (M 1 W) ![1, 0] (shapeCast (M 3 W) cw w.c3) w.s1) w.bc) (rollV w 1#32 e)))
    (mulf (broadcastTo (M 528 W) (extractStridedSlice (M 1 W) ![2, 0] (shapeCast (M 3 W) cw w.c3) w.s2) w.bc) e))
    (broadcastTo (M 528 W) (shapeCast (M 1 W) cb w.c1) w.bc)

/-- The hyperbolic tangent inside the gate's gelu. -/
def thV (y : FVec Ideal (M 528 W) .f32) : FVec Ideal (M 528 W) .f32 :=
  tanh (mulf (broadcast (M 528 W) (Scalar.ofBits .f32 0x3F4C422A#32))
    (addf y (mulf (broadcast (M 528 W) (Named.named κ "cubic" (φ := .f32) 0x3D372713#32)) (mulf (mulf y y) y))))

/-- The gradient at the gate's pre-activation. -/
def gateV (de y0 y1 : FVec Ideal (M 528 W) .f32) : FVec Ideal (M 528 W) .f32 :=
  mulf (mulf de y1) (addf
    (mulf (broadcast (M 528 W) (Scalar.ofBits .f32 0x3F000000#32)) (addf (broadcast (M 528 W) (Scalar.ofBits .f32 0x3F800000#32)) (thV y0)))
    (mulf (mulf (mulf (broadcast (M 528 W) (Scalar.ofBits .f32 0x3F000000#32)) y0)
        (subf (broadcast (M 528 W) (Scalar.ofBits .f32 0x3F800000#32)) (mulf (thV y0) (thV y0))))
      (mulf (broadcast (M 528 W) (Scalar.ofBits .f32 0x3F4C422A#32))
        (addf (broadcast (M 528 W) (Scalar.ofBits .f32 0x3F800000#32))
          (mulf (mulf (broadcast (M 528 W) (Named.named κ "cubic3" (φ := .f32) 0x3E095D4F#32)) y0) y0)))))

/-- The gradient at the value's pre-activation. -/
def valV (de y0 : FVec Ideal (M 528 W) .f32) : FVec Ideal (M 528 W) .f32 :=
  mulf de (mulf y0 (mulf (broadcast (M 528 W) (Scalar.ofBits .f32 0x3F000000#32))
    (addf (broadcast (M 528 W) (Scalar.ofBits .f32 0x3F800000#32)) (thV y0))))

/-- The gradient at the hidden rows of the tile: the convolution's taps turned around. -/
def hidV (g : FVec Ideal (M 528 W) .f32) (cw : Vec Ideal (T 1 3 W) .f32) : FVec Ideal (M 512 W) .f32 :=
  extractStridedSlice (M 512 W) ![8, 0] (addf (addf
    (mulf (broadcastTo (M 528 W) (extractStridedSlice (M 1 W) ![2, 0] (shapeCast (M 3 W) cw w.c3) w.s2) w.bc) g)
    (mulf (broadcastTo (M 528 W) (extractStridedSlice (M 1 W) ![1, 0] (shapeCast (M 3 W) cw w.c3) w.s1) w.bc) (rollV w 527#32 g)))
    (mulf (broadcastTo (M 528 W) (extractStridedSlice (M 1 W) ![0, 0] (shapeCast (M 3 W) cw w.c3) w.s0) w.bc) (rollV w 526#32 g))) w.tile

/-- The sum of a row vector and the tile's column sums. -/
def accV (a : Vec Ideal (T 1 1 W) .f32) (p : FVec Ideal (M 512 W) .f32) : FVec Ideal (T 1 1 W) .f32 :=
  shapeCast (T 1 1 W) (addf (shapeCast (M 1 W) a w.c1)
    (shapeCast (M 1 W) (multiReduction .add [0] ⟨1, ![W]⟩ p 0x00000000#32 w.red (.inl rfl) rfl) w.row)) w.up

/-- One tap's gradient: what was there and the column sums of the gradient times the tap, over the tile. -/
def tapV (a : Vec Ideal (T 1 1 W) .f32) (g t : FVec Ideal (M 528 W) .f32) : FVec Ideal (T 1 1 W) .f32 :=
  accV w a (mulf (extractStridedSlice (M 512 W) ![8, 0] g w.tile) (extractStridedSlice (M 512 W) ![8, 0] t w.tile))

/-- The bias's gradient likewise. -/
def biasV (a : Vec Ideal (T 1 1 W) .f32) (g : FVec Ideal (M 528 W) .f32) : FVec Ideal (T 1 1 W) .f32 :=
  accV w a (extractStridedSlice (M 512 W) ![8, 0] g w.tile)

/-- The product of a hidden gradient and the weights' columns. -/
def dxV (dh : FVec Ideal (M 512 W) .f32) (wt : Vec Ideal (T 1 1024 W) .bf16) : FVec Ideal (M 512 1024) .f32 :=
  matmul ⟨[1], [1], [0], [0], [], [], w.wfx⟩ none (truncf .bf16 dh bitsLt_bf16_f32) (shapeCast (M 1024 W) wt w.cw : FVec Ideal (M 1024 W) .bf16) (constant (M 512 1024) .f32 0x00000000#32)

/-- The weights' gradient: what was there and the product of the transposed input and the hidden gradient. -/
def dwV (xt : FVec Ideal (M 1024 512) .bf16) (dh : FVec Ideal (M 512 W) .f32) (a : Vec Ideal (T 1 1024 W) .f32) : FVec Ideal (T 1 1024 W) .f32 :=
  shapeCast (T 1 1024 W) (addf (shapeCast (M 1024 W) a w.cw)
    (matmul ⟨[1], [0], [0], [1], [], [], w.wfw⟩ none xt (truncf .bf16 dh bitsLt_bf16_f32) (constant (M 1024 W) .f32 0x00000000#32))) w.uw

/-! ## The same at an index -/

/-- What the kernel's gelu multiplies by: `√(2/π)` as an f32, and one half, as extended reals. -/
abbrev kRoot : EReal := Ideal.ofBits .f32 0x3F4C422A#32
abbrev kHalf : EReal := Ideal.ofBits .f32 0x3F000000#32

/-- The hyperbolic tangent of the gelu at `y`. -/
def thE (y : EReal) : EReal := Ideal.tanh (kRoot * (y + ((8943 / 200000 : ℝ) : EReal) * (y * y * y)))
/-- The gelu at `y` as the kernel computes it. -/
def geluE (y : EReal) : EReal := y * (kHalf * (1 + thE y))
/-- The derivative of the gelu at `y` as the kernel computes it. -/
def dgeluE (y : EReal) : EReal :=
  kHalf * (1 + thE y) + kHalf * y * (1 - thE y * thE y) * (kRoot * (1 + ((26829 / 200000 : ℝ) : EReal) * y * y))

theorem cubic_eq : Named.named (F := Ideal) κ "cubic" (φ := .f32) 0x3D372713#32 = ((8943 / 200000 : ℝ) : EReal) :=
  IdealRules.named_const.ideal_named_scalar _ _ _ _ rfl
theorem cubic3_eq : Named.named (F := Ideal) κ "cubic3" (φ := .f32) 0x3E095D4F#32 = ((26829 / 200000 : ℝ) : EReal) :=
  IdealRules.named_const.ideal_named_scalar _ _ _ _ rfl

theorem extV_apply (first : BitVec 1) (hp : Vec Ideal (T 1 8 W) .f32) (h : Vec Ideal (T 1 512 W) .f32) (hn : Vec Ideal (T 1 8 W) .f32)
    (r : Fin 528) (l : Fin W) :
    extV w first hp h hn (ix2 r l) = if h8 : r.val < 8 then Scalar.select first (0 : EReal) (hp (ix3 0 ⟨r.val, h8⟩ l))
      else if h5 : r.val < 520 then h (ix3 0 ⟨r.val - 8, by omega⟩ l) else hn (ix3 0 ⟨r.val - 520, by omega⟩ l) := by
  obtain rfl | rfl := w.width
  all_goals
    pointwise [extV]
    simp only [Nat.sub_sub, Nat.reduceAdd, show (r.val - 8 < 512) = (r.val < 520) from propext ⟨fun _ => by omega, fun _ => by omega⟩]

theorem cotV_apply (last : BitVec 1) (dn : Vec Ideal (M 16 W) .bf16) (d : Vec Ideal (M 512 W) .bf16) (r : Fin 528) (l : Fin W) :
    cotV w last dn d (ix2 r l) = if h8 : r.val < 8 then (0 : EReal) else if h5 : r.val < 520 then d (ix2 ⟨r.val - 8, by omega⟩ l)
      else Scalar.select last (0 : EReal) (dn (ix2 ⟨r.val - 520, by omega⟩ l)) := by
  obtain rfl | rfl := w.width
  all_goals
    pointwise [cotV]
    simp only [Nat.sub_sub, Nat.reduceAdd, show (r.val - 8 < 512) = (r.val < 520) from propext ⟨fun _ => by omega, fun _ => by omega⟩]

theorem rollV_apply (k : BitVec 32) (n : ℕ) (hk : k.toNat % 528 = n) (e : FVec Ideal (M 528 W) .f32) (r : Fin 528) (l : Fin W) :
    rollV w k e (ix2 r l) = e (ix2 ⟨(r.val + 528 - n) % 528, Nat.mod_lt _ (by decide)⟩ l) := by
  obtain rfl | rfl := w.width
  all_goals
    pointwise [rollV]
    simp only [hk]

theorem convV_apply (e : FVec Ideal (M 528 W) .f32) (cw : Vec Ideal (T 1 3 W) .f32) (cb : Vec Ideal (T 1 1 W) .f32) (r : Fin 528) (l : Fin W) :
    convV w e cw cb (ix2 r l) = cw (ix3 0 0 l) * rollV w 2#32 e (ix2 r l) + cw (ix3 0 1 l) * rollV w 1#32 e (ix2 r l) + cw (ix3 0 2 l) * e (ix2 r l) + cb (ix3 0 0 l) := by
  obtain rfl | rfl := w.width <;> pointwise [convV]

theorem gateV_apply (de y0 y1 : FVec Ideal (M 528 W) .f32) (i : (M 528 W).Idx) :
    gateV de y0 y1 i = de i * y1 i * dgeluE (y0 i) := by
  rw [dgeluE, thE, ← cubic_eq, ← cubic3_eq]
  pointwise [gateV, thV]

theorem valV_apply (de y0 : FVec Ideal (M 528 W) .f32) (i : (M 528 W).Idx) :
    valV de y0 i = de i * geluE (y0 i) := by
  rw [geluE, thE, ← cubic_eq]
  pointwise [valV, thV]

theorem hidV_apply (g : FVec Ideal (M 528 W) .f32) (cw : Vec Ideal (T 1 3 W) .f32) (r : Fin 512) (l : Fin W) :
    hidV w g cw (ix2 r l) = cw (ix3 0 2 l) * g (ix2 ⟨8 + r.val, by omega⟩ l) + cw (ix3 0 1 l) * rollV w 527#32 g (ix2 ⟨8 + r.val, by omega⟩ l) + cw (ix3 0 0 l) * rollV w 526#32 g (ix2 ⟨8 + r.val, by omega⟩ l) := by
  obtain rfl | rfl := w.width <;> pointwise [hidV]

theorem accV_apply (a : Vec Ideal (T 1 1 W) .f32) (p : FVec Ideal (M 512 W) .f32) (l : Fin W) :
    accV w a p (ix3 0 0 l) = a (ix3 0 0 l) + ∑ r : Fin 512, p (ix2 r l) := by
  obtain rfl | rfl := w.width <;> pointwise [accV]

theorem tapV_apply (a : Vec Ideal (T 1 1 W) .f32) (g t : FVec Ideal (M 528 W) .f32) (l : Fin W) :
    tapV w a g t (ix3 0 0 l) = a (ix3 0 0 l) + ∑ r : Fin 512, g (ix2 ⟨8 + r.val, by omega⟩ l) * t (ix2 ⟨8 + r.val, by omega⟩ l) := by
  rw [tapV, accV_apply]
  obtain rfl | rfl := w.width <;> pointwise

theorem biasV_apply (a : Vec Ideal (T 1 1 W) .f32) (g : FVec Ideal (M 528 W) .f32) (l : Fin W) :
    biasV w a g (ix3 0 0 l) = a (ix3 0 0 l) + ∑ r : Fin 512, g (ix2 ⟨8 + r.val, by omega⟩ l) := by
  rw [biasV, accV_apply]
  obtain rfl | rfl := w.width <;> pointwise

theorem dxV_apply (dh : FVec Ideal (M 512 W) .f32) (wt : Vec Ideal (T 1 1024 W) .bf16) (r : Fin 512) (k : Fin 1024) :
    dxV w dh wt (ix2 r k) = ∑ l : Fin W, dh (ix2 r l) * wt (ix3 0 k l) := by
  obtain rfl | rfl := w.width <;> pointwise [dxV]

theorem dwV_apply (xt : FVec Ideal (M 1024 512) .bf16) (dh : FVec Ideal (M 512 W) .f32) (a : Vec Ideal (T 1 1024 W) .f32) (k : Fin 1024) (l : Fin W) :
    dwV w xt dh a (ix3 0 k l) = a (ix3 0 k l) + ∑ r : Fin 512, xt (ix2 k r) * dh (ix2 r l) := by
  obtain rfl | rfl := w.width <;> pointwise [dwV]

end Cert.Ffn

end
-- ==== Proof.Block.lean ====
/- What the kernel's body computes at one point of the grid, from the blocks it reads there.

   `Ins` holds the ten blocks and the two conditions. `ext`, `cot`, `pre`, `grad`, `hid` are the rows of the extended
   tile at a row and a column of the whole 1408; the vectors of a column block at offset `o` are those rows' columns
   `o …`, and the four kinds of stored pieces are blocks of one array each. -/
module

public import proofs.«01_k».proof.Proof.Columns
public import Idealize.ShloMosaic.Lib.Pipeline.ValueKit
public import Idealize.ShloMosaic.Lib.Pipeline.ReadBack
public import Idealize.ShloMosaic.Lib.Ring
public import Idealize.ShloMosaic.Lib.Tactic

@[expose] public section

set_option maxRecDepth 16384

noncomputable section

namespace Cert.Ffn

open Cert.KernelIdeal Cert.KernelIdeal.Gen Idealize.ShloMosaic

/-- The blocks a point reads, and whether it is the first and the last of its rows. -/
structure Ins where
  first : BitVec 1
  last : BitVec 1
  h : Vec Ideal S2x512x1408 .f32
  hp : Vec Ideal S2x8x1408 .f32
  hn : Vec Ideal S2x8x1408 .f32
  d : Vec Ideal S512x1408 .bf16
  dn : Vec Ideal S16x1408 .bf16
  wg : Vec Ideal S1x1024x1408 .bf16
  wv : Vec Ideal S1x1024x1408 .bf16
  x : Vec Ideal S512x1024 .f32
  cw : Vec Ideal S2x3x1408 .f32
  cb : Vec Ideal S2x1x1408 .f32

/-- Row `r` less `k`, around the 528 rows. -/
def back (k : ℕ) (r : Fin 528) : Fin 528 := ⟨(r.val + 528 - k) % 528, Nat.mod_lt _ (by decide)⟩
/-- The tile's row `r` among the 528. -/
def inner (r : Fin 512) : Fin 528 := ⟨8 + r.val, by omega⟩

namespace Ins
variable (b : Ins)

/-- The hidden rows with their halo. -/
def ext (s : Fin 2) (r : Fin 528) (n : Fin 1408) : EReal :=
  if h8 : r.val < 8 then Scalar.select b.first (0 : EReal) (b.hp (ix3 s ⟨r.val, h8⟩ n))
  else if h5 : r.val < 520 then b.h (ix3 s ⟨r.val - 8, by omega⟩ n) else b.hn (ix3 s ⟨r.val - 520, by omega⟩ n)

/-- The cotangent rows with their halo. -/
def cot (r : Fin 528) (n : Fin 1408) : EReal :=
  if h8 : r.val < 8 then (0 : EReal) else if h5 : r.val < 520 then b.d (ix2 ⟨r.val - 8, by omega⟩ n)
  else Scalar.select b.last (0 : EReal) (b.dn (ix2 ⟨r.val - 520, by omega⟩ n))

/-- The convolved rows. -/
def pre (s : Fin 2) (r : Fin 528) (n : Fin 1408) : EReal :=
  b.cw (ix3 s 0 n) * b.ext s (back 2 r) n + b.cw (ix3 s 1 n) * b.ext s (back 1 r) n + b.cw (ix3 s 2 n) * b.ext s r n + b.cb (ix3 s 0 n)

/-- The gradient at the convolved rows, of the gate (`s = 0`) and of the value (`s = 1`). -/
def grad (s : Fin 2) (r : Fin 528) (n : Fin 1408) : EReal :=
  if s.val = 0 then b.cot r n * b.pre 1 r n * dgeluE (b.pre 0 r n) else b.cot r n * geluE (b.pre 0 r n)

/-- The gradient at the tile's hidden rows. -/
def hid (s : Fin 2) (r : Fin 512) (n : Fin 1408) : EReal :=
  b.cw (ix3 s 2 n) * b.grad s (inner r) n + b.cw (ix3 s 1 n) * b.grad s (back 527 (inner r)) n
    + b.cw (ix3 s 0 n) * b.grad s (back 526 (inner r)) n

/-- The taps' gradients after the point, from those before. -/
def tapOut (a : Vec Ideal S2x3x1408 .f32) : Vec Ideal S2x3x1408 .f32 := fun y =>
  a y + ∑ r : Fin 512, b.grad (y 0) (inner r) (y 2) * b.ext (y 0) (back (2 - (y 1).val) (inner r)) (y 2)
/-- The biases' gradients after the point. -/
def biasOut (a : Vec Ideal S2x1x1408 .f32) : Vec Ideal S2x1x1408 .f32 := fun y =>
  a y + ∑ r : Fin 512, b.grad (y 0) (inner r) (y 2)
/-- The weights' gradient after the point. -/
def weightOut (a : Vec Ideal S2x1024x1408 .f32) : Vec Ideal S2x1024x1408 .f32 := fun y =>
  a y + ∑ r : Fin 512, b.x (ix2 r (y 1)) * b.hid (y 0) r (y 2)
/-- One half's part of the input's gradient. -/
def half (wt : Vec Ideal S1x1024x1408 .bf16) (s : Fin 2) (r : Fin 512) (k : Fin 1024) : EReal :=
  ∑ n : Fin 1408, b.hid s r n * wt (ix3 0 k n)

/-! ## The column block at `o` -/

variable {W : ℕ} (w : Fits W)

/-- Column `l` of the block at `o`. -/
def col {o : ℕ} (ho : o + W ≤ 1408) (l : Fin W) : Fin 1408 := ⟨o + l.val, by omega⟩

theorem inb3 {A n s k m W o : ℕ} (hs : s < A) (hk : k + m ≤ n) (ho : o + W ≤ 1408) :
    ∀ a, (![s, k, o] : Fin 3 → ℕ) a + (![1, m, W] : Fin 3 → ℕ) a ≤ (![A, n, 1408] : Fin 3 → ℕ) a := by
  intro a
  fin_cases a
  · show s + 1 ≤ A; omega
  · exact hk
  · exact ho

theorem inb2 {n W o : ℕ} (ho : o + W ≤ 1408) :
    ∀ a, (![0, o] : Fin 2 → ℕ) a + (![n, W] : Fin 2 → ℕ) a ≤ (![n, 1408] : Fin 2 → ℕ) a := by
  intro a
  fin_cases a
  · show 0 + n ≤ n; omega
  · exact ho

/-- The block of `W` columns at `o` of matrix `s` of a stack. -/
def cut3 {A n : ℕ} {φ : EltTy} (x : Vec Ideal ⟨3, ![A, n, 1408]⟩ φ) (s o : ℕ) (hs : s < A) (ho : o + W ≤ 1408) : Vec Ideal (T 1 n W) φ :=
  View.ld x (Rect.unit ![s, 0, o] ![1, n, W] (inb3 hs (Nat.le_of_eq (Nat.zero_add n)) ho))
/-- The block of `W` columns at `o` of row `k` of matrix `s` of a stack. -/
def cut1 {A n : ℕ} {φ : EltTy} (x : Vec Ideal ⟨3, ![A, n, 1408]⟩ φ) (s k o : ℕ) (hs : s < A) (hk : k < n) (ho : o + W ≤ 1408) : Vec Ideal (T 1 1 W) φ :=
  View.ld x (Rect.unit ![s, k, o] ![1, 1, W] (inb3 hs hk ho))
/-- The block of `W` columns at `o` of a matrix. -/
def cut2 {n : ℕ} {φ : EltTy} (x : Vec Ideal ⟨2, ![n, 1408]⟩ φ) (o : ℕ) (ho : o + W ≤ 1408) : Vec Ideal (M n W) φ :=
  View.ld x (Rect.unit ![0, o] ![n, W] (inb2 ho))

/-- The rectangle of `m` rows and `W` columns at row `k` and column `o` of matrix `s`. -/
abbrev rect {A n : ℕ} (s k o m W : ℕ) (h : ∀ a, (![s, k, o] : Fin 3 → ℕ) a + (![1, m, W] : Fin 3 → ℕ) a ≤ (![A, n, 1408] : Fin 3 → ℕ) a) : Rect ⟨3, ![A, n, 1408]⟩ := Rect.unit ![s, k, o] ![1, m, W] h

theorem cut3_apply {A n : ℕ} {φ : EltTy} (x : Vec Ideal ⟨3, ![A, n, 1408]⟩ φ) (s o : ℕ) (hs : s < A) (ho : o + W ≤ 1408) (r : Fin n) (l : Fin W) :
    cut3 x s o hs ho (ix3 0 r l) = x (ix3 ⟨s, hs⟩ r (col ho l)) := by
  refine congrArg x (funext fun a => ?_)
  fin_cases a <;> apply Fin.ext
  · show s + 1 * 0 = s; omega
  · show 0 + 1 * r.val = r.val; omega
  · show o + 1 * l.val = o + l.val; omega

theorem cut1_apply {A n : ℕ} {φ : EltTy} (x : Vec Ideal ⟨3, ![A, n, 1408]⟩ φ) (s k o : ℕ) (hs : s < A) (hk : k < n) (ho : o + W ≤ 1408) (l : Fin W) :
    cut1 x s k o hs hk ho (ix3 0 0 l) = x (ix3 ⟨s, hs⟩ ⟨k, hk⟩ (col ho l)) := by
  refine congrArg x (funext fun a => ?_)
  fin_cases a <;> apply Fin.ext
  · show s + 1 * 0 = s; omega
  · show k + 1 * 0 = k; omega
  · show o + 1 * l.val = o + l.val; omega

theorem cut2_apply {n : ℕ} {φ : EltTy} (x : Vec Ideal ⟨2, ![n, 1408]⟩ φ) (o : ℕ) (ho : o + W ≤ 1408) (r : Fin n) (l : Fin W) :
    cut2 x o ho (ix2 r l) = x (ix2 r (col ho l)) := by
  refine congrArg x (funext fun a => ?_)
  fin_cases a <;> apply Fin.ext
  · show 0 + 1 * r.val = r.val; omega
  · show o + 1 * l.val = o + l.val; omega

variable (o : ℕ) (ho : o + W ≤ 1408) (s : ℕ) (hs : s < 2)

theorem emb_rect {A n m : ℕ} {k : ℕ} (h : ∀ a, (![s, k, o] : Fin 3 → ℕ) a + (![1, m, W] : Fin 3 → ℕ) a ≤ (![A, n, 1408] : Fin 3 → ℕ) a)
    (r : Fin m) (l : Fin W) :
    (rect s k o m W h).emb (ix3 0 r l) = ix3 ⟨s, h 0⟩ ⟨k + r.val, Nat.lt_of_lt_of_le (Nat.add_lt_add_left r.isLt k) (h 1)⟩ (col (h 2) l) := by
  funext a
  fin_cases a <;> apply Fin.ext
  · show s + 1 * 0 = s; omega
  · show k + 1 * r.val = k + r.val; omega
  · show o + 1 * l.val = o + l.val; omega

/-- The block's vectors. -/
def extB : FVec Ideal (M 528 W) .f32 := extV w b.first (cut3 b.hp s o hs ho) (cut3 b.h s o hs ho) (cut3 b.hn s o hs ho)
def cotB : FVec Ideal (M 528 W) .f32 := cotV w b.last (cut2 b.dn o ho) (cut2 b.d o ho)
def preB : FVec Ideal (M 528 W) .f32 := convV w (b.extB w o ho s hs) (cut3 b.cw s o hs ho) (cut3 b.cb s o hs ho)
def gateB : FVec Ideal (M 528 W) .f32 := gateV (b.cotB w o ho) (b.preB w o ho 0 (by decide)) (b.preB w o ho 1 (by decide))
def valB : FVec Ideal (M 528 W) .f32 := valV (b.cotB w o ho) (b.preB w o ho 0 (by decide))
def hidB (g : FVec Ideal (M 528 W) .f32) : FVec Ideal (M 512 W) .f32 := hidV w g (cut3 b.cw s o hs ho)

theorem extB_apply (r : Fin 528) (l : Fin W) : b.extB w o ho s hs (ix2 r l) = b.ext ⟨s, hs⟩ r (col ho l) := by
  rw [extB, extV_apply, ext]
  simp only [cut3_apply]

theorem cotB_apply (r : Fin 528) (l : Fin W) : b.cotB w o ho (ix2 r l) = b.cot r (col ho l) := by
  rw [cotB, cotV_apply, cot]
  simp only [cut2_apply]

theorem preB_apply (r : Fin 528) (l : Fin W) : b.preB w o ho s hs (ix2 r l) = b.pre ⟨s, hs⟩ r (col ho l) := by
  rw [preB, convV_apply, rollV_apply w _ 2 (by decide), rollV_apply w _ 1 (by decide), pre]
  simp only [cut3_apply, extB_apply]
  rfl

theorem gateB_apply (r : Fin 528) (l : Fin W) : b.gateB w o ho (ix2 r l) = b.grad 0 r (col ho l) := by
  rw [gateB, gateV_apply, cotB_apply, preB_apply, preB_apply]
  rfl

theorem valB_apply (r : Fin 528) (l : Fin W) : b.valB w o ho (ix2 r l) = b.grad 1 r (col ho l) := by
  rw [valB, valV_apply, cotB_apply, preB_apply]
  rfl

theorem hidB_apply (g : FVec Ideal (M 528 W) .f32) (hg : ∀ r l, g (ix2 r l) = b.grad ⟨s, hs⟩ r (col ho l)) (r : Fin 512) (l : Fin W) :
    b.hidB w o ho s hs g (ix2 r l) = b.hid ⟨s, hs⟩ r (col ho l) := by
  rw [hidB, hidV_apply, rollV_apply w _ 527 (by decide), rollV_apply w _ 526 (by decide), hid]
  simp only [cut3_apply, hg]
  rfl

/-- An index of a row vector of `W` elements, by its column. -/
theorem row_eq (x : (T 1 1 W).Idx) : x = ix3 0 0 (x 2) := by
  funext a
  fin_cases a
  · exact Subsingleton.elim (α := Fin 1) _ _
  · exact Subsingleton.elim (α := Fin 1) _ _
  · rfl

theorem tap_piece (a : Vec Ideal S2x3x1408 .f32) (k : ℕ) (hk : k < 3) (g t : FVec Ideal (M 528 W) .f32)
    (hg : ∀ r l, g (ix2 r l) = b.grad ⟨s, hs⟩ r (col ho l))
    (ht : ∀ r l, t (ix2 r l) = b.ext ⟨s, hs⟩ (back (2 - k) r) (col ho l))
    (x : (T 1 1 W).Idx) :
    tapV w (cut1 a s k o hs hk ho) g t x = b.tapOut a ((rect s k o 1 W (inb3 hs hk ho)).emb x) := by
  obtain ⟨l, rfl⟩ : ∃ l : Fin W, x = ix3 0 0 l := ⟨x 2, row_eq x⟩
  rw [show (rect s k o 1 W (inb3 hs hk ho)).emb (ix3 0 0 l) = ix3 ⟨s, hs⟩ ⟨k, hk⟩ (col ho l) from emb_rect o s _ 0 l, tapV_apply, cut1_apply]
  simp only [hg, ht]
  rfl

theorem bias_piece (a : Vec Ideal S2x1x1408 .f32) (g : FVec Ideal (M 528 W) .f32)
    (hg : ∀ r l, g (ix2 r l) = b.grad ⟨s, hs⟩ r (col ho l))
    (x : (T 1 1 W).Idx) :
    biasV w (cut1 a s 0 o hs (by decide) ho) g x = b.biasOut a ((rect s 0 o 1 W (inb3 hs (by decide) ho)).emb x) := by
  obtain ⟨l, rfl⟩ : ∃ l : Fin W, x = ix3 0 0 l := ⟨x 2, row_eq x⟩
  rw [show (rect s 0 o 1 W (inb3 hs (by decide) ho)).emb (ix3 0 0 l) = ix3 ⟨s, hs⟩ 0 (col ho l) from emb_rect o s _ 0 l, biasV_apply, cut1_apply]
  simp only [hg]
  rfl

/-- The input's rows as columns. -/
def inT (x : Vec Ideal S512x1024 .f32) : FVec Ideal (M 1024 512) .bf16 :=
  transpose S1024x512 [1, 0] (truncf .bf16 x bitsLt_bf16_f32 : FVec Ideal S512x1024 .bf16) transposes_S512x1024_p1_0_S1024x512

theorem inT_apply (x : Vec Ideal S512x1024 .f32) (k : Fin 1024) (r : Fin 512) : inT x (ix2 k r) = x (ix2 r k) := by
  pointwise [inT]

/-- An index of a stack of one matrix, by its row and column. -/
theorem mat_eq {n : ℕ} (x : (T 1 n W).Idx) : x = ix3 0 (x 1) (x 2) := by
  funext a
  fin_cases a
  · exact Subsingleton.elim (α := Fin 1) _ _
  · rfl
  · rfl

theorem weight_piece (a : Vec Ideal S2x1024x1408 .f32) (dh : FVec Ideal (M 512 W) .f32)
    (hd : ∀ r l, dh (ix2 r l) = b.hid ⟨s, hs⟩ r (col ho l))
    (x : (T 1 1024 W).Idx) :
    dwV w (inT b.x) dh (cut3 a s o hs ho) x = b.weightOut a ((rect s 0 o 1024 W (inb3 hs (by decide) ho)).emb x) := by
  obtain ⟨k, l, rfl⟩ : ∃ (k : Fin 1024) (l : Fin W), x = ix3 0 k l := ⟨x 1, x 2, mat_eq x⟩
  have e : (rect s 0 o 1024 W (inb3 hs (by decide) ho)).emb (ix3 0 k l) = ix3 ⟨s, hs⟩ k (col ho l) := by
    refine (emb_rect o s _ k l).trans ?_
    simp only [Nat.zero_add]
    rfl
  rw [e, dwV_apply, cut3_apply]
  simp only [hd, inT_apply]
  rfl

theorem part_apply (wt : Vec Ideal S1x1024x1408 .bf16) (dh : FVec Ideal (M 512 W) .f32)
    (hd : ∀ r l, dh (ix2 r l) = b.hid ⟨s, hs⟩ r (col ho l)) (r : Fin 512) (k : Fin 1024) :
    dxV w dh (cut3 wt 0 o (by decide) ho) (ix2 r k) = ∑ l : Fin W, b.hid ⟨s, hs⟩ r (col ho l) * wt (ix3 0 k (col ho l)) := by
  rw [dxV_apply]
  simp only [hd, cut3_apply]
  rfl

theorem sum_cols (f : Fin 1408 → EReal) :
    ∑ n : Fin 1408, f n = ∑ l : Fin 256, f (col (o := 0) (by decide) l) + ∑ l : Fin 256, f (col (o := 256) (by decide) l)
      + ∑ l : Fin 256, f (col (o := 512) (by decide) l) + ∑ l : Fin 256, f (col (o := 768) (by decide) l)
      + ∑ l : Fin 256, f (col (o := 1024) (by decide) l) + ∑ l : Fin 128, f (col (o := 1280) (by decide) l) := by
  rw [show ∑ n : Fin 1408, f n = _ from Fin.sum_univ_add (a := 1280) (b := 128) f,
    show ∑ n : Fin 1280, f (Fin.castAdd 128 n) = _ from Fin.sum_univ_add (a := 1024) (b := 256) fun n => f (Fin.castAdd 128 n),
    show ∑ n : Fin 1024, f (Fin.castAdd 128 (Fin.castAdd 256 n)) = _ from
      Fin.sum_univ_add (a := 768) (b := 256) fun n => f (Fin.castAdd 128 (Fin.castAdd 256 n)),
    show ∑ n : Fin 768, f (Fin.castAdd 128 (Fin.castAdd 256 (Fin.castAdd 256 n))) = _ from
      Fin.sum_univ_add (a := 512) (b := 256) fun n => f (Fin.castAdd 128 (Fin.castAdd 256 (Fin.castAdd 256 n))),
    show ∑ n : Fin 512, f (Fin.castAdd 128 (Fin.castAdd 256 (Fin.castAdd 256 (Fin.castAdd 256 n)))) = _ from
      Fin.sum_univ_add (a := 256) (b := 256) fun n => f (Fin.castAdd 128 (Fin.castAdd 256 (Fin.castAdd 256 (Fin.castAdd 256 n))))]
  have e0 : ∀ l : Fin 256, col (o := 0) (by decide) l = (⟨l.val, by omega⟩ : Fin 1408) := fun l => Fin.ext (Nat.zero_add _)
  rw [Finset.sum_congr rfl fun l _ => congrArg f (e0 l)]
  rfl

/-- The input's gradient at the point. -/
def inputOut : Vec Ideal S1x512x1024 .f32 := fun y => b.half b.wg 0 (y 1) (y 2) + b.half b.wv 1 (y 1) (y 2)

/-- The gate's and the value's products of the column block. -/
def gatePart : FVec Ideal (M 512 1024) .f32 := dxV w (b.hidB w o ho 0 (by decide) (b.gateB w o ho)) (cut3 b.wg 0 o (by decide) ho)
def valPart : FVec Ideal (M 512 1024) .f32 := dxV w (b.hidB w o ho 1 (by decide) (b.valB w o ho)) (cut3 b.wv 0 o (by decide) ho)

/-- The twelve products, added in the order of the body. -/
def partsV : FVec Ideal (M 512 1024) .f32 :=
  addf (addf (addf (addf (addf (addf (addf (addf (addf (addf (addf
    (b.gatePart fits256 0 (by decide)) (b.valPart fits256 0 (by decide)))
    (b.gatePart fits256 256 (by decide))) (b.valPart fits256 256 (by decide)))
    (b.gatePart fits256 512 (by decide))) (b.valPart fits256 512 (by decide)))
    (b.gatePart fits256 768 (by decide))) (b.valPart fits256 768 (by decide)))
    (b.gatePart fits256 1024 (by decide))) (b.valPart fits256 1024 (by decide)))
    (b.gatePart fits128 1280 (by decide))) (b.valPart fits128 1280 (by decide))

theorem gatePart_apply (r : Fin 512) (k : Fin 1024) :
    b.gatePart w o ho (ix2 r k) = ∑ l : Fin W, b.hid 0 r (col ho l) * b.wg (ix3 0 k (col ho l)) :=
  b.part_apply w o ho 0 (by decide) b.wg _ (fun r l => b.hidB_apply w o ho 0 (by decide) _ (fun r l => b.gateB_apply w o ho r l) r l) r k

theorem valPart_apply (r : Fin 512) (k : Fin 1024) :
    b.valPart w o ho (ix2 r k) = ∑ l : Fin W, b.hid 1 r (col ho l) * b.wv (ix3 0 k (col ho l)) :=
  b.part_apply w o ho 1 (by decide) b.wv _ (fun r l => b.hidB_apply w o ho 1 (by decide) _ (fun r l => b.valB_apply w o ho r l) r l) r k

theorem partsV_apply (r : Fin 512) (k : Fin 1024) :
    b.partsV (ix2 r k) = b.half b.wg 0 r k + b.half b.wv 1 r k := by
  have e : b.partsV (ix2 r k) =
      (((((((((((b.gatePart fits256 0 (by decide) (ix2 r k) + b.valPart fits256 0 (by decide) (ix2 r k))
      + b.gatePart fits256 256 (by decide) (ix2 r k)) + b.valPart fits256 256 (by decide) (ix2 r k))
      + b.gatePart fits256 512 (by decide) (ix2 r k)) + b.valPart fits256 512 (by decide) (ix2 r k))
      + b.gatePart fits256 768 (by decide) (ix2 r k)) + b.valPart fits256 768 (by decide) (ix2 r k))
      + b.gatePart fits256 1024 (by decide) (ix2 r k)) + b.valPart fits256 1024 (by decide) (ix2 r k))
      + b.gatePart fits128 1280 (by decide) (ix2 r k)) + b.valPart fits128 1280 (by decide) (ix2 r k) : EReal) := rfl
  rw [e, half, half, sum_cols, sum_cols]
  simp only [gatePart_apply, valPart_apply]
  abel

theorem input_piece (x y : S1x512x1024.Idx) (h : y = x) :
    shapeCast S1x512x1024 (b.partsV : FVec Ideal S512x1024 .f32) shapeCasts_S512x1024_S1x512x1024 x = b.inputOut y := by
  subst h
  obtain ⟨r, k, rfl⟩ : ∃ (r : Fin 512) (k : Fin 1024), y = ix3 0 r k := ⟨y 1, y 2, by
    funext a
    fin_cases a
    · exact Subsingleton.elim (α := Fin 1) _ _
    · rfl
    · rfl⟩
  have e : shapeCast S1x512x1024 (b.partsV : FVec Ideal S512x1024 .f32) shapeCasts_S512x1024_S1x512x1024 (ix3 0 r k) = b.partsV (ix2 r k) := by
    generalize b.partsV = p
    pointwise
  rw [e, partsV_apply]
  rfl

/-! ## The pieces a point stores

A point stores, for each column block in turn, the gate's pieces and then the value's; the lists have the last first. -/

/-- A piece of a stack of matrices. -/
abbrev Pieces (A n : ℕ) : Type := List (View.Piece (Elt Ideal) ⟨3, ![A, n, 1408]⟩ .f32)

def tapBlock (a : Vec Ideal S2x3x1408 .f32) : Pieces 2 3 :=
  [⟨rect 1 2 o 1 W (inb3 (by decide) (by decide) ho), tapV w (cut1 a 1 2 o (by decide) (by decide) ho) (b.valB w o ho) (b.extB w o ho 1 (by decide))⟩,
   ⟨rect 1 1 o 1 W (inb3 (by decide) (by decide) ho), tapV w (cut1 a 1 1 o (by decide) (by decide) ho) (b.valB w o ho) (rollV w 1#32 (b.extB w o ho 1 (by decide)))⟩,
   ⟨rect 1 0 o 1 W (inb3 (by decide) (by decide) ho), tapV w (cut1 a 1 0 o (by decide) (by decide) ho) (b.valB w o ho) (rollV w 2#32 (b.extB w o ho 1 (by decide)))⟩,
   ⟨rect 0 2 o 1 W (inb3 (by decide) (by decide) ho), tapV w (cut1 a 0 2 o (by decide) (by decide) ho) (b.gateB w o ho) (b.extB w o ho 0 (by decide))⟩,
   ⟨rect 0 1 o 1 W (inb3 (by decide) (by decide) ho), tapV w (cut1 a 0 1 o (by decide) (by decide) ho) (b.gateB w o ho) (rollV w 1#32 (b.extB w o ho 0 (by decide)))⟩,
   ⟨rect 0 0 o 1 W (inb3 (by decide) (by decide) ho), tapV w (cut1 a 0 0 o (by decide) (by decide) ho) (b.gateB w o ho) (rollV w 2#32 (b.extB w o ho 0 (by decide)))⟩]

def biasBlock (a : Vec Ideal S2x1x1408 .f32) : Pieces 2 1 :=
  [⟨rect 1 0 o 1 W (inb3 (by decide) (by decide) ho), biasV w (cut1 a 1 0 o (by decide) (by decide) ho) (b.valB w o ho)⟩,
   ⟨rect 0 0 o 1 W (inb3 (by decide) (by decide) ho), biasV w (cut1 a 0 0 o (by decide) (by decide) ho) (b.gateB w o ho)⟩]

def weightBlock (a : Vec Ideal S2x1024x1408 .f32) : Pieces 2 1024 :=
  [⟨rect 1 0 o 1024 W (inb3 (by decide) (by decide) ho), dwV w (inT b.x) (b.hidB w o ho 1 (by decide) (b.valB w o ho)) (cut3 a 1 o (by decide) ho)⟩,
   ⟨rect 0 0 o 1024 W (inb3 (by decide) (by decide) ho), dwV w (inT b.x) (b.hidB w o ho 0 (by decide) (b.gateB w o ho)) (cut3 a 0 o (by decide) ho)⟩]

/-- The six column blocks' lists, the last first. -/
def blocks {A n : ℕ} (f : (W : ℕ) → Fits W → (o : ℕ) → o + W ≤ 1408 → Pieces A n) : Pieces A n :=
  f 128 fits128 1280 (by decide) ++ (f 256 fits256 1024 (by decide) ++ (f 256 fits256 768 (by decide) ++
    (f 256 fits256 512 (by decide) ++ (f 256 fits256 256 (by decide) ++ f 256 fits256 0 (by decide)))))

def tapPieces (a : Vec Ideal S2x3x1408 .f32) : Pieces 2 3 := blocks fun _ w o ho => b.tapBlock w o ho a
def biasPieces (a : Vec Ideal S2x1x1408 .f32) : Pieces 2 1 := blocks fun _ w o ho => b.biasBlock w o ho a
def weightPieces (a : Vec Ideal S2x1024x1408 .f32) : Pieces 2 1024 := blocks fun _ w o ho => b.weightBlock w o ho a

theorem piecesOf_append {A n : ℕ} {G : (⟨3, ![A, n, 1408]⟩ : Shape).Idx → EReal} : ∀ {L L' : Pieces A n},
    View.PiecesOf (Val := Elt Ideal) (e := .f32) G L → View.PiecesOf (Val := Elt Ideal) (e := .f32) G L' → View.PiecesOf (Val := Elt Ideal) (e := .f32) G (L ++ L')
  | [], _, _, h => h
  | _ :: _, _, h, h' => ⟨h.1, piecesOf_append h.2 h'⟩

theorem blocks_of {A n : ℕ} (G : (⟨3, ![A, n, 1408]⟩ : Shape).Idx → EReal) (f : (W : ℕ) → Fits W → (o : ℕ) → o + W ≤ 1408 → Pieces A n)
    (h : ∀ W (w : Fits W) o ho, View.PiecesOf (Val := Elt Ideal) (e := .f32) G (f W w o ho)) :
    View.PiecesOf (Val := Elt Ideal) (e := .f32) G (blocks f) :=
  piecesOf_append (h ..) (piecesOf_append (h ..) (piecesOf_append (h ..) (piecesOf_append (h ..) (piecesOf_append (h ..) (h ..)))))

theorem tapPieces_of (a : Vec Ideal S2x3x1408 .f32) : View.PiecesOf (b.tapOut a) (b.tapPieces a) :=
  blocks_of _ _ fun _ w o ho => ⟨
    fun x => b.tap_piece w o ho 1 (by decide) a 2 (by decide) _ _ (fun r l => b.valB_apply w o ho r l) (fun r l => (b.extB_apply w o ho 1 (by decide) r l).trans (congrFun (congrArg _ (Fin.ext (by show r.val = (r.val + 528 - 0) % 528; omega))) _)) x,
    fun x => b.tap_piece w o ho 1 (by decide) a 1 (by decide) _ _ (fun r l => b.valB_apply w o ho r l) (fun r l => (rollV_apply w 1#32 1 (by decide) _ r l).trans (b.extB_apply w o ho 1 (by decide) _ l)) x,
    fun x => b.tap_piece w o ho 1 (by decide) a 0 (by decide) _ _ (fun r l => b.valB_apply w o ho r l) (fun r l => (rollV_apply w 2#32 2 (by decide) _ r l).trans (b.extB_apply w o ho 1 (by decide) _ l)) x,
    fun x => b.tap_piece w o ho 0 (by decide) a 2 (by decide) _ _ (fun r l => b.gateB_apply w o ho r l) (fun r l => (b.extB_apply w o ho 0 (by decide) r l).trans (congrFun (congrArg _ (Fin.ext (by show r.val = (r.val + 528 - 0) % 528; omega))) _)) x,
    fun x => b.tap_piece w o ho 0 (by decide) a 1 (by decide) _ _ (fun r l => b.gateB_apply w o ho r l) (fun r l => (rollV_apply w 1#32 1 (by decide) _ r l).trans (b.extB_apply w o ho 0 (by decide) _ l)) x,
    fun x => b.tap_piece w o ho 0 (by decide) a 0 (by decide) _ _ (fun r l => b.gateB_apply w o ho r l) (fun r l => (rollV_apply w 2#32 2 (by decide) _ r l).trans (b.extB_apply w o ho 0 (by decide) _ l)) x,
    trivial⟩

theorem biasPieces_of (a : Vec Ideal S2x1x1408 .f32) : View.PiecesOf (b.biasOut a) (b.biasPieces a) :=
  blocks_of _ _ fun _ w o ho => ⟨
    fun x => b.bias_piece w o ho 1 (by decide) a _ (fun r l => b.valB_apply w o ho r l) x,
    fun x => b.bias_piece w o ho 0 (by decide) a _ (fun r l => b.gateB_apply w o ho r l) x, trivial⟩

theorem weightPieces_of (a : Vec Ideal S2x1024x1408 .f32) : View.PiecesOf (b.weightOut a) (b.weightPieces a) :=
  blocks_of _ _ fun _ w o ho => ⟨
    fun x => b.weight_piece w o ho 1 (by decide) a _ (fun r l => b.hidB_apply w o ho 1 (by decide) _ (fun r l => b.valB_apply w o ho r l) r l) x,
    fun x => b.weight_piece w o ho 0 (by decide) a _ (fun r l => b.hidB_apply w o ho 0 (by decide) _ (fun r l => b.gateB_apply w o ho r l) r l) x, trivial⟩

/-- The pieces over anything earlier leave the whole array. -/
theorem tapPieces_canon (a : Vec Ideal S2x3x1408 .f32) (L : Pieces 2 3) (y : S2x3x1408.Idx) :
    View.canon (b.tapPieces a ++ L) y = b.tapOut a y :=
  View.canon_append_of_piecesOf _ L _ (b.tapPieces_of a) y (View.cover_of_tiledBy (b.tapPieces a) ![1, 1, 128] (by sl_kernel_rfl) y)
theorem biasPieces_canon (a : Vec Ideal S2x1x1408 .f32) (L : Pieces 2 1) (y : S2x1x1408.Idx) :
    View.canon (b.biasPieces a ++ L) y = b.biasOut a y :=
  View.canon_append_of_piecesOf _ L _ (b.biasPieces_of a) y (View.cover_of_tiledBy (b.biasPieces a) ![1, 1, 128] (by sl_kernel_rfl) y)
theorem weightPieces_canon (a : Vec Ideal S2x1024x1408 .f32) (L : Pieces 2 1024) (y : S2x1024x1408.Idx) :
    View.canon (b.weightPieces a ++ L) y = b.weightOut a y :=
  View.canon_append_of_piecesOf _ L _ (b.weightPieces_of a) y (View.cover_of_tiledBy (b.weightPieces a) ![1, 1024, 128] (by sl_kernel_rfl) y)

end Ins
end Cert.Ffn

end
-- ==== Proof.Points.lean ====
/- What each of the output blocks and the scratch hold after a point of the grid, in terms of `Ins` at that point. -/
module

public import proofs.«01_k».proof.Proof.Gen.KernelIdeal.Frame
public import proofs.«01_k».proof.Proof.Block

@[expose] public section

set_option maxRecDepth 16384
set_option maxHeartbeats 1000000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ)

/-- The blocks and conditions of point `t`. -/
def insAt (c : Dev nD) (t : Fin cfg0.N) : Ins :=
  ⟨Scalar.cmpi .eq (BitVec.ofNat 32 (grid0.coords t 1).val) 0#32, Scalar.cmpi .eq (BitVec.ofNat 32 (grid0.coords t 1).val) 7#32,
   iblk m c 0 t, iblk m c 1 t, iblk m c 2 t, iblk m c 3 t, iblk m c 4 t, iblk m c 5 t, iblk m c 6 t, iblk m c 7 t, iblk m c 8 t, iblk m c 9 t⟩

/-- A point's predecessor is a point. -/
theorem prev_lt (t : Fin cfg0.N) : t.val - 1 < cfg0.N := Nat.lt_of_le_of_lt (Nat.sub_le ..) t.isLt

theorem tap_A (c : Dev nD) (t : Fin cfg0.N) (h0 : t.val % 8 = 0) (h1 : ¬t.val % 8 = 7) :
    (outsAt0 m c t.val t.isLt).2.2.1 = (insAt m c t).tapOut (k0_pay4 (F := Ideal)) := by
  funext y
  rw [outsAt0_A m c t h0 h1]
  dsimp only
  frame_open
  simp (disch := decide) only [↓ View.readCov_skip, ↓ View.readCov_cons_toLoadRect, ↓ View.readCov_fill]
  frame_out
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.tapPieces_canon _ (k0_pay4 (F := Ideal)) [⟨Rect.unit ![0, 0, 0] ![2, 3, 1408] inb_S2x3x1408_S2x3x1408_0_0_0, k0_pay4 (F := Ideal)⟩] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]

theorem bias_A (c : Dev nD) (t : Fin cfg0.N) (h0 : t.val % 8 = 0) (h1 : ¬t.val % 8 = 7) :
    (outsAt0 m c t.val t.isLt).2.2.2.1 = (insAt m c t).biasOut (k0_pay5 (F := Ideal)) := by
  funext y
  rw [outsAt0_A m c t h0 h1]
  dsimp only
  frame_open
  simp (disch := decide) only [↓ View.readCov_skip, ↓ View.readCov_cons_toLoadRect, ↓ View.readCov_fill]
  frame_out
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.biasPieces_canon _ (k0_pay5 (F := Ideal)) [⟨Rect.unit ![0, 0, 0] ![2, 1, 1408] inb_S2x1x1408_S2x1x1408_0_0_0, k0_pay5 (F := Ideal)⟩] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]

theorem weight_A (c : Dev nD) (t : Fin cfg0.N) (h0 : t.val % 8 = 0) (h1 : ¬t.val % 8 = 7) :
    (outsAt0 m c t.val t.isLt).2.2.2.2 = (insAt m c t).weightOut (k0_pay3 (F := Ideal)) := by
  funext y
  rw [outsAt0_A m c t h0 h1]
  dsimp only
  frame_open
  simp (disch := decide) only [↓ View.readCov_skip, ↓ View.readCov_cons_toLoadRect, ↓ View.readCov_fill]
  frame_out
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.weightPieces_canon _ (k0_pay3 (F := Ideal)) [⟨Rect.unit ![0, 0, 0] ![2, 1024, 1408] inb_S2x1024x1408_S2x1024x1408_0_0_0, k0_pay3 (F := Ideal)⟩] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]
  rfl

theorem input_A (c : Dev nD) (t : Fin cfg0.N) (h0 : t.val % 8 = 0) (h1 : ¬t.val % 8 = 7) :
    (outsAt0 m c t.val t.isLt).1 = (insAt m c t).inputOut := by
  funext y
  rw [outsAt0_A m c t h0 h1]
  dsimp only
  frame_open
  simp (disch := decide) only [↓ View.readCov_skip, ↓ View.readCov_cons_toLoadRect, ↓ View.readCov_fill]
  frame_out
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.input_piece _ y y rfl)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]
  rfl

theorem tap_B (c : Dev nD) (t : Fin cfg0.N) (h0 : ¬t.val % 8 = 0) (h1 : ¬t.val % 8 = 7) :
    (outsAt0 m c t.val t.isLt).2.2.1 = (insAt m c t).tapOut (outsAt0 m c (t.val - 1) (prev_lt t)).2.2.1 := by
  funext y
  rw [outsAt0_B m c t h0 h1]
  dsimp only
  frame_open
  simp (disch := decide) only [↓ View.readCov_skip, ↓ View.readCov_cons_toLoadRect, ↓ View.readCov_fill]
  frame_out
  generalize (outsAt0 m c (t.val - 1) _).2.2.1 = acc
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.tapPieces_canon _ acc [] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]

theorem bias_B (c : Dev nD) (t : Fin cfg0.N) (h0 : ¬t.val % 8 = 0) (h1 : ¬t.val % 8 = 7) :
    (outsAt0 m c t.val t.isLt).2.2.2.1 = (insAt m c t).biasOut (outsAt0 m c (t.val - 1) (prev_lt t)).2.2.2.1 := by
  funext y
  rw [outsAt0_B m c t h0 h1]
  dsimp only
  frame_open
  simp (disch := decide) only [↓ View.readCov_skip, ↓ View.readCov_cons_toLoadRect, ↓ View.readCov_fill]
  frame_out
  generalize (outsAt0 m c (t.val - 1) _).2.2.2.1 = acc
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.biasPieces_canon _ acc [] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]

theorem weight_B (c : Dev nD) (t : Fin cfg0.N) (h0 : ¬t.val % 8 = 0) (h1 : ¬t.val % 8 = 7) :
    (outsAt0 m c t.val t.isLt).2.2.2.2 = (insAt m c t).weightOut (outsAt0 m c (t.val - 1) (prev_lt t)).2.2.2.2 := by
  funext y
  rw [outsAt0_B m c t h0 h1]
  dsimp only
  frame_open
  simp (disch := decide) only [↓ View.readCov_skip, ↓ View.readCov_cons_toLoadRect, ↓ View.readCov_fill]
  frame_out
  simp only [read_unread_whole]
  generalize (outsAt0 m c (t.val - 1) _).2.2.2.2 = acc
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.weightPieces_canon _ acc [] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]
  rfl

theorem input_B (c : Dev nD) (t : Fin cfg0.N) (h0 : ¬t.val % 8 = 0) (h1 : ¬t.val % 8 = 7) :
    (outsAt0 m c t.val t.isLt).1 = (insAt m c t).inputOut := by
  funext y
  rw [outsAt0_B m c t h0 h1]
  dsimp only
  frame_open
  simp (disch := decide) only [↓ View.readCov_skip, ↓ View.readCov_cons_toLoadRect, ↓ View.readCov_fill]
  frame_out
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.input_piece _ y y rfl)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]
  rfl

theorem tap_C (c : Dev nD) (t : Fin cfg0.N) (h0 : ¬t.val % 8 = 0) (h1 : t.val % 8 = 7) :
    (outsAt0 m c t.val t.isLt).2.2.1 = (insAt m c t).tapOut (outsAt0 m c (t.val - 1) (prev_lt t)).2.2.1 := by
  funext y
  rw [outsAt0_C m c t h0 h1]
  dsimp only
  frame_open
  simp (disch := decide) only [↓ View.readCov_skip, ↓ View.readCov_cons_toLoadRect, ↓ View.readCov_fill]
  frame_out
  generalize (outsAt0 m c (t.val - 1) _).2.2.1 = acc
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.tapPieces_canon _ acc [] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]

theorem bias_C (c : Dev nD) (t : Fin cfg0.N) (h0 : ¬t.val % 8 = 0) (h1 : t.val % 8 = 7) :
    (outsAt0 m c t.val t.isLt).2.2.2.1 = (insAt m c t).biasOut (outsAt0 m c (t.val - 1) (prev_lt t)).2.2.2.1 := by
  funext y
  rw [outsAt0_C m c t h0 h1]
  dsimp only
  frame_open
  simp (disch := decide) only [↓ View.readCov_skip, ↓ View.readCov_cons_toLoadRect, ↓ View.readCov_fill]
  frame_out
  generalize (outsAt0 m c (t.val - 1) _).2.2.2.1 = acc
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.biasPieces_canon _ acc [] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]

theorem weight_C (c : Dev nD) (t : Fin cfg0.N) (h0 : ¬t.val % 8 = 0) (h1 : t.val % 8 = 7) :
    (outsAt0 m c t.val t.isLt).2.2.2.2 = (insAt m c t).weightOut (outsAt0 m c (t.val - 1) (prev_lt t)).2.2.2.2 := by
  funext y
  rw [outsAt0_C m c t h0 h1]
  dsimp only
  frame_open
  simp (disch := decide) only [↓ View.readCov_skip, ↓ View.readCov_cons_toLoadRect, ↓ View.readCov_fill]
  frame_out
  simp only [read_unread_whole]
  generalize (outsAt0 m c (t.val - 1) _).2.2.2.2 = acc
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.weightPieces_canon _ acc [] y)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]
  rfl

theorem input_C (c : Dev nD) (t : Fin cfg0.N) (h0 : ¬t.val % 8 = 0) (h1 : t.val % 8 = 7) :
    (outsAt0 m c t.val t.isLt).1 = (insAt m c t).inputOut := by
  funext y
  rw [outsAt0_C m c t h0 h1]
  dsimp only
  frame_open
  simp (disch := decide) only [↓ View.readCov_skip, ↓ View.readCov_cons_toLoadRect, ↓ View.readCov_fill]
  frame_out
  unfold insAt
  generalize grid0.coords t = i
  generalize iblk m c 0 t = x0, iblk m c 1 t = x1, iblk m c 2 t = x2,
    iblk m c 3 t = x3, iblk m c 4 t = x4, iblk m c 5 t = x5, iblk m c 6 t = x6, iblk m c 7 t = x7, iblk m c 8 t = x8,
    iblk m c 9 t = x9
  refine Eq.trans ?_ (Ins.input_piece _ y y rfl)
  dsimp only [Ins.partsV, Ins.gatePart, Ins.valPart, Ins.biasPieces, Ins.tapPieces, Ins.weightPieces, Ins.blocks,
    Ins.biasBlock, Ins.tapBlock, Ins.weightBlock, Ins.gateB, Ins.valB, Ins.hidB, Ins.preB, Ins.cotB, Ins.extB,
    Ins.cut1, Ins.cut2, Ins.cut3, gateV, valV, hidV, thV, convV, extV, cotV, rollV, tapV, biasV, accV, dxV, dwV,
    Ins.inT, List.cons_append, List.nil_append, List.append_nil]
  dsimp only [k0_pay1, k0_pay6, k0_pay7, k0_pay8, k0_pay9, k0_pay10, k0_pay11, k0_pay12, k0_pay13, k0_pay14, k0_pay15,
    k0_pay16, k0_pay17, k0_pay18, k0_pay19, k0_pay20, k0_pay21, k0_pay22, k0_pay23, k0_pay24, k0_pay25, k0_pay26,
    k0_pay27, k0_pay28, k0_pay29, k0_pay30, k0_pay31, k0_pay32, k0_pay33, k0_pay34, k0_pay35, k0_pay36, k0_pay37,
    k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112, k0_pay113,
    k0_pay114, k0_pay115, k0_pay116, k0_pay117, k0_pay118, k0_pay119, k0_pay120, k0_pay121, k0_pay122, k0_pay123,
    k0_pay124, k0_pay125, k0_pay126, k0_pay127, k0_pay128, k0_pay129, k0_pay130, k0_pay131, k0_pay132, k0_pay133,
    k0_pay134, k0_pay135, k0_pay136, k0_pay137, k0_pay138, k0_pay139, k0_pay140, k0_pay141, k0_pay142, k0_pay143,
    k0_pay144, k0_pay145, k0_pay146, k0_pay147, k0_pay148, k0_pay149, k0_pay150, k0_pay151, k0_pay152, k0_pay153,
    k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173,
    k0_pay174, k0_pay175, k0_pay176, k0_pay177, k0_pay178, k0_pay179, k0_pay180, k0_pay181, k0_pay182, k0_pay183,
    k0_pay184, k0_pay185, k0_pay186, k0_pay187, k0_pay188, k0_pay189, k0_pay190, k0_pay191, k0_pay192, k0_pay193,
    k0_pay194, k0_pay195, k0_pay196, k0_pay197, k0_pay198, k0_pay199, k0_pay200, k0_pay201, k0_pay202, k0_pay203,
    k0_pay204, k0_pay205, k0_pay206, k0_pay207, k0_pay208, k0_pay209, k0_pay210, k0_pay211, k0_pay212, k0_pay213,
    k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233,
    k0_pay234, k0_pay235, k0_pay236, k0_pay237, k0_pay238, k0_pay239, k0_pay240, k0_pay241, k0_pay242, k0_pay243,
    k0_pay244]
  rfl

/-- The last point of a column half stores the scratch. -/
theorem out_C (c : Dev nD) (t : Fin cfg0.N) (h0 : ¬t.val % 8 = 0) (h1 : t.val % 8 = 7) (y : S2x1x1024x1408.Idx) :
    (outsAt0 m c t.val t.isLt).2.1 y = (outsAt0 m c t.val t.isLt).2.2.2.2 (ix3 (y 0) (y 2) (y 3)) := by
  rw [weight_C m c t h0 h1, outsAt0_C m c t h0 h1]
  dsimp only
  frame_open
  simp (disch := decide) only [↓ View.readCov_skip, ↓ View.readCov_cons_toLoadRect, ↓ View.readCov_fill]
  frame_out
  simp only [read_unread_whole]
  generalize (outsAt0 m c (t.val - 1) _).2.2.2.2 = acc
  rw [View.readCov_eq_canon']
  refine (congrFun (congrArg k0_pay2 (funext fun j => ?_ : _ = (insAt m c t).weightOut acc)) y).trans ?_
  · refine (congrArg (View.canon _) (?_ : _ = j)).trans (Eq.trans ?_ ((insAt m c t).weightPieces_canon acc [] j))
    · funext a
      fin_cases a <;> exact Fin.ext (by show 0 + 1 * _ = _; omega)
    · unfold insAt
      generalize grid0.coords t = i
      generalize iblk m c 0 t = x0, iblk m c 1 t = x1, iblk m c 2 t = x2,
        iblk m c 3 t = x3, iblk m c 4 t = x4, iblk m c 5 t = x5, iblk m c 6 t = x6, iblk m c 7 t = x7, iblk m c 8 t = x8,
        iblk m c 9 t = x9
      dsimp only [Ins.partsV, Ins.gatePart, Ins.valPart, Ins.biasPieces, Ins.tapPieces, Ins.weightPieces, Ins.blocks,
        Ins.biasBlock, Ins.tapBlock, Ins.weightBlock, Ins.gateB, Ins.valB, Ins.hidB, Ins.preB, Ins.cotB, Ins.extB,
        Ins.cut1, Ins.cut2, Ins.cut3, gateV, valV, hidV, thV, convV, extV, cotV, rollV, tapV, biasV, accV, dxV, dwV,
        Ins.inT, List.cons_append, List.nil_append, List.append_nil]
      dsimp only [k0_pay1, k0_pay6, k0_pay7, k0_pay8, k0_pay9, k0_pay10, k0_pay11, k0_pay12, k0_pay13, k0_pay14, k0_pay15,
        k0_pay16, k0_pay17, k0_pay18, k0_pay19, k0_pay20, k0_pay21, k0_pay22, k0_pay23, k0_pay24, k0_pay25, k0_pay26,
        k0_pay27, k0_pay28, k0_pay29, k0_pay30, k0_pay31, k0_pay32, k0_pay33, k0_pay34, k0_pay35, k0_pay36, k0_pay37,
        k0_pay38, k0_pay39, k0_pay40, k0_pay41, k0_pay42, k0_pay43, k0_pay44, k0_pay45, k0_pay46, k0_pay47, k0_pay48,
        k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81,
        k0_pay82, k0_pay83, k0_pay84, k0_pay85, k0_pay86, k0_pay87, k0_pay88, k0_pay89, k0_pay90, k0_pay91, k0_pay92,
        k0_pay93, k0_pay94, k0_pay95, k0_pay96, k0_pay97, k0_pay98, k0_pay99, k0_pay100, k0_pay101, k0_pay102, k0_pay103,
        k0_pay104, k0_pay105, k0_pay106, k0_pay107, k0_pay108, k0_pay109, k0_pay110, k0_pay111, k0_pay112, k0_pay113,
        k0_pay114, k0_pay115, k0_pay116, k0_pay117, k0_pay118, k0_pay119, k0_pay120, k0_pay121, k0_pay122, k0_pay123,
        k0_pay124, k0_pay125, k0_pay126, k0_pay127, k0_pay128, k0_pay129, k0_pay130, k0_pay131, k0_pay132, k0_pay133,
        k0_pay134, k0_pay135, k0_pay136, k0_pay137, k0_pay138, k0_pay139, k0_pay140, k0_pay141, k0_pay142, k0_pay143,
        k0_pay144, k0_pay145, k0_pay146, k0_pay147, k0_pay148, k0_pay149, k0_pay150, k0_pay151, k0_pay152, k0_pay153,
        k0_pay154, k0_pay155, k0_pay156, k0_pay157, k0_pay158, k0_pay159, k0_pay160, k0_pay161, k0_pay162, k0_pay163,
        k0_pay164, k0_pay165, k0_pay166, k0_pay167, k0_pay168, k0_pay169, k0_pay170, k0_pay171, k0_pay172, k0_pay173,
        k0_pay174, k0_pay175, k0_pay176, k0_pay177, k0_pay178, k0_pay179, k0_pay180, k0_pay181, k0_pay182, k0_pay183,
        k0_pay184, k0_pay185, k0_pay186, k0_pay187, k0_pay188, k0_pay189, k0_pay190, k0_pay191, k0_pay192, k0_pay193,
        k0_pay194, k0_pay195, k0_pay196, k0_pay197, k0_pay198, k0_pay199, k0_pay200, k0_pay201, k0_pay202, k0_pay203,
        k0_pay204, k0_pay205, k0_pay206, k0_pay207, k0_pay208, k0_pay209, k0_pay210, k0_pay211, k0_pay212, k0_pay213,
        k0_pay214, k0_pay215, k0_pay216, k0_pay217, k0_pay218, k0_pay219, k0_pay220, k0_pay221, k0_pay222, k0_pay223,
        k0_pay224, k0_pay225, k0_pay226, k0_pay227, k0_pay228, k0_pay229, k0_pay230, k0_pay231, k0_pay232, k0_pay233,
        k0_pay234, k0_pay235, k0_pay236, k0_pay237, k0_pay238, k0_pay239, k0_pay240, k0_pay241, k0_pay242, k0_pay243,
        k0_pay244]
      rfl
  · generalize (insAt m c t).weightOut acc = z
    pointwise [k0_pay2]

end Cert.Ffn

end
-- ==== Proof.Spec.lean ====
/- The gradients as functions of the whole arrays: what the tiles' rows are rows of. -/
module

public import proofs.«01_k».proof.Proof.Block

@[expose] public section

set_option maxRecDepth 16384

noncomputable section

namespace Cert.Ffn

open Cert.KernelIdeal Cert.KernelIdeal.Gen Idealize.ShloMosaic

/-- The five arrays. -/
structure Args where
  x : Vec Ideal S4096x1024 .f32
  w : Vec Ideal S1024x5632 .f32
  cw : Vec Ideal S3x5632 .f32
  cb : Vec Ideal S5632 .f32
  ct : Vec Ideal S4096x2816 .f32

/-- Column `n` of half `j` of the gate's or the value's columns. -/
def colJ (j : Fin 2) (n : Fin 1408) : Fin 2816 := ⟨1408 * j.val + n.val, by omega⟩
/-- Column `n` of the gate (`s = 0`) or of the value (`s = 1`) among all. -/
def colS (s : Fin 2) (n : Fin 2816) : Fin 5632 := ⟨s.val * 2816 + n.val, by omega⟩

namespace Args
variable (a : Args)

/-- The hidden rows. -/
def hidden (t : Fin 4096) (n : Fin 5632) : EReal := ∑ k : Fin 1024, a.x (ix2 t k) * a.w (ix2 k n)
/-- The hidden rows with two zero rows before them and zeros after. -/
def padded (t : ℕ) (n : Fin 5632) : EReal := if h : 2 ≤ t ∧ t < 4098 then a.hidden ⟨t - 2, by omega⟩ n else 0
/-- The convolved rows. -/
def conv (t : ℕ) (n : Fin 5632) : EReal :=
  a.cw (ix2 0 n) * a.padded t n + a.cw (ix2 1 n) * a.padded (t + 1) n + a.cw (ix2 2 n) * a.padded (t + 2) n + a.cb (ix1 n)
/-- The cotangent's rows with zeros after. -/
def cot (t : ℕ) (n : Fin 2816) : EReal := if h : t < 4096 then a.ct (ix2 ⟨t, h⟩ n) else 0
/-- The gradient at the convolved rows. -/
def grad (s : Fin 2) (t : ℕ) (n : Fin 2816) : EReal :=
  if s.val = 0 then a.cot t n * a.conv t (colS 1 n) * dgeluE (a.conv t (colS 0 n)) else a.cot t n * geluE (a.conv t (colS 0 n))
/-- The gradient at the hidden rows. -/
def hid (s : Fin 2) (t : ℕ) (n : Fin 2816) : EReal :=
  a.cw (ix2 2 (colS s n)) * a.grad s t n + a.cw (ix2 1 (colS s n)) * a.grad s (t + 1) n + a.cw (ix2 0 (colS s n)) * a.grad s (t + 2) n

/-- The taps' gradients. -/
def tap : Vec Ideal S2x3x2816 .f32 := fun y => ∑ t : Fin 4096, a.grad (y 0) t.val (y 2) * a.padded (t.val + (y 1).val) (colS (y 0) (y 2))
/-- The biases' gradients. -/
def bias : Vec Ideal S2x1x2816 .f32 := fun y => ∑ t : Fin 4096, a.grad (y 0) t.val (y 2)
/-- The weights' gradient. -/
def weight : Vec Ideal S2x2x1024x1408 .bf16 := fun y => ∑ t : Fin 4096, a.x (ix2 t (y 2)) * a.hid (y 0) t.val (colJ (y 1) (y 3))
/-- One half's part of the input's gradient. -/
def half (j s : Fin 2) (t : Fin 4096) (k : Fin 1024) : EReal :=
  ∑ n : Fin 1408, a.hid s t.val (colJ j n) * a.w (ix2 k (colS s (colJ j n)))
/-- The input's gradient from each half of the columns. -/
def input : Vec Ideal S2x4096x1024 .f32 := fun y => a.half (y 0) 0 (y 1) (y 2) + a.half (y 0) 1 (y 1) (y 2)

end Args

/-- `b` holds the blocks of tile `i` of half `j`. -/
structure Tile (a : Args) (b : Ins) (i : Fin 8) (j : Fin 2) : Prop where
  first : b.first = if i.val = 0 then 1#1 else 0#1
  last : b.last = if i.val = 7 then 1#1 else 0#1
  h : ∀ s r n, b.h (ix3 s r n) = a.padded (512 * i.val + r.val + 2) (colS s (colJ j n))
  hp : i.val ≠ 0 → ∀ s r n, b.hp (ix3 s r n) = a.padded (512 * i.val + r.val - 6) (colS s (colJ j n))
  hn : i.val ≠ 7 → ∀ s r n, b.hn (ix3 s r n) = a.padded (512 * i.val + r.val + 514) (colS s (colJ j n))
  d : ∀ r n, b.d (ix2 r n) = a.cot (512 * i.val + r.val) (colJ j n)
  dn : i.val ≠ 7 → ∀ r n, b.dn (ix2 r n) = a.cot (512 * i.val + r.val + 512) (colJ j n)
  wg : ∀ k n, b.wg (ix3 0 k n) = a.w (ix2 k (colS 0 (colJ j n)))
  wv : ∀ k n, b.wv (ix3 0 k n) = a.w (ix2 k (colS 1 (colJ j n)))
  x : ∀ (r : Fin 512) k, b.x (ix2 r k) = a.x (ix2 ⟨512 * i.val + r.val, by omega⟩ k)
  cw : ∀ s k n, b.cw (ix3 s k n) = a.cw (ix2 k (colS s (colJ j n)))
  cb : ∀ s n, b.cb (ix3 s 0 n) = a.cb (ix1 (colS s (colJ j n)))

namespace Tile
variable {a : Args} {b : Ins} {i : Fin 8} {j : Fin 2} (h : Tile a b i j)
include h

theorem ext (s : Fin 2) (r : Fin 528) (n : Fin 1408) (h6 : 6 ≤ r.val) (hr : r.val < 520 ∨ i.val ≠ 7) :
    b.ext s r n = a.padded (512 * i.val + r.val - 6) (colS s (colJ j n)) := by
  unfold Ins.ext
  split_ifs with h8 h5
  · rw [h.first]
    split_ifs with hi
    · rw [show Scalar.select 1#1 (0 : EReal) (b.hp (ix3 s ⟨r.val, h8⟩ n)) = 0 from rfl, Args.padded, dif_neg (by omega)]
    · rw [show Scalar.select 0#1 (0 : EReal) (b.hp (ix3 s ⟨r.val, h8⟩ n)) = b.hp (ix3 s ⟨r.val, h8⟩ n) from rfl, h.hp hi]
  · rw [h.h]
    congr 1
    simp only
    omega
  · rw [h.hn (by omega)]
    congr 1
    simp only
    omega

theorem cot (r : Fin 528) (n : Fin 1408) (h8 : 8 ≤ r.val) : b.cot r n = a.cot (512 * i.val + r.val - 8) (colJ j n) := by
  unfold Ins.cot
  rw [dif_neg (by omega)]
  split_ifs with h5
  · rw [h.d]
    congr 1
    simp only
    omega
  · rw [h.last]
    split_ifs with hi
    · rw [show Scalar.select 1#1 (0 : EReal) (b.dn (ix2 ⟨r.val - 520, by omega⟩ n)) = 0 from rfl, Args.cot, dif_neg (by omega)]
    · rw [show Scalar.select 0#1 (0 : EReal) (b.dn (ix2 ⟨r.val - 520, by omega⟩ n)) = b.dn (ix2 ⟨r.val - 520, by omega⟩ n) from rfl, h.dn hi]
      congr 1
      simp only
      omega

theorem back_val (k : ℕ) (r : Fin 528) (hk : k ≤ r.val) : (back k r).val = r.val - k := by
  show (r.val + 528 - k) % 528 = _
  rw [show r.val + 528 - k = (r.val - k) + 528 by omega, Nat.add_mod_right]
  exact Nat.mod_eq_of_lt (by omega)

theorem pre (s : Fin 2) (r : Fin 528) (n : Fin 1408) (h8 : 8 ≤ r.val) (hr : r.val < 520 ∨ i.val ≠ 7) :
    b.pre s r n = a.conv (512 * i.val + r.val - 8) (colS s (colJ j n)) := by
  have e2 := h.back_val 2 r (by omega)
  have e1 := h.back_val 1 r (by omega)
  unfold Ins.pre Args.conv
  rw [h.ext s (back 2 r) n (by omega) (by omega), h.ext s (back 1 r) n (by omega) (by omega), h.ext s r n (by omega) hr, h.cw, h.cw, h.cw, h.cb,
    e1, e2, show 512 * i.val + (r.val - 2) - 6 = 512 * i.val + r.val - 8 by omega,
    show 512 * i.val + (r.val - 1) - 6 = 512 * i.val + r.val - 8 + 1 by omega,
    show 512 * i.val + r.val - 6 = 512 * i.val + r.val - 8 + 2 by omega]

theorem grad (s : Fin 2) (r : Fin 528) (n : Fin 1408) (h8 : 8 ≤ r.val) :
    b.grad s r n = a.grad s (512 * i.val + r.val - 8) (colJ j n) := by
  unfold Ins.grad Args.grad
  rw [h.cot r n h8]
  by_cases hr : r.val < 520 ∨ i.val ≠ 7
  · rw [h.pre 0 r n h8 hr, h.pre 1 r n h8 hr]
  · have z : a.cot (512 * i.val + r.val - 8) (colJ j n) = 0 := dif_neg (by omega)
    rw [z]
    simp only [zero_mul]

theorem grad_inner (s : Fin 2) (r : Fin 512) (n : Fin 1408) : b.grad s (inner r) n = a.grad s (512 * i.val + r.val) (colJ j n) := by
  rw [h.grad s (inner r) n (by show 8 ≤ 8 + r.val; omega)]
  congr 1
  show 512 * i.val + (8 + r.val) - 8 = _
  omega

theorem hid (s : Fin 2) (r : Fin 512) (n : Fin 1408) : b.hid s r n = a.hid s (512 * i.val + r.val) (colJ j n) := by
  have e1 : (back 527 (inner r)).val = 9 + r.val := by
    show (8 + r.val + 528 - 527) % 528 = _
    rw [Nat.mod_eq_of_lt (by omega)]; omega
  have e2 : (back 526 (inner r)).val = 10 + r.val := by
    show (8 + r.val + 528 - 526) % 528 = _
    rw [Nat.mod_eq_of_lt (by omega)]; omega
  unfold Ins.hid Args.hid
  rw [h.grad_inner, h.grad s (back 527 (inner r)) n (by omega), h.grad s (back 526 (inner r)) n (by omega), h.cw, h.cw, h.cw, e1, e2,
    show 512 * i.val + (9 + r.val) - 8 = 512 * i.val + r.val + 1 by omega,
    show 512 * i.val + (10 + r.val) - 8 = 512 * i.val + r.val + 2 by omega]

theorem tap_term (s : Fin 2) (k : Fin 3) (r : Fin 512) (n : Fin 1408) :
    b.grad s (inner r) n * b.ext s (back (2 - k.val) (inner r)) n
      = a.grad s (512 * i.val + r.val) (colJ j n) * a.padded (512 * i.val + r.val + k.val) (colS s (colJ j n)) := by
  have e := h.back_val (2 - k.val) (inner r) (by show 2 - k.val ≤ 8 + r.val; omega)
  have e' : (inner r).val = 8 + r.val := rfl
  rw [h.grad_inner, h.ext s _ n (by omega) (by omega), e, e']
  congr 2
  omega

theorem half_gate (r : Fin 512) (k : Fin 1024) : b.half b.wg 0 r k = a.half j 0 ⟨512 * i.val + r.val, by omega⟩ k :=
  Finset.sum_congr rfl fun n _ => by rw [h.hid, h.wg]

theorem half_value (r : Fin 512) (k : Fin 1024) : b.half b.wv 1 r k = a.half j 1 ⟨512 * i.val + r.val, by omega⟩ k :=
  Finset.sum_congr rfl fun n _ => by rw [h.hid, h.wv]

end Tile

/-- The rows of the eight tiles are all the rows. -/
theorem sum_tiles {M : Type} [AddCommMonoid M] (f : ℕ → M) :
    ∑ i ∈ Finset.range 8, ∑ r : Fin 512, f (512 * i + r.val) = ∑ t : Fin 4096, f t.val := by
  rw [← Fin.sum_univ_eq_sum_range (fun i => ∑ r : Fin 512, f (512 * i + r.val)) 8, ← Fintype.sum_prod_type',
    ← (finProdFinEquiv (m := 8) (n := 512)).sum_comp (fun t : Fin (8 * 512) => f t.val)]
  exact Finset.sum_congr rfl fun p _ => congrArg f (Nat.add_comm _ _)

end Cert.Ffn

end
-- ==== Proof.Blocks.lean ====
/- The arrays the launch finds, and the blocks of each point of the grid. -/
module

public import proofs.«01_k».proof.Proof.Points
public import proofs.«01_k».proof.Proof.Spec
public import Idealize.ShloMosaic.Lib.Pointwise
public import Idealize.ShloMosaic.Lib.Claim

@[expose] public section

set_option maxRecDepth 16384
set_option maxHeartbeats 1000000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

/-- The block each window is on at each point. -/
theorem idx : ∀ t : Fin cfg0.N,
    win0_0.index t = ![0, t.val % 8, t.val / 8] ∧ win0_1.index t = ![0, 64 * (t.val % 8) - 1, t.val / 8]
    ∧ win0_2.index t = ![0, min (64 * (t.val % 8 + 1)) 511, t.val / 8] ∧ win0_3.index t = ![t.val % 8, t.val / 8]
    ∧ win0_4.index t = ![min (32 * (t.val % 8 + 1)) 255, t.val / 8] ∧ win0_5.index t = ![t.val / 8, 0, 0]
    ∧ win0_6.index t = ![2 + t.val / 8, 0, 0] ∧ win0_7.index t = ![t.val % 8, 0]
    ∧ win0_8.index t = ![0, 0, t.val / 8] ∧ win0_9.index t = ![0, 0, t.val / 8]
    ∧ win0_10.index t = ![t.val / 8, t.val % 8, 0] ∧ win0_11.index t = ![0, t.val / 8, 0, 0]
    ∧ win0_12.index t = ![0, 0, t.val / 8] ∧ win0_13.index t = ![0, 0, t.val / 8] := by
  show ∀ t : Fin grid0.N, _
  decide +kernel

theorem coord_1 : ∀ t : Fin cfg0.N, (grid0.coords t 1).val = t.val % 8 := by
  show ∀ t : Fin grid0.N, _
  decide +kernel

theorem host_h (c : Dev nD) (s : Fin 2) (t : Fin 4096) (n : Fin 2816) :
    V m c main_v2 (ix3 s t n) = (argsOf m c).hidden t (colS s n) := by
  entry_read
  pointwise [Args.hidden, argsOf, colS]

theorem host_w (c : Dev nD) (q : Fin 4) (k : Fin 1024) (n : Fin 1408) :
    V m c main_v5 (ix3 q k n) = (argsOf m c).w (ix2 k ⟨q.val * 1408 + n.val, by omega⟩) := by
  entry_read
  pointwise [argsOf]

theorem host_cw (c : Dev nD) (s : Fin 2) (k : Fin 3) (n : Fin 2816) :
    V m c main_v7 (ix3 s k n) = (argsOf m c).cw (ix2 k (colS s n)) := by
  entry_read
  pointwise [argsOf, colS]

theorem host_cb (c : Dev nD) (s : Fin 2) (n : Fin 2816) :
    V m c main_v8 (ix3 s 0 n) = (argsOf m c).cb (ix1 (colS s n)) := by
  entry_read
  pointwise [argsOf, colS]

theorem host_d (c : Dev nD) (t : Fin 4096) (n : Fin 2816) :
    V m c main_v9 (ix2 t n) = (argsOf m c).ct (ix2 t n) := by
  entry_read
  pointwise [argsOf]

/-- A point's tile and half. -/
def iOf (t : Fin cfg0.N) : Fin 8 := ⟨t.val % 8, Nat.mod_lt _ (by decide)⟩
theorem t_lt (t : Fin cfg0.N) : t.val < 16 := Nat.lt_of_lt_of_eq t.isLt N_0
def jOf (t : Fin cfg0.N) : Fin 2 := ⟨t.val / 8, by have := t_lt t; omega⟩

theorem blk_h (c : Dev nD) (t : Fin cfg0.N) (s : Fin 2) (r : Fin 512) (n : Fin 1408) :
    iblk m c 0 t (ix3 s r n) = V m c main_v2 (ix3 s ⟨512 * (iOf t).val + r.val, by omega⟩ (colJ (jOf t) n)) := by
  unfold iOf jOf colJ
  blk_ext [iblk, idx t]

theorem blk_hp (c : Dev nD) (t : Fin cfg0.N) (hi : (iOf t).val ≠ 0) (s : Fin 2) (r : Fin 8) (n : Fin 1408) :
    iblk m c 1 t (ix3 s r n) = V m c main_v2 (ix3 s ⟨512 * (iOf t).val + r.val - 8, by omega⟩ (colJ (jOf t) n)) := by
  have hi' := hi
  unfold iOf at hi'
  unfold iOf jOf colJ
  blk_ext [iblk, idx t] <;> (simp only at hi'; omega)

theorem blk_hn (c : Dev nD) (t : Fin cfg0.N) (hi : (iOf t).val ≠ 7) (s : Fin 2) (r : Fin 8) (n : Fin 1408) :
    iblk m c 2 t (ix3 s r n) = V m c main_v2 (ix3 s ⟨512 * (iOf t).val + r.val + 512, by omega⟩ (colJ (jOf t) n)) := by
  have hi' := hi
  unfold iOf at hi'
  unfold iOf jOf colJ
  blk_ext [iblk, idx t] <;> (simp only at hi'; omega)

theorem blk_d (c : Dev nD) (t : Fin cfg0.N) (r : Fin 512) (n : Fin 1408) :
    iblk m c 3 t (ix2 r n) = V m c main_v9 (ix2 ⟨512 * (iOf t).val + r.val, by omega⟩ (colJ (jOf t) n)) := by
  unfold iOf jOf colJ
  blk_ext [iblk, idx t]

theorem blk_dn (c : Dev nD) (t : Fin cfg0.N) (hi : (iOf t).val ≠ 7) (r : Fin 16) (n : Fin 1408) :
    iblk m c 4 t (ix2 r n) = V m c main_v9 (ix2 ⟨512 * (iOf t).val + r.val + 512, by omega⟩ (colJ (jOf t) n)) := by
  have hi' := hi
  unfold iOf at hi'
  unfold iOf jOf colJ
  blk_ext [iblk, idx t] <;> (simp only at hi'; omega)

theorem blk_wg (c : Dev nD) (t : Fin cfg0.N) (k : Fin 1024) (n : Fin 1408) :
    iblk m c 5 t (ix3 0 k n) = V m c main_v5 (ix3 ⟨(jOf t).val, by omega⟩ k n) := by
  unfold jOf
  blk_ext [iblk, idx t]

theorem blk_wv (c : Dev nD) (t : Fin cfg0.N) (k : Fin 1024) (n : Fin 1408) :
    iblk m c 6 t (ix3 0 k n) = V m c main_v5 (ix3 ⟨2 + (jOf t).val, by omega⟩ k n) := by
  unfold jOf
  blk_ext [iblk, idx t]

theorem blk_x (c : Dev nD) (t : Fin cfg0.N) (r : Fin 512) (k : Fin 1024) :
    iblk m c 7 t (ix2 r k) = (argsOf m c).x (ix2 ⟨512 * (iOf t).val + r.val, by omega⟩ k) := by
  unfold iOf argsOf
  blk_ext [iblk, V, idx t]

theorem blk_cw (c : Dev nD) (t : Fin cfg0.N) (s : Fin 2) (k : Fin 3) (n : Fin 1408) :
    iblk m c 8 t (ix3 s k n) = V m c main_v7 (ix3 s k (colJ (jOf t) n)) := by
  unfold jOf colJ
  blk_ext [iblk, idx t]

theorem blk_cb (c : Dev nD) (t : Fin cfg0.N) (s : Fin 2) (n : Fin 1408) :
    iblk m c 9 t (ix3 s 0 n) = V m c main_v8 (ix3 s 0 (colJ (jOf t) n)) := by
  unfold jOf colJ
  blk_ext [iblk, idx t]

theorem isFirst (t : Fin cfg0.N) : (Scalar.cmpi .eq (BitVec.ofNat 32 (grid0.coords t 1).val) 0#32 : BitVec 1) = if (iOf t).val = 0 then 1#1 else 0#1 := by
  rw [coord_1]
  revert t
  show ∀ t : Fin grid0.N, _
  decide +kernel

theorem isLast (t : Fin cfg0.N) : (Scalar.cmpi .eq (BitVec.ofNat 32 (grid0.coords t 1).val) 7#32 : BitVec 1) = if (iOf t).val = 7 then 1#1 else 0#1 := by
  rw [coord_1]
  revert t
  show ∀ t : Fin grid0.N, _
  decide +kernel

/-- A row of the padded array is a hidden row. -/
theorem padded_eq (a : Args) (u : ℕ) (t : Fin 4096) (n : Fin 5632) (h : u = t.val + 2) : a.padded u n = a.hidden t n := by
  subst h
  exact dif_pos ⟨by omega, by omega⟩

theorem cot_eq (a : Args) (u : ℕ) (t : Fin 4096) (n : Fin 2816) (h : u = t.val) : a.cot u n = a.ct (ix2 t n) := by
  subst h
  exact dif_pos t.isLt

end Cert.Ffn

end
-- ==== Proof.Tiles.lean ====
/- Each point's blocks are the blocks of its tile. -/
module

public import proofs.«01_k».proof.Proof.Blocks
public import Idealize.ShloMosaic.Lib.Pointwise
public import Idealize.ShloMosaic.Lib.Claim

@[expose] public section

set_option maxRecDepth 16384
set_option maxHeartbeats 400000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ)

theorem tile_h (c : Dev nD) (t : Fin cfg0.N) (s : Fin 2) (r : Fin 512) (n : Fin 1408) :
    (insAt m c t).h (ix3 s r n) = (argsOf m c).padded (512 * (iOf t).val + r.val + 2) (colS s (colJ (jOf t) n)) := by
  rw [show (insAt m c t).h = iblk m c 0 t from rfl, blk_h, host_h, padded_eq]
  simp only
theorem tile_hp (c : Dev nD) (t : Fin cfg0.N) (hi : (iOf t).val ≠ 0) (s : Fin 2) (r : Fin 8) (n : Fin 1408) :
    (insAt m c t).hp (ix3 s r n) = (argsOf m c).padded (512 * (iOf t).val + r.val - 6) (colS s (colJ (jOf t) n)) := by
  rw [show (insAt m c t).hp = iblk m c 1 t from rfl, blk_hp m c t hi, host_h, ← padded_eq]
  simp only
  omega
theorem tile_hn (c : Dev nD) (t : Fin cfg0.N) (hi : (iOf t).val ≠ 7) (s : Fin 2) (r : Fin 8) (n : Fin 1408) :
    (insAt m c t).hn (ix3 s r n) = (argsOf m c).padded (512 * (iOf t).val + r.val + 514) (colS s (colJ (jOf t) n)) := by
  rw [show (insAt m c t).hn = iblk m c 2 t from rfl, blk_hn m c t hi, host_h, ← padded_eq]
  simp only
theorem tile_d (c : Dev nD) (t : Fin cfg0.N) (r : Fin 512) (n : Fin 1408) :
    (insAt m c t).d (ix2 r n) = (argsOf m c).cot (512 * (iOf t).val + r.val) (colJ (jOf t) n) := by
  rw [show (insAt m c t).d = iblk m c 3 t from rfl, blk_d, host_d, ← cot_eq]
  simp only
theorem tile_dn (c : Dev nD) (t : Fin cfg0.N) (hi : (iOf t).val ≠ 7) (r : Fin 16) (n : Fin 1408) :
    (insAt m c t).dn (ix2 r n) = (argsOf m c).cot (512 * (iOf t).val + r.val + 512) (colJ (jOf t) n) := by
  rw [show (insAt m c t).dn = iblk m c 4 t from rfl, blk_dn m c t hi, host_d, ← cot_eq]
  simp only
theorem tile_wg (c : Dev nD) (t : Fin cfg0.N) (k : Fin 1024) (n : Fin 1408) :
    (insAt m c t).wg (ix3 0 k n) = (argsOf m c).w (ix2 k (colS 0 (colJ (jOf t) n))) := by
  rw [show (insAt m c t).wg = iblk m c 5 t from rfl, blk_wg, host_w]
  refine congrArg (argsOf m c).w (congrArg (ix2 k) (Fin.ext ?_))
  show (jOf t).val * 1408 + n.val = 0 * 2816 + (1408 * (jOf t).val + n.val)
  omega
theorem tile_wv (c : Dev nD) (t : Fin cfg0.N) (k : Fin 1024) (n : Fin 1408) :
    (insAt m c t).wv (ix3 0 k n) = (argsOf m c).w (ix2 k (colS 1 (colJ (jOf t) n))) := by
  rw [show (insAt m c t).wv = iblk m c 6 t from rfl, blk_wv, host_w]
  refine congrArg (argsOf m c).w (congrArg (ix2 k) (Fin.ext ?_))
  show (2 + (jOf t).val) * 1408 + n.val = 1 * 2816 + (1408 * (jOf t).val + n.val)
  omega
theorem tile_x (c : Dev nD) (t : Fin cfg0.N) (r : Fin 512) (k : Fin 1024) :
    (insAt m c t).x (ix2 r k) = (argsOf m c).x (ix2 ⟨512 * (iOf t).val + r.val, by omega⟩ k) := by
  rw [show (insAt m c t).x = iblk m c 7 t from rfl, blk_x]
theorem tile_cw (c : Dev nD) (t : Fin cfg0.N) (s : Fin 2) (k : Fin 3) (n : Fin 1408) :
    (insAt m c t).cw (ix3 s k n) = (argsOf m c).cw (ix2 k (colS s (colJ (jOf t) n))) := by
  rw [show (insAt m c t).cw = iblk m c 8 t from rfl, blk_cw, host_cw]
theorem tile_cb (c : Dev nD) (t : Fin cfg0.N) (s : Fin 2) (n : Fin 1408) :
    (insAt m c t).cb (ix3 s 0 n) = (argsOf m c).cb (ix1 (colS s (colJ (jOf t) n))) := by
  rw [show (insAt m c t).cb = iblk m c 9 t from rfl, blk_cb, host_cb]

/-- A point's blocks are its tile's. -/
theorem tileAt (c : Dev nD) (t : Fin cfg0.N) : Tile (argsOf m c) (insAt m c t) (iOf t) (jOf t) :=
  ⟨isFirst t, isLast t, tile_h m c t, tile_hp m c t, tile_hn m c t, tile_d m c t, tile_dn m c t, tile_wg m c t, tile_wv m c t,
   tile_x m c t, tile_cw m c t, tile_cb m c t⟩

end Cert.Ffn

end
-- ==== Proof.Arrays.lean ====
/- The arrays after the run: the sums over a half's points, each window's blocks put together. -/
module

public import proofs.«01_k».proof.Proof.Tiles
public import Idealize.ShloMosaic.Lib.Pointwise
public import Idealize.ShloMosaic.Lib.Claim

@[expose] public section

set_option maxRecDepth 16384
set_option maxHeartbeats 400000

noncomputable section

namespace Cert.Ffn

open Cert.KernelIdeal Cert.KernelIdeal.Gen Idealize.ShloMosaic Idealize.ShloMosaic.TcCoe Idealize.SL.Sem

variable (m : (ℓ : Loc nD τ sig) → Buf (Elt Ideal) ℓ)

theorem zero_w (y : S2x1024x1408.Idx) : k0_pay3 (F := Ideal) y = 0 := by
  idx_vars y
  pointwise [k0_pay3]
theorem zero_t (y : S2x3x1408.Idx) : k0_pay4 (F := Ideal) y = 0 := by
  idx_vars y
  pointwise [k0_pay4]
theorem zero_b (y : S2x1x1408.Idx) : k0_pay5 (F := Ideal) y = 0 := by
  idx_vars y
  pointwise [k0_pay5]

/-- The taps' gradients of the rows of point `n`'s tile. -/
def tapTerm (a : Args) (n : ℕ) (y : S2x3x1408.Idx) : EReal :=
  ∑ r : Fin 512, if h : n < 16 then a.grad (y 0) (512 * (n % 8) + r.val) (colJ ⟨n / 8, by omega⟩ (y 2))
    * a.padded (512 * (n % 8) + r.val + (y 1).val) (colS (y 0) (colJ ⟨n / 8, by omega⟩ (y 2))) else 0
def biasTerm (a : Args) (n : ℕ) (y : S2x1x1408.Idx) : EReal :=
  ∑ r : Fin 512, if h : n < 16 then a.grad (y 0) (512 * (n % 8) + r.val) (colJ ⟨n / 8, by omega⟩ (y 2)) else 0
def weightTerm (a : Args) (n : ℕ) (y : S2x1024x1408.Idx) : EReal :=
  ∑ r : Fin 512, if h : n < 16 then a.x (ix2 ⟨512 * (n % 8) + r.val, by omega⟩ (y 1))
    * a.hid (y 0) (512 * (n % 8) + r.val) (colJ ⟨n / 8, by omega⟩ (y 2)) else 0

theorem tapOut_eq (c : Dev nD) (t : Fin cfg0.N) (x : Vec Ideal S2x3x1408 .f32) (y : S2x3x1408.Idx) :
    (insAt m c t).tapOut x y = x y + tapTerm (argsOf m c) t.val y := by
  refine congrArg (x y + ·) (Finset.sum_congr rfl fun r _ => ?_)
  rw [dif_pos (t_lt t)]
  exact (tileAt m c t).tap_term (y 0) (y 1) r (y 2)
theorem biasOut_eq (c : Dev nD) (t : Fin cfg0.N) (x : Vec Ideal S2x1x1408 .f32) (y : S2x1x1408.Idx) :
    (insAt m c t).biasOut x y = x y + biasTerm (argsOf m c) t.val y := by
  refine congrArg (x y + ·) (Finset.sum_congr rfl fun r _ => ?_)
  rw [dif_pos (t_lt t)]
  exact (tileAt m c t).grad_inner (y 0) r (y 2)
theorem weightOut_eq (c : Dev nD) (t : Fin cfg0.N) (x : Vec Ideal S2x1024x1408 .f32) (y : S2x1024x1408.Idx) :
    (insAt m c t).weightOut x y = x y + weightTerm (argsOf m c) t.val y := by
  refine congrArg (x y + ·) (Finset.sum_congr rfl fun r _ => ?_)
  rw [dif_pos (t_lt t)]
  exact congrArg₂ (· * ·) ((tileAt m c t).x r (y 1)) ((tileAt m c t).hid (y 0) r (y 2))

theorem tap_sum (c : Dev nD) (t : Fin cfg0.N) (ht : t.val % 8 = 7) (y : S2x3x1408.Idx) :
    (outsAt0 m c t.val t.isLt).2.2.1 y = (argsOf m c).tap (ix3 (y 0) (y 1) (colJ (jOf t) (y 2))) := by
  have h := Pipeline.eq_sum_of_reset_step_apply_of_mod (fun n h => (outsAt0 m c n h).2.2.1) 8 (fun _ => (0 : EReal)) (tapTerm (argsOf m c))
    (fun t h0 i => by rw [tap_A m c t h0 (by omega), tapOut_eq, zero_t])
    (fun t h0 i => by
      by_cases h1 : t.val % 8 = 7
      · exact (congrFun (tap_C m c t h0 h1) i).trans (tapOut_eq ..)
      · exact (congrFun (tap_B m c t h0 h1) i).trans (tapOut_eq ..)) t ht y
  refine h.trans ((zero_add _).trans (Eq.trans ?_
    (sum_tiles (fun u => (argsOf m c).grad (y 0) u (colJ (jOf t) (y 2)) * (argsOf m c).padded (u + (y 1).val) (colS (y 0) (colJ (jOf t) (y 2)))))))
  refine Finset.sum_congr rfl fun k hk => Finset.sum_congr rfl fun r _ => ?_
  have hk' := Finset.mem_range.1 hk
  have ht' := t_lt t
  rw [dif_pos (by omega)]
  have e : (8 * (t.val / 8) + k) % 8 = k := by omega
  have e' : (⟨(8 * (t.val / 8) + k) / 8, by omega⟩ : Fin 2) = jOf t := Fin.ext (by show (8 * (t.val / 8) + k) / 8 = t.val / 8; omega)
  rw [e, e']

theorem bias_sum (c : Dev nD) (t : Fin cfg0.N) (ht : t.val % 8 = 7) (y : S2x1x1408.Idx) :
    (outsAt0 m c t.val t.isLt).2.2.2.1 y = (argsOf m c).bias (ix3 (y 0) (y 1) (colJ (jOf t) (y 2))) := by
  have h := Pipeline.eq_sum_of_reset_step_apply_of_mod (fun n h => (outsAt0 m c n h).2.2.2.1) 8 (fun _ => (0 : EReal)) (biasTerm (argsOf m c))
    (fun t h0 i => by rw [bias_A m c t h0 (by omega), biasOut_eq, zero_b])
    (fun t h0 i => by
      by_cases h1 : t.val % 8 = 7
      · exact (congrFun (bias_C m c t h0 h1) i).trans (biasOut_eq ..)
      · exact (congrFun (bias_B m c t h0 h1) i).trans (biasOut_eq ..)) t ht y
  refine h.trans ((zero_add _).trans (Eq.trans ?_ (sum_tiles (fun u => (argsOf m c).grad (y 0) u (colJ (jOf t) (y 2))))))
  refine Finset.sum_congr rfl fun k hk => Finset.sum_congr rfl fun r _ => ?_
  have hk' := Finset.mem_range.1 hk
  have ht' := t_lt t
  rw [dif_pos (by omega)]
  have e : (8 * (t.val / 8) + k) % 8 = k := by omega
  have e' : (⟨(8 * (t.val / 8) + k) / 8, by omega⟩ : Fin 2) = jOf t := Fin.ext (by show (8 * (t.val / 8) + k) / 8 = t.val / 8; omega)
  rw [e, e']

theorem weight_sum (c : Dev nD) (t : Fin cfg0.N) (ht : t.val % 8 = 7) (y : S2x1024x1408.Idx) :
    (outsAt0 m c t.val t.isLt).2.2.2.2 y = (argsOf m c).weight (ix4 (y 0) (jOf t) (y 1) (y 2)) := by
  have h := Pipeline.eq_sum_of_reset_step_apply_of_mod (fun n h => (outsAt0 m c n h).2.2.2.2) 8 (fun _ => (0 : EReal)) (weightTerm (argsOf m c))
    (fun t h0 i => by rw [weight_A m c t h0 (by omega), weightOut_eq, zero_w])
    (fun t h0 i => by
      by_cases h1 : t.val % 8 = 7
      · exact (congrFun (weight_C m c t h0 h1) i).trans (weightOut_eq ..)
      · exact (congrFun (weight_B m c t h0 h1) i).trans (weightOut_eq ..)) t ht y
  refine h.trans ((zero_add _).trans (Eq.trans ?_ ((sum_tiles (fun u => (if h : u < 4096 then (argsOf m c).x (ix2 ⟨u, h⟩ (y 1)) else 0) * (argsOf m c).hid (y 0) u (colJ (jOf t) (y 2)))).trans
    (Finset.sum_congr rfl fun u _ => congrArg (· * _) (dif_pos u.isLt)))))
  refine Finset.sum_congr rfl fun k hk => Finset.sum_congr rfl fun r _ => ?_
  have hk' := Finset.mem_range.1 hk
  have ht' := t_lt t
  rw [dif_pos (by omega), dif_pos (by omega)]
  have e : (8 * (t.val / 8) + k) % 8 = k := by omega
  have e' : (⟨(8 * (t.val / 8) + k) / 8, by omega⟩ : Fin 2) = jOf t := Fin.ext (by show (8 * (t.val / 8) + k) / 8 = t.val / 8; omega)
  simp only [e, e']

theorem input_at (c : Dev nD) (t : Fin cfg0.N) : (outsAt0 m c t.val t.isLt).1 = (insAt m c t).inputOut := by
  by_cases h0 : t.val % 8 = 0
  · exact input_A m c t h0 (by omega)
  · by_cases h1 : t.val % 8 = 7
    · exact input_C m c t h0 h1
    · exact input_B m c t h0 h1

theorem input_eq (c : Dev nD) (t : Fin cfg0.N) (y : S1x512x1024.Idx) :
    (outsAt0 m c t.val t.isLt).1 y = (argsOf m c).input (ix3 (jOf t) ⟨512 * (iOf t).val + (y 1).val, by have h : (y 1).val < 512 := (y 1).isLt; have := (iOf t).isLt; omega⟩ (y 2)) := by
  rw [input_at]
  exact congrArg₂ (· + ·) ((tileAt m c t).half_gate (y 1) (y 2)) ((tileAt m c t).half_value (y 1) (y 2))

/-! ## The arrays after the run -/

theorem final_tap (c : Dev nD) : (dats m 0 c).arrAt 12 cfg0.N = (argsOf m c).tap := by
  refine (dats m 0 c).arrAt_eq_of_covers 12 _ (by decide +kernel) fun t hf y => ?_
  have ht := (flush0_12 t).mp hf
  blk_simp
  rw [after0_12, tap_sum m c t ht]
  unfold jOf colJ
  blk_ext [idx t]

theorem final_bias (c : Dev nD) : (dats m 0 c).arrAt 13 cfg0.N = (argsOf m c).bias := by
  refine (dats m 0 c).arrAt_eq_of_covers 13 _ (by decide +kernel) fun t hf y => ?_
  have ht := (flush0_13 t).mp hf
  blk_simp
  rw [after0_13, bias_sum m c t ht]
  unfold jOf colJ
  blk_ext [idx t]

theorem final_weight (c : Dev nD) : (dats m 0 c).arrAt 11 cfg0.N = (argsOf m c).weight := by
  refine (dats m 0 c).arrAt_eq_of_covers 11 _ (by decide +kernel) fun t hf y => ?_
  have ht := (flush0_11 t).mp hf
  blk_simp
  rw [after0_11, out_C m c t (by omega) ht, weight_sum m c t ht]
  unfold jOf
  blk_ext [idx t]

theorem final_input (c : Dev nD) : (dats m 0 c).arrAt 10 cfg0.N = (argsOf m c).input := by
  refine (dats m 0 c).arrAt_eq_of_covers 10 _ (by decide +kernel) fun t hf y => ?_
  blk_simp
  rw [after0_10, input_eq]
  unfold iOf jOf
  blk_ext [idx t]

end Cert.Ffn

end
-- ==== Proof.Finite.lean ====
/- Arrays without infinities: what is computed of them is real, and over the reals the two forms of the gelu's
   derivative are one. -/
module

public import proofs.«01_k».proof.Proof.Spec

@[expose] public section

noncomputable section

namespace Cert.Ffn

open Cert.KernelIdeal Cert.KernelIdeal.Gen Idealize.ShloMosaic

/-- The extended real is a real. -/
def IsReal (e : EReal) : Prop := ∃ r : ℝ, e = (r : EReal)

namespace IsReal

theorem zero : IsReal 0 := ⟨0, rfl⟩
theorem add {e f : EReal} : IsReal e → IsReal f → IsReal (e + f)
  | ⟨r, hr⟩, ⟨q, hq⟩ => ⟨r + q, by rw [hr, hq, EReal.coe_add]⟩
theorem mul {e f : EReal} : IsReal e → IsReal f → IsReal (e * f)
  | ⟨r, hr⟩, ⟨q, hq⟩ => ⟨r * q, by rw [hr, hq, EReal.coe_mul]⟩
theorem sum {ι : Type} [DecidableEq ι] (s : Finset ι) (f : ι → EReal) (h : ∀ i, IsReal (f i)) : IsReal (∑ i ∈ s, f i) := by
  induction s using Finset.induction_on with
  | empty => exact zero
  | insert i s hi ih => rw [Finset.sum_insert hi]; exact (h i).add ih
theorem of_bounds {e : EReal} (h1 : e ≠ ⊥) (h2 : e ≠ ⊤) : IsReal e := ⟨e.toReal, (EReal.coe_toReal h2 h1).symm⟩

end IsReal

/-- No element of an argument is infinite. -/
structure Args.Real (a : Args) : Prop where
  x : ∀ i, IsReal (a.x i)
  w : ∀ i, IsReal (a.w i)
  cw : ∀ i, IsReal (a.cw i)
  cb : ∀ i, IsReal (a.cb i)
  ct : ∀ i, IsReal (a.ct i)

theorem Args.Real.padded {a : Args} (h : a.Real) (t : ℕ) (n : Fin 5632) : IsReal (a.padded t n) := by
  unfold Args.padded
  split_ifs
  · exact IsReal.sum _ _ fun k => (h.x _).mul (h.w _)
  · exact IsReal.zero

theorem Args.Real.conv {a : Args} (h : a.Real) (t : ℕ) (n : Fin 5632) : IsReal (a.conv t n) :=
  ((((h.cw _).mul (h.padded _ _)).add ((h.cw _).mul (h.padded _ _))).add ((h.cw _).mul (h.padded _ _))).add (h.cb _)

theorem bits_half : kHalf = (((1 : ℝ) / 2 : ℝ) : EReal) := by
  simp [kHalf, Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_num : Ideal.ofBits .f32 0x472EAB00#32 = ((44715 : ℝ) : EReal) := by
  simp [Ideal.ofBits, Ideal.ieee, -EReal.coe_mul]; norm_num
theorem bits_den : Ideal.ofBits .f32 0x49742400#32 = ((1000000 : ℝ) : EReal) := by
  simp [Ideal.ofBits, Ideal.ieee, -EReal.coe_mul]; norm_num
theorem root_real : IsReal kRoot := by
  refine IsReal.of_bounds ?_ ?_ <;> simp [kRoot, Ideal.ofBits, Ideal.ieee, -EReal.coe_mul]

/-- The quotient that the gelu's cubic term is multiplied by. -/
theorem quotient : Ideal.div (Ideal.ofBits .f32 0x472EAB00#32) (Ideal.ofBits .f32 0x49742400#32) = ((8943 / 200000 : ℝ) : EReal) := by
  rw [bits_num, bits_den, Ideal.div_coe (by norm_num), ← EReal.coe_mul]
  norm_num

/-- The gate's gradient: through the two factors of the gelu, and gathered. -/
theorem gate_eq {d v y : EReal} (hd : IsReal d) (hv : IsReal v) (hy : IsReal y) :
    d * v * (kHalf * (1 + thE y))
        + kRoot * (kHalf * (y * (d * v)) * ((1 + thE y) * (1 - thE y)))
        + ((8943 / 200000 : ℝ) : EReal) * (kRoot * (kHalf * (y * (d * v)) * ((1 + thE y) * (1 - thE y)))) * (((3 : ℝ) : EReal) * (y * y))
      = d * v * dgeluE y := by
  obtain ⟨d, rfl⟩ := hd
  obtain ⟨v, rfl⟩ := hv
  obtain ⟨y, rfl⟩ := hy
  obtain ⟨t, ht⟩ : IsReal (thE y) := by
    obtain ⟨k, hk⟩ := root_real
    refine ⟨Real.tanh (k * (y + 8943 / 200000 * (y * y * y))), ?_⟩
    rw [thE, hk]
    simp only [← EReal.coe_mul, ← EReal.coe_add, Ideal.tanh_coe]
  obtain ⟨k, hk⟩ := root_real
  rw [dgeluE, ht, hk, bits_half]
  simp only [← EReal.coe_mul, ← EReal.coe_add, ← EReal.coe_sub, ← EReal.coe_one]
  congr 1
  ring

end Cert.Ffn

end
-- ==== Proof.Reference.lean ====
/- The reference's results, read element by element. -/
module

public import proofs.«01_k».proof.Proof.Gen.ReferenceIdeal.Read
public import proofs.«01_k».proof.Proof.Finite
public import Idealize.ShloMosaic.Lib.Pointwise

@[expose] public section

set_option maxRecDepth 16384
set_option maxHeartbeats 400000
set_option pp.maxSteps 400

noncomputable section

namespace Cert.Ffn

open Cert.ReferenceIdeal Cert.ReferenceIdeal.Gen Cert.ReferenceIdeal.Read Idealize.ShloMosaic

variable (a : Args)

/-- Past the last row there is no gradient. -/
theorem Args.grad_late (s : Fin 2) (n : Fin 2816) {t : ℕ} (h : 4096 ≤ t) : a.grad s t n = 0 := by
  simp only [Args.grad, Args.cot, dif_neg (Nat.not_lt.2 h), zero_mul, ite_self]

theorem ref_v8 (t : Fin 4096) (s : Fin 2) (n : Fin 1408) : val_main_v8 (F := Ideal) a.x a.w (ix3 t s n) = a.hidden t (colS s (colJ 0 n)) := by
  pointwise [val_main_v8, val_main_v4, val_main_v5, val_main_v6, val_main_v7, val_main_v0, val_main_v1, val_main_v2, val_main_v3]
  refine Finset.sum_congr rfl fun k _ => congrArg (fun i => _ * a.w (ix2 k i)) (Fin.ext ?_)
  simp only [colS, colJ]
  omega
theorem ref_v13 (t : Fin 4096) (s : Fin 2) (n : Fin 1408) : val_main_v13 (F := Ideal) a.x a.w (ix3 t s n) = a.hidden t (colS s (colJ 1 n)) := by
  pointwise [val_main_v13, val_main_v9, val_main_v10, val_main_v11, val_main_v12, val_main_v0, val_main_v1, val_main_v2, val_main_v3]
  refine Finset.sum_congr rfl fun k _ => congrArg (fun i => _ * a.w (ix2 k i)) (Fin.ext ?_)
  simp only [colS, colJ]
  omega
theorem ref_v15 (t : Fin 4096) (n : Fin 5632) : val_main_v15 (F := Ideal) a.x a.w (ix2 t n) = a.hidden t n := by
  pointwise [val_main_v15, val_main_v14]
  by_cases h : n.val % 2816 < 1408
  · rw [dif_pos h, ref_v8]
    refine congrArg (a.hidden t) (Fin.ext ?_)
    simp only [colS, colJ]
    omega
  · rw [dif_neg h, ref_v13]
    refine congrArg (a.hidden t) (Fin.ext ?_)
    simp only [colS, colJ]
    omega
theorem ref_v17 (t : Fin 4098) (n : Fin 5632) : val_main_v17 (F := Ideal) a.x a.w (ix2 t n) = a.padded t.val n := by
  pointwise [val_main_v17, val_main_v16, val_main_cst]
  unfold Args.padded
  by_cases h : t.val < 2
  · rw [dif_pos h, dif_neg (by omega)]
  · rw [dif_neg h, dif_pos (by omega)]
    exact ref_v15 ..
theorem ref_v43 (t : Fin 4096) (n : Fin 5632) : val_main_v43 (F := Ideal) a.x a.w a.cw a.cb (ix2 t n) = a.conv t.val n := by
  pointwise [val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst_1]
  rw [ref_v17, ref_v17, ref_v17, Args.conv]
  simp only [Nat.add_comm]
theorem ref_v69 (t : Fin 4096) (n : Fin 2816) : val_main_v69 (F := Ideal) a.x a.w a.cw a.cb a.ct (ix2 t n) = a.grad 1 t.val n := by
  pointwise [val_main_v69, val_main_v67, val_main_v66, val_main_v65, val_main_v64, val_main_v63, val_main_v52, val_main_v53, val_main_v54, val_main_v55, val_main_v56, val_main_v57, val_main_v48, val_main_v47, val_main_v46, val_main_v44, val_main_cst_9, val_main_cst_8, val_main_cst_5, val_main_cst_3, val_main_cst_2]
  rw [ref_v43, quotient, Args.grad, if_neg (by decide), Args.cot, dif_pos t.isLt, mul_comm]
  refine congrArg (fun i => _ * geluE (a.conv t.val i)) (Fin.ext ?_)
  simp only [colS]
  omega
theorem ref_v82 (h : a.Real) (t : Fin 4096) (n : Fin 2816) : val_main_v82 (F := Ideal) a.x a.w a.cw a.cb a.ct (ix2 t n) = a.grad 0 t.val n := by
  pointwise [val_main_v70, val_main_v71, val_main_v72, val_main_v73, val_main_v74, val_main_v75, val_main_v76, val_main_v77, val_main_v78, val_main_v79, val_main_v80, val_main_v81, val_main_v82, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_cst_11, val_main_cst_10, val_main_cst_9, val_main_cst_8, val_main_cst_7, val_main_cst_6, val_main_cst_5, val_main_cst_4, val_main_cst_3, val_main_cst_2]
  rw [ref_v43, ref_v43, quotient, bits_three, Args.grad, if_pos (by decide), Args.cot, dif_pos t.isLt]
  have e0 : (⟨n.val, by omega⟩ : Fin 5632) = colS 0 n := Fin.ext (by simp only [colS]; omega)
  have e1 : (⟨2816 + n.val, by omega⟩ : Fin 5632) = colS 1 n := Fin.ext (by simp only [colS]; omega)
  rw [e0, e1]
  exact gate_eq (h.ct _) (h.conv _ _) (h.conv _ _)
theorem ref_v83 (h : a.Real) (t : Fin 4096) (s : Fin 2) (n : Fin 2816) : val_main_v83 (F := Ideal) a.x a.w a.cw a.cb a.ct (ix2 t (colS s n)) = a.grad s t.val n := by
  pointwise [val_main_v83]
  have hs : (colS s n).val = s.val * 2816 + n.val := rfl
  by_cases hc : (colS s n).val < 2816
  · rw [dif_pos hc]
    obtain rfl : s = 0 := by omega
    exact (congrArg (fun i => val_main_v82 (F := Ideal) a.x a.w a.cw a.cb a.ct (ix2 t i)) (Fin.ext (by simp only [colS]; omega))).trans (ref_v82 a h t n)
  · rw [dif_neg hc]
    obtain rfl : s = 1 := by omega
    exact (congrArg (fun i => val_main_v69 (F := Ideal) a.x a.w a.cw a.cb a.ct (ix2 t i)) (Fin.ext (by simp only [colS]; omega))).trans (ref_v69 a t n)
theorem ref_v119 (h : a.Real) (t : Fin 4096) (s : Fin 2) (n : Fin 2816) : val_main_v119 (F := Ideal) a.x a.w a.cw a.cb a.ct (ix2 t (colS s n)) = a.hid s t.val n := by
  pointwise [val_main_v119, val_main_v114, val_main_v113, val_main_v103, val_main_v102, val_main_v93, val_main_v88, val_main_v87, val_main_v97, val_main_v96, val_main_v108, val_main_v107, val_main_v37, val_main_v35, val_main_v34, val_main_v30, val_main_v28, val_main_v27, val_main_v22, val_main_v20, val_main_v19, val_main_cst_16, val_main_cst_20, val_main_cst_24]
  rw [Args.hid]
  refine congrArg₂ (· + ·) (congrArg₂ (· + ·) (congrArg (_ * ·) (ref_v83 a h t s n)) ?_) ?_
  · split_ifs with hc
    · rw [ref_v83 a h]
      exact congrArg (fun i => _ * a.grad s i n) (by simp only; omega)
    · rw [a.grad_late s n (by omega), mul_zero]
  · split_ifs with hc
    · rw [ref_v83 a h]
      exact congrArg (fun i => _ * a.grad s i n) (by simp only; omega)
    · rw [a.grad_late s n (by omega), mul_zero]
theorem ref_v121 (h : a.Real) (t : Fin 4096) (s : Fin 2) (n : Fin 1408) : val_main_v121 (F := Ideal) a.x a.w a.cw a.cb a.ct (ix3 t s n) = a.hid s t.val (colJ 0 n) := by
  rw [← ref_v119 a h]
  pointwise [val_main_v121, val_main_v120]
  exact congrArg (fun i => val_main_v119 (F := Ideal) a.x a.w a.cw a.cb a.ct (ix2 t i)) (Fin.ext (by simp only [colS, colJ]; omega))
theorem ref_v122 (h : a.Real) (t : Fin 4096) (s : Fin 2) (n : Fin 1408) : val_main_v122 (F := Ideal) a.x a.w a.cw a.cb a.ct (ix3 t s n) = a.hid s t.val (colJ 1 n) := by
  rw [← ref_v119 a h]
  pointwise [val_main_v122, val_main_v120]
  exact congrArg (fun i => val_main_v119 (F := Ideal) a.x a.w a.cw a.cb a.ct (ix2 t i)) (Fin.ext (by simp only [colS, colJ]; omega))
theorem ref_v125 (t : Fin 4096) (k : Fin 1024) : val_main_v125 (F := Ideal) a.x a.w a.cw a.cb a.ct (ix2 t k)
    = ∑ s : Fin 2, ∑ n : Fin 1408, val_main_v122 (F := Ideal) a.x a.w a.cw a.cb a.ct (ix3 t s n) * a.w (ix2 k (colS s (colJ 1 n))) := by
  pointwise [val_main_v125, val_main_v12, val_main_v11, val_main_v3]
  refine Finset.sum_congr rfl fun s _ => Finset.sum_congr rfl fun n _ => congrArg (fun i => _ * a.w (ix2 k i)) (Fin.ext ?_)
  simp only [colS, colJ]
  omega
theorem ref_v132 (t : Fin 4096) (k : Fin 1024) : val_main_v132 (F := Ideal) a.x a.w a.cw a.cb a.ct (ix2 t k)
    = ∑ s : Fin 2, ∑ n : Fin 1408, val_main_v121 (F := Ideal) a.x a.w a.cw a.cb a.ct (ix3 t s n) * a.w (ix2 k (colS s (colJ 0 n))) := by
  pointwise [val_main_v132, val_main_v7, val_main_v6, val_main_v3]
  refine Finset.sum_congr rfl fun s _ => Finset.sum_congr rfl fun n _ => congrArg (fun i => _ * a.w (ix2 k i)) (Fin.ext ?_)
  simp only [colS, colJ]
  omega
theorem ref_v138 (h : a.Real) : val_main_v138 (F := Ideal) a.x a.w a.cw a.cb a.ct = a.input := by
  funext y
  idx_vars y
  pointwise [val_main_v138, val_main_v137, val_main_v136, val_main_v129, val_main_v128, val_main_cst_27, val_main_cst_29, Args.input]
  obtain rfl | rfl : y0 = 0 ∨ y0 = 1 := by omega
  · rw [dif_neg (by decide), dif_pos (by decide), zero_add, ref_v132, Fin.sum_univ_two]
    simp only [ref_v121 a h, Args.half]
  · rw [dif_pos (by decide), dif_neg (by decide), add_zero, ref_v125, Fin.sum_univ_two]
    simp only [ref_v122 a h, Args.half]
theorem ref_v142 (h : a.Real) : val_main_v142 (F := Ideal) a.x a.w a.cw a.cb a.ct = a.weight := by
  funext y
  idx_vars y
  pointwise [val_main_v142, val_main_v141, val_main_v140, val_main_v139, val_main_v135, val_main_v134, val_main_v133, val_main_v131, val_main_v130, val_main_v127, val_main_v126, val_main_v124, val_main_v123, val_main_v10, val_main_v9, val_main_v5, val_main_v4, val_main_v2, val_main_v1, val_main_v0, val_main_cst_26, val_main_cst_28, Args.weight]
  obtain rfl | rfl : y1 = 0 ∨ y1 = 1 := by omega
  · rw [dif_neg (by decide), dif_pos (by decide), zero_add]
    exact Finset.sum_congr rfl fun t _ => (congrArg (· * _) (ref_v121 a h t y0 y3)).trans (mul_comm _ _)
  · rw [dif_pos (by decide), dif_neg (by decide), add_zero]
    exact Finset.sum_congr rfl fun t _ => (congrArg (· * _) (ref_v122 a h t y0 y3)).trans (mul_comm _ _)
/-- A tap's sum over the rows. -/
theorem ref_tap (h : a.Real) (s : Fin 2) (n : Fin 2816) (r : ℕ) (i : Fin 5632) (hi : i = colS s n) (u : Fin 4096 → Fin 4098)
    (hu : ∀ t, (u t).val = t.val + r) :
    ∑ t : Fin 4096, val_main_v83 (F := Ideal) a.x a.w a.cw a.cb a.ct (ix2 t i) * val_main_v17 (F := Ideal) a.x a.w (ix2 (u t) i)
      = ∑ t : Fin 4096, a.grad s t.val n * a.padded (t.val + r) (colS s n) := by
  subst hi
  simp only [ref_v83 a h, ref_v17, hu]
theorem ref_v92 (h : a.Real) (s : Fin 2) (n : Fin 2816) : val_main_v92 (F := Ideal) a.x a.w a.cw a.cb a.ct (ix1 (colS s n))
    = ∑ t : Fin 4096, a.grad s t.val n * a.padded (t.val + 2) (colS s n) := by
  pointwise [val_main_v89, val_main_v90, val_main_v91, val_main_v92, val_main_v36, val_main_cst_14, val_main_cst_15]
  rw [Fin.sum_univ_one]
  exact ref_tap a h s n 2 _ rfl _ (fun t => Nat.add_comm 2 t.val)
theorem ref_v101 (h : a.Real) (s : Fin 2) (n : Fin 2816) : val_main_v101 (F := Ideal) a.x a.w a.cw a.cb a.ct (ix1 (colS s n))
    = ∑ t : Fin 4096, a.grad s t.val n * a.padded (t.val + 1) (colS s n) := by
  pointwise [val_main_v98, val_main_v99, val_main_v100, val_main_v101, val_main_v29, val_main_cst_18, val_main_cst_19]
  rw [Fin.sum_univ_one]
  exact ref_tap a h s n 1 _ rfl _ (fun t => Nat.add_comm 1 t.val)
theorem ref_v112 (h : a.Real) (s : Fin 2) (n : Fin 2816) : val_main_v112 (F := Ideal) a.x a.w a.cw a.cb a.ct (ix1 (colS s n))
    = ∑ t : Fin 4096, a.grad s t.val n * a.padded (t.val + 0) (colS s n) := by
  pointwise [val_main_v109, val_main_v110, val_main_v111, val_main_v112, val_main_v21, val_main_cst_22, val_main_cst_23]
  rw [Fin.sum_univ_one]
  exact ref_tap a h s n 0 _ rfl _ (fun _ => rfl)
theorem ref_v144 (h : a.Real) : val_main_v144 (F := Ideal) a.x a.w a.cw a.cb a.ct = a.tap := by
  funext y
  idx_vars y
  pointwise [val_main_v144, val_main_v143, val_main_v115, val_main_v116, val_main_v117, val_main_v104, val_main_v105, val_main_v106, val_main_v94, val_main_v95, val_main_cst_17, val_main_cst_21, val_main_cst_25, Args.tap]
  split_ifs with h2 h1 h0 h0 h1 h0 h0
  · omega
  · omega
  · omega
  · have e : y1.val = 2 := by omega
    exact (add_zero _).trans ((add_zero _).trans ((ref_v92 a h y0 y2).trans (by rw [e])))
  · omega
  · have e : y1.val = 1 := by omega
    exact (add_zero _).trans ((zero_add _).trans ((ref_v101 a h y0 y2).trans (by rw [e])))
  · have e : y1.val = 0 := by omega
    exact (congrArg (· + _) (zero_add (0 : EReal))).trans ((zero_add _).trans ((ref_v112 a h y0 y2).trans (by rw [e])))
  · omega
theorem ref_v145 (h : a.Real) : val_main_v145 (F := Ideal) a.x a.w a.cw a.cb a.ct = a.bias := by
  funext y
  idx_vars y
  pointwise [val_main_v145, val_main_v84, val_main_v85, val_main_v86, val_main_cst_12, val_main_cst_13, Args.bias]
  rw [Fin.sum_univ_one]
  exact Finset.sum_congr rfl fun t _ => ref_v83 a h t y0 y2

end Cert.Ffn

end
-- ==== Proof.Precondition.lean ====
/- The precondition, and what it says of the five arguments: every element is a real number. -/
module

public import proofs.«01_k».proof.Defs
public import proofs.«01_k».proof.Proof.Blocks
public import proofs.«01_k».proof.Proof.Finite
public import Idealize.ShloMosaic.Lib.Pointwise

@[expose] public section

noncomputable section

namespace Cert.Ffn

open Idealize.ShloMosaic

/-- The broadcasts in the precondition's program. -/
theorem preFacts : Cert.Pre_finite.Facts where
  bcast_S_S4096x1024 := by decide
  bcast_S_S1024x5632 := by decide
  bcast_S_S3x5632 := by decide
  bcast_S_S5632 := by decide
  bcast_S_S4096x2816 := by decide

theorem bits_top : Ideal.ofBits .f32 0x7F800000#32 = ⊤ := by simp [Ideal.ofBits, Ideal.ieee]

/-- An element whose magnitude compares below infinity is a real number. -/
theorem isReal_of_lt {e : EReal} (h : max e (-e) < ⊤) : IsReal e := by
  refine IsReal.of_bounds ?_ ?_
  · rintro rfl
    simp at h
  · rintro rfl
    simp at h

/-- An array whose comparison with infinity is all ones holds real numbers. -/
theorem isReal_of_ones {s : Shape} (v : FVec Ideal s .f32) (hb : (⟨0, ![]⟩ : Shape).BroadcastsInDim s (![] : Fin 0 → Fin s.rank))
    (h : cmpf .olt (Host.absf v) (broadcastInDim s ![] hb (constant (F := Ideal) ⟨0, ![]⟩ .f32 0x7F800000#32)) = fun _ => 1#1) (i : s.Idx) : IsReal (v i) := by
  have e := congrFun h i
  pointwise [] at e
  rw [Ideal.absf_def, bits_top] at e
  by_cases hl : max (v i) (-(v i)) < ⊤
  · exact isReal_of_lt hl
  · rw [decide_eq_false hl] at e
    exact absurd e (by decide)

theorem args_real [Cert.Pre_finite.Facts] {m : (ℓ : Loc Cert.KernelIdeal.nD Cert.KernelIdeal.τ Cert.KernelIdeal.sig) → Buf (Elt Ideal) ℓ} (h : Cert.Pre_KernelIdeal_finite m)
    (c : Dev Cert.KernelIdeal.nD) : (argsOf m c).Real := by
  obtain ⟨h0, h1, h2, h3, h4⟩ := h c
  exact ⟨isReal_of_ones _ _ h0, isReal_of_ones _ _ h1, isReal_of_ones _ _ h2, isReal_of_ones _ _ h3, isReal_of_ones _ _ h4⟩

end Cert.Ffn

end
-- ==== Proof.Claims.lean ====
/- The two runs, each result named: the kernel's arrays and the reference's are the sums of `Spec.lean`. -/
module

public import proofs.«01_k».proof.Proof.Arrays
public import proofs.«01_k».proof.Proof.Reference
public import proofs.«01_k».proof.Proof.Precondition
public import proofs.«01_k».proof.Proof.Gen.ReferenceIdeal.Run

@[expose] public section

set_option maxRecDepth 16384

noncomputable section

namespace Cert.Ffn

open Idealize.ShloMosaic Idealize.ShloMosaic.TcCoe Idealize.ShloMosaic.StableHlo Idealize.SL.Sem

section Kernel

open Cert.KernelIdeal Cert.KernelIdeal.Gen

/-- The kernel's run: the four gradients, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v10_0) = (argsOf m c).input
      ∧ r.2.mem ((c : Thread nD τ).loc main_v10_1) = (argsOf m c).weight
      ∧ r.2.mem ((c : Thread nD τ).loc main_v10_2) = (argsOf m c).tap
      ∧ r.2.mem ((c : Thread nD τ).loc main_v10_3) = (argsOf m c).bias
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 10).trans (final_input m c), ((h c).1 11).trans (final_weight m c),
    ((h c).1 12).trans (final_tap m c), ((h c).1 13).trans (final_bias m c),
    ((h c).1 7).trans (((dats m 0 c).arrAt_in 7 rfl _).trans ((A_eq m c 7).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Kernel

section Reference

open Cert.ReferenceIdeal Cert.ReferenceIdeal.Read

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4)⟩

/-- The reference's run on real arguments: the four gradients, the arguments unchanged. -/
theorem reference_run (m : (ℓ : Loc nD τ sig) → Buf (Elt Ideal) ℓ) (ρ : Dev nD → PrngReg) (h : ∀ c, (refArgs m c).Real) :
    θ_run (defs (F := Ideal)) (onTc (τ := τ) (main (F := Ideal))) ⟨m, fun _ => 0, ρ⟩ fun r => ∀ c : Dev nD,
      r.2.mem ((c.tc : Thread nD τ).loc main_v138) = (refArgs m c).input
      ∧ r.2.mem ((c.tc : Thread nD τ).loc main_v142) = (refArgs m c).weight
      ∧ r.2.mem ((c.tc : Thread nD τ).loc main_v144) = (refArgs m c).tap
      ∧ r.2.mem ((c.tc : Thread nD τ).loc main_v145) = (refArgs m c).bias
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c => ⟨
    (hr c).1.trans ((val_main_v138_eq (launchContents m c)).trans (ref_v138 (refArgs m c) (h c))),
    (hr c).2.1.trans ((val_main_v142_eq (launchContents m c)).trans (ref_v142 (refArgs m c) (h c))),
    (hr c).2.2.1.trans ((val_main_v144_eq (launchContents m c)).trans (ref_v144 (refArgs m c) (h c))),
    (hr c).2.2.2.1.trans ((val_main_v145_eq (launchContents m c)).trans (ref_v145 (refArgs m c) (h c))),
    (hr c).2.2.2.2⟩) (Cert.ReferenceIdeal.Value.run m ρ)

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r hr => ⟨fun c => (hr c).2.2.2.2, sem_eq_zero_of_no_sems (by decide) r.2⟩) (Cert.ReferenceIdeal.Value.run m ρ)

end Reference

/-- On equal real arguments the kernel and the reference leave the same four arrays. -/
theorem algebraic [Cert.Pre_finite.Facts] : Cert.algebraic_KernelIdeal_ReferenceIdeal_pre_finite := by
  intro m g m' g' hp he
  have hc : ∀ c, refArgs m' c = argsOf m c := fun c => by
    obtain ⟨h0, h1, h2, h3, h4⟩ := he c
    simp only [refArgs, argsOf, Args.mk.injEq]
    exact ⟨h0, h1, h2, h3, h4⟩
  refine ⟨fun c => (argsOf m c).input, fun c => (argsOf m c).weight, fun c => (argsOf m c).tap, fun c => (argsOf m c).bias,
    kernel_run m g, ?_⟩
  refine (θ_run Cert.ReferenceIdeal.defs _ _).mono (fun r h c => ?_) (reference_run m' g' fun c => hc c ▸ args_real hp c)
  obtain ⟨h0, h1, h2, h3, hk⟩ := h c
  exact ⟨h0.trans (congrArg Args.input (hc c)), h1.trans (congrArg Args.weight (hc c)), h2.trans (congrArg Args.tap (hc c)),
    h3.trans (congrArg Args.bias (hc c)), hk⟩

end Cert.Ffn

end
-- ==== Proof.DownInput.lean ====
/- The gradient of the down projection's input: row `t`, column `n` is the product of row `t` of the result's gradient
   and row `n` of the weight. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Ffn.DownInput

open Idealize.ShloMosaic Idealize.ShloMosaic.TcCoe Idealize.ShloMosaic.StableHlo Idealize.SL.Sem

section Kernel

open Cert.Kernel2Ideal Cert.Kernel2Ideal.Gen

/-- The gradient `dz · wᵀ`. -/
def input (w : Vec Ideal S2816x1024 .f32) (dz : Vec Ideal S4096x1024 .f32) : Vec Ideal S4096x2816 .bf16 := fun i =>
  ∑ k : Fin 1024, dz (ix2 (i 0) k) * w (ix2 (i 1) k)

variable (m : (ℓ : Loc nD τ sig) → Buf (Elt Ideal) ℓ)

theorem idx : ∀ t : Fin cfg0.N, win0_0.index t = ![t.val, 0] ∧ win0_1.index t = ![0, 0] ∧ win0_2.index t = ![t.val, 0] := by
  show ∀ t : Fin grid0.N, _
  decide +kernel

theorem t_lt (t : Fin cfg0.N) : t.val < 8 := Nat.lt_of_lt_of_eq t.isLt N_0

theorem host_w (c : Dev nD) (n : Fin 2816) (k : Fin 1024) :
    V m c main_v0 (ix2 n k) = m ((c : Thread nD τ).loc main_arg0) (ix2 n k) := by
  entry_read
  pointwise []

theorem blk_dz (c : Dev nD) (t : Fin cfg0.N) (r : Fin 512) (k : Fin 1024) :
    iblk m c 0 t (ix2 r k) = m ((c : Thread nD τ).loc main_arg1) (ix2 ⟨512 * t.val + r.val, by have := t_lt t; omega⟩ k) := by
  rw [← V_main_arg1 m c]
  blk_ext [iblk, idx t]

theorem blk_w (c : Dev nD) (t : Fin cfg0.N) (n : Fin 2816) (k : Fin 1024) :
    iblk m c 1 t (ix2 n k) = m ((c : Thread nD τ).loc main_arg0) (ix2 n k) := by
  rw [← host_w m c]
  blk_ext [iblk, idx t]

theorem out_apply (x : Vec Ideal S512x1024 .f32) (w : Vec Ideal S2816x1024 .bf16) (r : Fin 512) (n : Fin 2816) :
    out0_2 x w (ix2 r n) = ∑ k : Fin 1024, x (ix2 r k) * w (ix2 n k) := by
  unfold out0_2
  frame_out
  pointwise [k0_pay1]

theorem final (c : Dev nD) : (dats m 0 c).arrAt 2 cfg0.N = input (m ((c : Thread nD τ).loc main_arg0)) (m ((c : Thread nD τ).loc main_arg1)) := by
  refine (dats m 0 c).arrAt_eq_of_covers 2 _ (by decide +kernel) fun t hf y => ?_
  idx_vars y
  blk_simp
  rw [after0_2, out_apply]
  simp only [blk_dz, blk_w]
  refine Eq.trans (b := input (m ((c : Thread nD τ).loc main_arg0)) (m ((c : Thread nD τ).loc main_arg1))
    (ix2 ⟨512 * t.val + y0.val, by have := t_lt t; omega⟩ y1)) rfl ?_
  blk_ext [idx t]

end Kernel

section Reference

open Cert.Reference2Ideal Cert.Reference2Ideal.Read

theorem ref_v3 (w : Vec Ideal S2816x1024 .f32) (dz : Vec Ideal S4096x1024 .f32) : val_main_v3 (F := Ideal) w dz = input w dz := by
  funext i
  idx_vars i
  pointwise [val_main_v3, val_main_v2]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference2Ideal.Value.run m ρ)

end Reference

/-- On equal arguments the kernel and the reference leave the same array. -/
theorem algebraic : Cert.algebraic_Kernel2Ideal_Reference2Ideal := by
  intro m g m' g' _ he
  refine ⟨fun c => input (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans (final m c), (h c).2⟩) (Cert.Kernel2Ideal.Value.run_blocks m g)
  · refine (θ_run Cert.Reference2Ideal.defs _ _).mono (fun r h c => ⟨(h c).1.trans ((Cert.Reference2Ideal.Read.val_main_v3_eq _ _).trans ((ref_v3 _ _).trans ?_)), (h c).2⟩)
      (Cert.Reference2Ideal.Value.run m' g')
    exact congrArg₂ input (he c).1 (he c).2

end Cert.Ffn.DownInput

end
-- ==== Proof.DownWeight.lean ====
/- The gradient of the down projection's weight: row `n`, column `k` is the sum over all rows of the activation's column
   `n` times the result's gradient's column `k`. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Ffn.DownWeight

open Idealize.ShloMosaic Idealize.ShloMosaic.TcCoe Idealize.ShloMosaic.StableHlo Idealize.SL.Sem

section Kernel

open Cert.Kernel3Ideal Cert.Kernel3Ideal.Gen

/-- The gradient `fᵀ · dz`. -/
def weight (f : Vec Ideal S4096x2816 .f32) (dz : Vec Ideal S4096x1024 .f32) : Vec Ideal S2816x1024 .bf16 := fun i =>
  ∑ t : Fin 4096, f (ix2 t (i 0)) * dz (ix2 t (i 1))

/-- One tile's part: the sum over its 2048 rows. -/
def part (x : Vec Ideal S2048x1408 .bf16) (z : Vec Ideal S2048x1024 .f32) : Vec Ideal S1408x1024 .f32 := fun i =>
  ∑ r : Fin 2048, x (ix2 r (i 0)) * z (ix2 r (i 1))

variable (m : (ℓ : Loc nD τ sig) → Buf (Elt Ideal) ℓ)

theorem idx : ∀ t : Fin cfg0.N, win0_0.index t = ![t.val % 2, t.val / 2] ∧ win0_1.index t = ![t.val % 2, 0] ∧ win0_2.index t = ![t.val / 2, 0] := by
  show ∀ t : Fin grid0.N, _
  decide +kernel

theorem t_lt (t : Fin cfg0.N) : t.val < 4 := Nat.lt_of_lt_of_eq t.isLt N_0

/-- The launch's arguments on core `c`. -/
abbrev fOf (c : Dev nD) : Vec Ideal S4096x2816 .f32 := m ((c : Thread nD τ).loc main_arg0)
abbrev dzOf (c : Dev nD) : Vec Ideal S4096x1024 .f32 := m ((c : Thread nD τ).loc main_arg1)

theorem host_f (c : Dev nD) (r : Fin 4096) (n : Fin 2816) :
    V m c main_v0 (ix2 r n) = fOf m c (ix2 r n) := by
  entry_read
  pointwise []

theorem blk_f (c : Dev nD) (t : Fin cfg0.N) (r : Fin 2048) (n : Fin 1408) :
    iblk m c 0 t (ix2 r n) = fOf m c
      (ix2 ⟨2048 * (t.val % 2) + r.val, by omega⟩ ⟨1408 * (t.val / 2) + n.val, by have := t_lt t; omega⟩) := by
  rw [← host_f m c]
  blk_ext [iblk, idx t]

theorem blk_dz (c : Dev nD) (t : Fin cfg0.N) (r : Fin 2048) (k : Fin 1024) :
    iblk m c 1 t (ix2 r k) = dzOf m c (ix2 ⟨2048 * (t.val % 2) + r.val, by omega⟩ k) := by
  rw [show dzOf m c = V m c main_arg1 from (V_main_arg1 m c).symm]
  blk_ext [iblk, idx t]

theorem product (x : Vec Ideal S2048x1408 .bf16) (z : Vec Ideal S2048x1024 .f32) (i : S1408x1024.Idx) :
    k0_pay1 (F := Ideal) x z i = part x z i := by
  idx_vars i
  pointwise [k0_pay1]
  rfl

/-- After a run's first point the scratch holds the first tile's part. -/
theorem first (c : Dev nD) (t : Fin cfg0.N) (h0 : t.val % 2 = 0) (h1 : ¬t.val % 2 = 1) (i : S1408x1024.Idx) :
    (outsAt0 m c t.val t.isLt).2 i = part (iblk m c 0 t) (iblk m c 1 t) i := by
  rw [outsAt0_A m c t h0 h1 h1]
  dsimp only
  frame_open
  frame_out
  rw [← product]
  idx_vars i
  pointwise [k0_pay2]

/-- A run's last point writes the two tiles' parts. -/
theorem last (c : Dev nD) (t : Fin cfg0.N) (h0 : ¬t.val % 2 = 0) (h1 : t.val % 2 = 1) (i : S1408x1024.Idx) :
    (outsAt0 m c t.val t.isLt).1 i = (outsAt0 m c (t.val - 1) (Nat.lt_of_le_of_lt (Nat.sub_le _ _) t.isLt)).2 i
      + part (iblk m c 0 t) (iblk m c 1 t) i := by
  rw [outsAt0_B m c t h0 h1 h1]
  dsimp only
  frame_open
  simp (disch := decide) only [↓ View.readCov_cons_toLoadRect]
  frame_out
  rw [← product]
  generalize outsAt0 m c (t.val - 1) _ = s
  idx_vars i
  pointwise [k0_pay3, k0_pay4]
  exact congrArg (· + _) (congrFun (Memref.IsWhole.read_unread _ _) _)

/-- A tile's part in terms of the arguments. -/
theorem part_at (c : Dev nD) (t : Fin cfg0.N) {p q : ℕ} (hp : t.val % 2 = p) (hq : t.val / 2 = q) (hp' : p < 2) (hq' : q < 2) (n : Fin 1408) (k : Fin 1024) :
    part (iblk m c 0 t) (iblk m c 1 t) (ix2 n k) = ∑ r : Fin 2048, fOf m c (ix2 ⟨2048 * p + r.val, by omega⟩ ⟨1408 * q + n.val, by omega⟩)
      * dzOf m c (ix2 ⟨2048 * p + r.val, by omega⟩ k) := by
  subst hp hq
  exact Finset.sum_congr rfl fun r _ => congrArg₂ (fun a b : EReal => a * b) (blk_f m c t r n) (blk_dz m c t r k)

/-- The two tiles' rows are all the rows. -/
theorem sum_halves (f : Fin 4096 → EReal) :
    (∑ r : Fin 2048, f ⟨r.val, by omega⟩) + ∑ r : Fin 2048, f ⟨2048 + r.val, by omega⟩ = ∑ t : Fin 4096, f t :=
  (Fin.sum_univ_add (a := 2048) (b := 2048) f).symm

theorem final (c : Dev nD) : (dats m 0 c).arrAt 2 cfg0.N = weight (fOf m c) (dzOf m c) := by
  refine (dats m 0 c).arrAt_eq_of_covers 2 _ (by decide +kernel) fun t hf y => ?_
  have ht : t.val % 2 = 1 := (flush0_2 t).mp hf
  have h4 := t_lt t
  idx_vars y
  blk_simp
  rw [after0_2, last m c t (by omega) ht, first m c ⟨t.val - 1, Nat.lt_of_le_of_lt (Nat.sub_le _ _) t.isLt⟩ (by show (t.val - 1) % 2 = 0; omega) (by show ¬(t.val - 1) % 2 = 1; omega)]
  refine Eq.trans (b := weight (fOf m c) (dzOf m c)
    (ix2 ⟨1408 * (t.val / 2) + y0.val, by omega⟩ y1)) ?_ ?_
  · rw [part_at m c t ht rfl (by omega) (by omega),
      part_at m c ⟨t.val - 1, Nat.lt_of_le_of_lt (Nat.sub_le _ _) t.isLt⟩ (p := 0) (q := t.val / 2) (by show (t.val - 1) % 2 = 0; omega) (by show (t.val - 1) / 2 = t.val / 2; omega) (by omega) (by omega)]
    refine Eq.trans ?_ (sum_halves fun u => fOf m c (ix2 u ⟨1408 * (t.val / 2) + y0.val, by omega⟩) * dzOf m c (ix2 u y1))
    refine congrArg (· + _) (Finset.sum_congr rfl fun r _ => ?_)
    simp only [Nat.mul_zero, Nat.zero_add]
  · blk_ext [idx t]

end Kernel

section Reference

open Cert.Reference3Ideal Cert.Reference3Ideal.Read

theorem ref_v4 (f : Vec Ideal S4096x2816 .f32) (dz : Vec Ideal S4096x1024 .f32) : val_main_v4 (F := Ideal) f dz = weight f dz := by
  funext i
  idx_vars i
  pointwise [val_main_v4, val_main_v3, val_main_v2]
  exact Finset.sum_congr rfl fun _ _ => mul_comm _ _

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference3Ideal.Value.run m ρ)

end Reference

/-- On equal arguments the kernel and the reference leave the same array. -/
theorem algebraic : Cert.algebraic_Kernel3Ideal_Reference3Ideal := by
  intro m g m' g' _ he
  refine ⟨fun c => weight (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (final m c), (h c).2⟩) (Cert.Kernel3Ideal.Value.run_blocks m g)
  · refine (θ_run Cert.Reference3Ideal.defs _ _).mono (fun r h c => ⟨(h c).1.trans ((Cert.Reference3Ideal.Read.val_main_v4_eq _ _).trans ((ref_v4 _ _).trans ?_)), (h c).2⟩)
      (Cert.Reference3Ideal.Value.run m' g')
    exact congrArg₂ weight (he c).1 (he c).2

end Cert.Ffn.DownWeight

end
-- ==== Proof.UpPoint.lean ====
/- The forward up projection at one point of the grid: a tile's hidden rows, its convolved rows and its product of the
   gelu of the gate and the value, from the point's blocks and the carried rows. -/
module

public import proofs.«01_k».proof.Proof.Spec
public import proofs.«01_k».proof.Proof.Gen.Kernel4Ideal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384
set_option maxHeartbeats 1000000

noncomputable section

namespace Cert.Ffn.Up

open Cert.Kernel4Ideal Cert.Kernel4Ideal.Gen Idealize.ShloMosaic Idealize.ShloMosaic.TcCoe Idealize.SL.Sem

theorem cubic_eq : Named.named (F := Ideal) κ "cubic" (φ := .f32) 0x3D372713#32 = ((8943 / 200000 : ℝ) : EReal) :=
  IdealRules.named_const.ideal_named_scalar _ _ _ _ rfl

/-- The blocks of a point. -/
structure Blk where
  x : Vec Ideal S512x1024 .f32
  wg : Vec Ideal S1x1024x1408 .bf16
  wv : Vec Ideal S1x1024x1408 .bf16
  cw : Vec Ideal S2x3x1408 .f32
  cb : Vec Ideal S2x1x1408 .f32

namespace Blk
variable (b : Blk) (p : Vec Ideal S2x8x1408 .f32)

/-- The tile's hidden rows. -/
def hid (s : Fin 2) (r : Fin 512) (n : Fin 1408) : EReal :=
  ∑ k : Fin 1024, b.x (ix2 r k) * (if s.val = 0 then b.wg else b.wv) (ix3 0 k n)
/-- The eight carried rows and the tile's. -/
def ext (s : Fin 2) (r : Fin 520) (n : Fin 1408) : EReal :=
  if h : r.val < 8 then p (ix3 s ⟨r.val, h⟩ n) else b.hid s ⟨r.val - 8, by omega⟩ n
/-- The convolved rows. -/
def pre (s : Fin 2) (r : Fin 512) (n : Fin 1408) : EReal :=
  b.cw (ix3 s 0 n) * b.ext p s ⟨r.val + 6, by omega⟩ n + b.cw (ix3 s 1 n) * b.ext p s ⟨r.val + 7, by omega⟩ n
    + b.cw (ix3 s 2 n) * b.ext p s ⟨r.val + 8, by omega⟩ n + b.cb (ix3 s 0 n)

def hidOut : Vec Ideal S2x512x1408 .f32 := fun y => b.hid (y 0) (y 1) (y 2)
def carry : Vec Ideal S2x8x1408 .f32 := fun y => b.hid (y 0) ⟨504 + (y 1).val, by have : (y 1).val < 8 := (y 1).isLt; omega⟩ (y 2)
def out : Vec Ideal S512x1408 .bf16 := fun y => geluE (b.pre p 0 (y 0) (y 1)) * b.pre p 1 (y 0) (y 1)

end Blk

variable (m : (ℓ : Loc nD τ sig) → Buf (Elt Ideal) ℓ)

def blkAt (c : Dev nD) (t : Fin cfg0.N) : Blk := ⟨iblk m c 0 t, iblk m c 1 t, iblk m c 2 t, iblk m c 3 t, iblk m c 4 t⟩

theorem prev_lt (t : Fin cfg0.N) : t.val - 1 < cfg0.N := Nat.lt_of_le_of_lt (Nat.sub_le ..) t.isLt

/-! ## The payloads -/

variable (b : Blk) (p : Vec Ideal S2x8x1408 .f32) (v11 : Vec Ideal S1x8x1408 .f32) (v18 : Vec Ideal S1x3x1408 .f32) (v20 : Vec Ideal S1x1x1408 .f32)

theorem pay4_eq (r : Fin 512) (n : Fin 1408) : k0_pay4 (F := Ideal) b.x b.wg (ix2 r n) = b.hid 0 r n := by
  unfold Blk.hid
  rw [if_pos (show (0 : Fin 2).val = 0 from rfl)]
  pointwise [k0_pay4, k0_pay3]
theorem pay13_eq (r : Fin 512) (n : Fin 1408) : k0_pay13 (F := Ideal) (k0_pay3 b.x) b.wv (ix2 r n) = b.hid 1 r n := by
  unfold Blk.hid
  rw [if_neg (show ¬(1 : Fin 2).val = 0 by decide)]
  pointwise [k0_pay13, k0_pay3]
theorem pay6_eq (h : ∀ q n, v11 (ix3 0 q n) = p (ix3 0 q n)) (r : Fin 520) (n : Fin 1408) :
    k0_pay6 (F := Ideal) b.x b.wg v11 (ix2 r n) = b.ext p 0 r n := by
  unfold Blk.ext
  pointwise [k0_pay6]
  split_ifs <;> first | exact h _ _ | exact pay4_eq ..
theorem pay15_eq (h : ∀ q n, v11 (ix3 0 q n) = p (ix3 1 q n)) (r : Fin 520) (n : Fin 1408) :
    k0_pay15 (F := Ideal) (k0_pay3 b.x) b.wv v11 (ix2 r n) = b.ext p 1 r n := by
  unfold Blk.ext
  pointwise [k0_pay15]
  split_ifs <;> first | exact h _ _ | exact pay13_eq ..

theorem late (k : ℕ) (hk : k ≤ 2) (r : Fin 512) (h : (8 + r.val + 520 - k) % 520 < 520) (h' : r.val + (8 - k) < 520) :
    (⟨(8 + r.val + 520 - k) % 520, h⟩ : Fin 520) = ⟨r.val + (8 - k), h'⟩ :=
  Fin.ext (by show (8 + r.val + 520 - k) % 520 = r.val + (8 - k); omega)

theorem gate_eq (h : ∀ q n, v11 (ix3 0 q n) = p (ix3 0 q n)) (h3 : ∀ k n, v18 (ix3 0 k n) = b.cw (ix3 0 k n)) (h1 : ∀ n, v20 (ix3 0 0 n) = b.cb (ix3 0 0 n))
    (r : Fin 512) (n : Fin 1408) :
    k0_pay12 (F := Ideal) (k0_pay6 b.x b.wg v11) (k0_pay8 v18) (k0_pay9 v20) (k0_pay10 b.x b.wg v11 v18) (k0_pay11 b.x b.wg v11 v18) (ix2 r n) = b.pre p 0 r n := by
  unfold Blk.pre
  pointwise [k0_pay12, k0_pay10, k0_pay11, k0_pay8, k0_pay9]
  rw [pay6_eq b p v11 h, pay6_eq b p v11 h, pay6_eq b p v11 h, h3, h3, h3, h1, late 2 (by omega) r _ (by omega), late 1 (by omega) r _ (by omega)]
  simp only [Nat.add_comm 8]

/-- The stored product in terms of the convolved gate and the value's parts. -/
theorem product (g : FVec Ideal S512x1408 .f32) (u : Vec Ideal S1x8x1408 .f32) (w3 : Vec Ideal S1x3x1408 .f32) (w1 : Vec Ideal S1x1x1408 .f32)
    (hg : ∀ r n, g (ix2 r n) = b.pre p 0 r n)
    (h : ∀ q n, u (ix3 0 q n) = p (ix3 1 q n)) (h3 : ∀ k n, w3 (ix3 0 k n) = b.cw (ix3 1 k n)) (h1 : ∀ n, w1 (ix3 0 0 n) = b.cb (ix3 1 0 n))
    (r : Fin 512) (n : Fin 1408) :
    k0_pay1 (F := Ideal) g (k0_pay18 w1) (k0_pay19 (k0_pay3 b.x) b.wv u w3) (k0_pay20 (k0_pay3 b.x) b.wv u w3) (ix2 r n) = b.out p (ix2 r n) := by
  show _ = geluE (b.pre p 0 r n) * b.pre p 1 r n
  rw [← hg, Blk.pre]
  pointwise [k0_pay1, k0_pay18, k0_pay19, k0_pay20, k0_pay17, geluE, thE]
  rw [pay15_eq b p u h, pay15_eq b p u h, pay15_eq b p u h, h3, h3, h3, h1, late 2 (by omega) r _ (by omega), late 1 (by omega) r _ (by omega)]
  rw [cubic_eq]
  simp only [Nat.add_comm 8]

/-! ## The loads of one half -/

theorem ld_p (s : ℕ) (hs : s < 2) (h) (q : Fin 8) (n : Fin 1408) :
    View.ld p (Rect.unit (s := S2x8x1408) ![s, 0, 0] ![1, 8, 1408] h) (ix3 0 q n) = p (ix3 ⟨s, hs⟩ q n) := by
  refine congrArg p (funext fun a => ?_)
  fin_cases a <;> exact Fin.ext (by show _ + 1 * _ = _; first | exact Nat.add_zero _ | exact (Nat.zero_add _).trans (Nat.one_mul _))
theorem ld_cw (s : ℕ) (hs : s < 2) (h) (q : Fin 3) (n : Fin 1408) (x : Vec Ideal S2x3x1408 .f32) :
    View.ld x (Rect.unit (s := S2x3x1408) ![s, 0, 0] ![1, 3, 1408] h) (ix3 0 q n) = x (ix3 ⟨s, hs⟩ q n) := by
  refine congrArg x (funext fun a => ?_)
  fin_cases a <;> exact Fin.ext (by show _ + 1 * _ = _; first | exact Nat.add_zero _ | exact (Nat.zero_add _).trans (Nat.one_mul _))
theorem ld_cb (s : ℕ) (hs : s < 2) (h) (n : Fin 1408) (x : Vec Ideal S2x1x1408 .f32) :
    View.ld x (Rect.unit (s := S2x1x1408) ![s, 0, 0] ![1, 1, 1408] h) (ix3 0 0 n) = x (ix3 ⟨s, hs⟩ 0 n) := by
  refine congrArg x (funext fun a => ?_)
  fin_cases a <;> exact Fin.ext (by show _ + 1 * _ = _; first | exact Nat.add_zero _ | exact (Nat.zero_add _).trans (Nat.one_mul _))

/-! ## The stores of the two halves -/

theorem hid_canon (y : S2x512x1408.Idx) :
    View.canon [⟨Rect.unit ![1, 0, 0] ![1, 512, 1408] inb_S2x512x1408_S1x512x1408_1_0_0, k0_pay14 (k0_pay3 b.x) b.wv⟩,
      ⟨Rect.unit ![0, 0, 0] ![1, 512, 1408] inb_S2x512x1408_S1x512x1408_0_0_0, k0_pay5 b.x b.wg⟩] y = b.hidOut y := by
  refine View.canon_append_of_piecesOf b.hidOut [] [_, _] ⟨fun x => ?_, fun x => ?_, trivial⟩ y (View.cover_of_tiledBy _ ![1, 512, 1408] (by sl_kernel_rfl) y)
  · idx_vars x
    obtain rfl : x0 = 0 := Subsingleton.elim (α := Fin 1) _ _
    refine (show _ = b.hid 1 x1 x2 from ?_).trans (congrArg b.hidOut (show ix3 1 x1 x2 = _ from ?_))
    · pointwise [k0_pay14]
      exact pay13_eq ..
    · funext a
      fin_cases a
      · rfl
      · exact Fin.ext (by show x1.val = 0 + 1 * x1.val; omega)
      · exact Fin.ext (by show x2.val = 0 + 1 * x2.val; omega)
  · idx_vars x
    obtain rfl : x0 = 0 := Subsingleton.elim (α := Fin 1) _ _
    refine (show _ = b.hid 0 x1 x2 from ?_).trans (congrArg b.hidOut (show ix3 0 x1 x2 = _ from ?_))
    · pointwise [k0_pay5]
      exact pay4_eq ..
    · funext a
      fin_cases a
      · rfl
      · exact Fin.ext (by show x1.val = 0 + 1 * x1.val; omega)
      · exact Fin.ext (by show x2.val = 0 + 1 * x2.val; omega)

theorem carry_canon (L : List (View.Piece (Elt Ideal) S2x8x1408 .f32)) (y : S2x8x1408.Idx) :
    View.canon (⟨Rect.unit ![1, 0, 0] ![1, 8, 1408] inb_S2x8x1408_S1x8x1408_1_0_0, k0_pay16 (k0_pay3 b.x) b.wv⟩ ::
      ⟨Rect.unit ![0, 0, 0] ![1, 8, 1408] inb_S2x8x1408_S1x8x1408_0_0_0, k0_pay7 b.x b.wg⟩ :: L) y = b.carry y := by
  refine View.canon_append_of_piecesOf b.carry L [_, _] ⟨fun x => ?_, fun x => ?_, trivial⟩ y (View.cover_of_tiledBy _ ![1, 8, 1408] (by sl_kernel_rfl) y)
  · idx_vars x
    obtain rfl : x0 = 0 := Subsingleton.elim (α := Fin 1) _ _
    refine (show _ = b.hid 1 ⟨504 + x1.val, by omega⟩ x2 from ?_).trans (congrArg b.carry (show ix3 1 x1 x2 = _ from ?_))
    · pointwise [k0_pay16]
      exact pay13_eq ..
    · funext a
      fin_cases a
      · rfl
      · exact Fin.ext (by show x1.val = 0 + 1 * x1.val; omega)
      · exact Fin.ext (by show x2.val = 0 + 1 * x2.val; omega)
  · idx_vars x
    obtain rfl : x0 = 0 := Subsingleton.elim (α := Fin 1) _ _
    refine (show _ = b.hid 0 ⟨504 + x1.val, by omega⟩ x2 from ?_).trans (congrArg b.carry (show ix3 0 x1 x2 = _ from ?_))
    · pointwise [k0_pay7]
      exact pay4_eq ..
    · funext a
      fin_cases a
      · rfl
      · exact Fin.ext (by show x1.val = 0 + 1 * x1.val; omega)
      · exact Fin.ext (by show x2.val = 0 + 1 * x2.val; omega)

theorem hid_A (c : Dev nD) (t : Fin cfg0.N) (h0 : t.val % 8 = 0) : (outsAt0 m c t.val t.isLt).1 = (blkAt m c t).hidOut := by
  funext y
  rw [outsAt0_A m c t h0]
  dsimp only
  frame_open
  frame_out
  exact hid_canon (blkAt m c t) y

theorem carry_A (c : Dev nD) (t : Fin cfg0.N) (h0 : t.val % 8 = 0) : (outsAt0 m c t.val t.isLt).2.2 = (blkAt m c t).carry := by
  funext y
  rw [outsAt0_A m c t h0]
  dsimp only
  frame_open
  frame_out
  exact carry_canon (blkAt m c t) _ y

theorem out_A (c : Dev nD) (t : Fin cfg0.N) (h0 : t.val % 8 = 0) : (outsAt0 m c t.val t.isLt).2.1 = (blkAt m c t).out (k0_pay2 (F := Ideal)) := by
  funext y
  rw [outsAt0_A m c t h0]
  dsimp only
  frame_open
  simp (disch := decide) only [↓ View.readCov_skip, ↓ View.readCov_cons_toLoadRect, ↓ View.readCov_fill]
  frame_out
  idx_vars y
  refine product (blkAt m c t) _ _ _ _ _ (fun r n => gate_eq (blkAt m c t) _ _ _ _ ?_ ?_ ?_ r n) ?_ ?_ ?_ y0 y1
  · exact fun q n => ld_p _ 0 (by decide) _ q n
  · exact fun q n => ld_cw 0 (by decide) _ q n _
  · exact fun n => ld_cb 0 (by decide) _ n _
  · exact fun q n => ld_p _ 1 (by decide) _ q n
  · exact fun q n => ld_cw 1 (by decide) _ q n _
  · exact fun n => ld_cb 1 (by decide) _ n _

theorem hid_B (c : Dev nD) (t : Fin cfg0.N) (h0 : ¬t.val % 8 = 0) : (outsAt0 m c t.val t.isLt).1 = (blkAt m c t).hidOut := by
  funext y
  rw [outsAt0_B m c t h0]
  dsimp only
  frame_open
  frame_out
  exact hid_canon (blkAt m c t) y

theorem carry_B (c : Dev nD) (t : Fin cfg0.N) (h0 : ¬t.val % 8 = 0) : (outsAt0 m c t.val t.isLt).2.2 = (blkAt m c t).carry := by
  funext y
  rw [outsAt0_B m c t h0]
  dsimp only
  frame_open
  frame_out
  exact carry_canon (blkAt m c t) _ y

theorem out_B (c : Dev nD) (t : Fin cfg0.N) (h0 : ¬t.val % 8 = 0) : (outsAt0 m c t.val t.isLt).2.1 = (blkAt m c t).out (outsAt0 m c (t.val - 1) (prev_lt t)).2.2 := by
  funext y
  rw [outsAt0_B m c t h0]
  dsimp only
  frame_open
  simp (disch := decide) only [↓ View.readCov_skip, ↓ View.readCov_cons_toLoadRect, ↓ View.readCov_fill]
  frame_out
  simp only [read_unread_whole]
  idx_vars y
  refine product (blkAt m c t) _ _ _ _ _ (fun r n => gate_eq (blkAt m c t) _ _ _ _ ?_ ?_ ?_ r n) ?_ ?_ ?_ y0 y1
  · exact fun q n => ld_p _ 0 (by decide) _ q n
  · exact fun q n => ld_cw 0 (by decide) _ q n _
  · exact fun n => ld_cb 0 (by decide) _ n _
  · exact fun q n => ld_p _ 1 (by decide) _ q n
  · exact fun q n => ld_cw 1 (by decide) _ q n _
  · exact fun n => ld_cb 1 (by decide) _ n _

end Cert.Ffn.Up

end
-- ==== Proof.UpForward.lean ====
/- The forward up projection's arrays after the run, the reference's, and their equality: the hidden rows, and the gelu of
   the convolved gate times the convolved value. -/
module

public import proofs.«01_k».proof.Defs
public import proofs.«01_k».proof.Proof.UpPoint
public import proofs.«01_k».proof.Proof.Finite
public import proofs.«01_k».proof.Proof.Gen.Kernel4Ideal.Value
public import proofs.«01_k».proof.Proof.Gen.Reference4Ideal.Run
public import proofs.«01_k».proof.Proof.Gen.Reference4Ideal.Read
public import Idealize.ShloMosaic.Lib.Quiescent

@[expose] public section

set_option maxRecDepth 16384
set_option maxHeartbeats 400000

noncomputable section

namespace Cert.Ffn

open Idealize.ShloMosaic

/-- The hidden rows, the gate's and the value's columns apart. -/
def Args.rows (a : Args) : Vec Ideal Cert.Kernel4Ideal.S2x4096x2816 .f32 := fun y => a.hidden (y 1) (colS (y 0) (y 2))
/-- The gelu of the convolved gate times the convolved value. -/
def Args.act (a : Args) : Vec Ideal Cert.Kernel4Ideal.S4096x2816 .bf16 := fun y =>
  geluE (a.conv (y 0).val (colS 0 (y 1))) * a.conv (y 0).val (colS 1 (y 1))

namespace Up

open Idealize.ShloMosaic Idealize.ShloMosaic.TcCoe Idealize.ShloMosaic.StableHlo Idealize.SL.Sem

section Kernel

open Cert.Kernel4Ideal Cert.Kernel4Ideal.Gen

variable (m : (ℓ : Loc nD τ sig) → Buf (Elt Ideal) ℓ)

/-- The launch's arguments on core `c`; there is no cotangent. -/
def argsOf (c : Dev nD) : Args :=
  ⟨m ((c : Thread nD τ).loc main_arg0), m ((c : Thread nD τ).loc main_arg1), m ((c : Thread nD τ).loc main_arg2),
   m ((c : Thread nD τ).loc main_arg3), fun _ => (0 : EReal)⟩

/-- The block each window is on at each point. -/
theorem idx : ∀ t : Fin cfg0.N,
    win0_0.index t = ![t.val % 8, 0] ∧ win0_1.index t = ![t.val / 8, 0, 0] ∧ win0_2.index t = ![2 + t.val / 8, 0, 0]
    ∧ win0_3.index t = ![0, 0, t.val / 8] ∧ win0_4.index t = ![0, 0, t.val / 8]
    ∧ win0_5.index t = ![0, t.val % 8, t.val / 8] ∧ win0_6.index t = ![t.val % 8, t.val / 8] := by
  show ∀ t : Fin grid0.N, _
  decide +kernel

theorem host_w (c : Dev nD) (q : Fin 4) (k : Fin 1024) (n : Fin 1408) :
    V m c main_v2 (ix3 q k n) = (argsOf m c).w (ix2 k ⟨q.val * 1408 + n.val, by omega⟩) := by
  entry_read
  pointwise [argsOf]

theorem host_cw (c : Dev nD) (s : Fin 2) (k : Fin 3) (n : Fin 2816) :
    V m c main_v4 (ix3 s k n) = (argsOf m c).cw (ix2 k (colS s n)) := by
  entry_read
  pointwise [argsOf, colS]

theorem host_cb (c : Dev nD) (s : Fin 2) (n : Fin 2816) :
    V m c main_v5 (ix3 s 0 n) = (argsOf m c).cb (ix1 (colS s n)) := by
  entry_read
  pointwise [argsOf, colS]

/-- A point's tile and half. -/
def iOf (t : Fin cfg0.N) : Fin 8 := ⟨t.val % 8, Nat.mod_lt _ (by decide)⟩
theorem t_lt (t : Fin cfg0.N) : t.val < 16 := Nat.lt_of_lt_of_eq t.isLt N_0
def jOf (t : Fin cfg0.N) : Fin 2 := ⟨t.val / 8, by have := t_lt t; omega⟩

theorem blk_x (c : Dev nD) (t : Fin cfg0.N) (r : Fin 512) (k : Fin 1024) :
    iblk m c 0 t (ix2 r k) = (argsOf m c).x (ix2 ⟨512 * (iOf t).val + r.val, by omega⟩ k) := by
  rw [show (argsOf m c).x = V m c main_arg0 from (V_main_arg0 m c).symm]
  unfold iOf
  blk_ext [iblk, idx t]

theorem blk_wg (c : Dev nD) (t : Fin cfg0.N) (k : Fin 1024) (n : Fin 1408) :
    iblk m c 1 t (ix3 0 k n) = (argsOf m c).w (ix2 k (colS 0 (colJ (jOf t) n))) := by
  refine Eq.trans (b := V m c main_v2 (ix3 ⟨(jOf t).val, by omega⟩ k n)) ?_ ((host_w m c _ k n).trans (congrArg (fun i => (argsOf m c).w (ix2 k i)) (Fin.ext ?_)))
  · unfold jOf
    blk_ext [iblk, idx t]
  · simp only [colS, colJ]
    omega

theorem blk_wv (c : Dev nD) (t : Fin cfg0.N) (k : Fin 1024) (n : Fin 1408) :
    iblk m c 2 t (ix3 0 k n) = (argsOf m c).w (ix2 k (colS 1 (colJ (jOf t) n))) := by
  refine Eq.trans (b := V m c main_v2 (ix3 ⟨2 + (jOf t).val, by omega⟩ k n)) ?_ ((host_w m c _ k n).trans (congrArg (fun i => (argsOf m c).w (ix2 k i)) (Fin.ext ?_)))
  · unfold jOf
    blk_ext [iblk, idx t]
  · simp only [colS, colJ]
    omega

theorem blk_cw (c : Dev nD) (t : Fin cfg0.N) (s : Fin 2) (k : Fin 3) (n : Fin 1408) :
    iblk m c 3 t (ix3 s k n) = (argsOf m c).cw (ix2 k (colS s (colJ (jOf t) n))) := by
  rw [← host_cw m c]
  unfold jOf colJ
  blk_ext [iblk, idx t]

theorem blk_cb (c : Dev nD) (t : Fin cfg0.N) (s : Fin 2) (n : Fin 1408) :
    iblk m c 4 t (ix3 s 0 n) = (argsOf m c).cb (ix1 (colS s (colJ (jOf t) n))) := by
  rw [← host_cb m c]
  unfold jOf colJ
  blk_ext [iblk, idx t]

/-! ## The tile's rows among all -/

theorem hid_eq (c : Dev nD) (t : Fin cfg0.N) (s : Fin 2) (r : Fin 512) (n : Fin 1408) :
    (blkAt m c t).hid s r n = (argsOf m c).hidden ⟨512 * (iOf t).val + r.val, by omega⟩ (colS s (colJ (jOf t) n)) := by
  refine Finset.sum_congr rfl fun k _ => congrArg₂ (fun a b : EReal => a * b) (blk_x m c t r k) ?_
  match s with
  | 0 => exact blk_wg m c t k n
  | 1 => exact blk_wv m c t k n

/-- What the scratch holds before the tile: nothing on the first one, then the eight rows before the tile. -/
def prevAt (c : Dev nD) (t : Fin cfg0.N) : Vec Ideal S2x8x1408 .f32 :=
  if t.val % 8 = 0 then k0_pay2 (F := Ideal) else (outsAt0 m c (t.val - 1) (prev_lt t)).2.2

theorem hid_at (c : Dev nD) (t : Fin cfg0.N) : (outsAt0 m c t.val t.isLt).1 = (blkAt m c t).hidOut := by
  by_cases h : t.val % 8 = 0
  · exact hid_A m c t h
  · exact hid_B m c t h
theorem carry_at (c : Dev nD) (t : Fin cfg0.N) : (outsAt0 m c t.val t.isLt).2.2 = (blkAt m c t).carry := by
  by_cases h : t.val % 8 = 0
  · exact carry_A m c t h
  · exact carry_B m c t h
theorem out_at (c : Dev nD) (t : Fin cfg0.N) : (outsAt0 m c t.val t.isLt).2.1 = (blkAt m c t).out (prevAt m c t) := by
  unfold prevAt
  by_cases h : t.val % 8 = 0
  · rw [if_pos h]
    exact out_A m c t h
  · rw [if_neg h]
    exact out_B m c t h

theorem zero_p (y : S2x8x1408.Idx) : k0_pay2 (F := Ideal) y = 0 := by
  idx_vars y
  pointwise [k0_pay2]

theorem prev_eq (c : Dev nD) (t : Fin cfg0.N) (s : Fin 2) (q : Fin 8) (n : Fin 1408) (hq : 6 ≤ q.val) :
    prevAt m c t (ix3 s q n) = (argsOf m c).padded (512 * (iOf t).val + q.val - 6) (colS s (colJ (jOf t) n)) := by
  have ht := t_lt t
  unfold prevAt Args.padded
  by_cases h : t.val % 8 = 0
  · rw [if_pos h, zero_p, dif_neg]
    unfold iOf
    simp only
    omega
  · have hi : (iOf ⟨t.val - 1, prev_lt t⟩).val + 1 = (iOf t).val := by
      show (t.val - 1) % 8 + 1 = t.val % 8
      omega
    have hj : jOf ⟨t.val - 1, prev_lt t⟩ = jOf t := Fin.ext (by show (t.val - 1) / 8 = t.val / 8; omega)
    rw [if_neg h, dif_pos (by omega), carry_at m c ⟨t.val - 1, prev_lt t⟩]
    refine (hid_eq m c _ s _ n).trans ?_
    rw [hj]
    refine congrArg (fun u => (argsOf m c).hidden u _) (Fin.ext ?_)
    show 512 * (iOf ⟨t.val - 1, prev_lt t⟩).val + (504 + q.val) = 512 * (iOf t).val + q.val - 6 - 2
    omega

theorem ext_eq (c : Dev nD) (t : Fin cfg0.N) (s : Fin 2) (r : Fin 520) (n : Fin 1408) (h6 : 6 ≤ r.val) :
    (blkAt m c t).ext (prevAt m c t) s r n = (argsOf m c).padded (512 * (iOf t).val + r.val - 6) (colS s (colJ (jOf t) n)) := by
  unfold Blk.ext
  split_ifs with h8
  · exact prev_eq m c t s ⟨r.val, h8⟩ n h6
  · rw [hid_eq]
    unfold Args.padded
    rw [dif_pos (by omega)]
    refine congrArg (fun u => (argsOf m c).hidden u _) (Fin.ext ?_)
    simp only
    omega

theorem pre_eq (c : Dev nD) (t : Fin cfg0.N) (s : Fin 2) (r : Fin 512) (n : Fin 1408) :
    (blkAt m c t).pre (prevAt m c t) s r n = (argsOf m c).conv (512 * (iOf t).val + r.val) (colS s (colJ (jOf t) n)) := by
  have hc : ∀ k, (blkAt m c t).cw (ix3 s k n) = (argsOf m c).cw (ix2 k (colS s (colJ (jOf t) n))) := fun k => blk_cw m c t s k n
  have hb : (blkAt m c t).cb (ix3 s 0 n) = (argsOf m c).cb (ix1 (colS s (colJ (jOf t) n))) := blk_cb m c t s n
  unfold Blk.pre Args.conv
  rw [ext_eq m c t s _ n (by simp only; omega), ext_eq m c t s _ n (by simp only; omega), ext_eq m c t s _ n (by simp only; omega), hc, hc, hc, hb]
  simp only [show 512 * (iOf t).val + (r.val + 6) - 6 = 512 * (iOf t).val + r.val by omega,
    show 512 * (iOf t).val + (r.val + 7) - 6 = 512 * (iOf t).val + r.val + 1 by omega,
    show 512 * (iOf t).val + (r.val + 8) - 6 = 512 * (iOf t).val + r.val + 2 by omega]

/-! ## The arrays after the run -/

theorem final_rows (c : Dev nD) : (dats m 0 c).arrAt 5 cfg0.N = (argsOf m c).rows := by
  refine (dats m 0 c).arrAt_eq_of_covers 5 _ (by decide +kernel) fun t hf y => ?_
  idx_vars y
  blk_simp
  rw [after0_5, hid_at]
  refine (hid_eq m c t y0 y1 y2).trans (Eq.trans (b := (argsOf m c).rows (ix3 y0 ⟨512 * (iOf t).val + y1.val, by omega⟩ (colJ (jOf t) y2))) rfl ?_)
  unfold iOf jOf colJ
  blk_ext [idx t]

theorem final_act (c : Dev nD) : (dats m 0 c).arrAt 6 cfg0.N = (argsOf m c).act := by
  refine (dats m 0 c).arrAt_eq_of_covers 6 _ (by decide +kernel) fun t hf y => ?_
  idx_vars y
  blk_simp
  rw [after0_6, out_at]
  refine Eq.trans (b := (argsOf m c).act (ix2 ⟨512 * (iOf t).val + y0.val, by omega⟩ (colJ (jOf t) y1))) ?_ ?_
  · exact congrArg₂ (fun g v => geluE g * v) (pre_eq m c t 0 y0 y1) (pre_eq m c t 1 y0 y1)
  · unfold iOf jOf colJ
    blk_ext [idx t]

end Kernel

section Reference

open Cert.Reference4Ideal Cert.Reference4Ideal.Read

variable (a : Args)

theorem ref_v0 (t : Fin 4096) (n : Fin 5632) : val_main_v0 (F := Ideal) a.x a.w (ix2 t n) = a.hidden t n := by
  pointwise [val_main_v0]
  rfl
theorem ref_v2 (t : Fin 4098) (n : Fin 5632) : val_main_v2 (F := Ideal) a.x a.w (ix2 t n) = a.padded t.val n := by
  pointwise [val_main_v2, val_main_v1, val_main_cst]
  unfold Args.padded
  by_cases h : t.val < 2
  · rw [dif_pos h, dif_neg (by omega)]
  · rw [dif_neg h, dif_pos (by omega)]
    exact ref_v0 ..
theorem ref_v27 (t : Fin 4096) (n : Fin 5632) : val_main_v27 (F := Ideal) a.x a.w a.cw a.cb (ix2 t n) = a.conv t.val n := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0]
  rw [ref_v2, ref_v2, ref_v2, Args.conv]
  simp only [Nat.add_comm]
theorem ref_v31 : val_main_v31 (F := Ideal) a.x a.w = a.rows := by
  funext y
  idx_vars y
  pointwise [val_main_v31, val_main_v30]
  rw [ref_v0]
  rfl
theorem ref_v47 : val_main_v47 (F := Ideal) a.x a.w a.cw a.cb = a.act := by
  funext y
  idx_vars y
  show _ = geluE (a.conv y0.val (colS 0 y1)) * a.conv y0.val (colS 1 y1)
  pointwise [val_main_v47, val_main_v46, val_main_v45, val_main_v44, val_main_v43, val_main_v42, val_main_v41, val_main_v40, val_main_v39, val_main_v38, val_main_v37, val_main_v36, val_main_v35, val_main_v34, val_main_v33, val_main_v32, val_main_v29, val_main_v28, val_main_cst_1, val_main_cst_2, val_main_cst_3, val_main_cst_4, val_main_cst_5]
  rw [ref_v27, ref_v27, quotient]
  have e0 : (⟨y1.val, by omega⟩ : Fin 5632) = colS 0 y1 := Fin.ext (by simp only [colS]; omega)
  have e1 : (⟨2816 + y1.val, by omega⟩ : Fin 5632) = colS 1 y1 := Fin.ext (by simp only [colS]; omega)
  rw [e0, e1]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r hr => ⟨fun c => (hr c).2.2, sem_eq_zero_of_no_sems (by decide) r.2⟩) (Cert.Reference4Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), fun _ => (0 : EReal)⟩

end Reference

theorem args_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : (refArgs m' c).x = (argsOf m c).x) (h1 : (refArgs m' c).w = (argsOf m c).w) (h2 : (refArgs m' c).cw = (argsOf m c).cw)
    (h3 : (refArgs m' c).cb = (argsOf m c).cb) : refArgs m' c = argsOf m c := by
  show Args.mk (refArgs m' c).x (refArgs m' c).w (refArgs m' c).cw (refArgs m' c).cb _ = _
  rw [h0, h1, h2, h3]
  rfl

/-- On equal arguments the kernel and the reference leave the same two arrays. -/
theorem algebraic : Cert.algebraic_Kernel4Ideal_Reference4Ideal := by
  intro m g m' g' _ he
  have ha : ∀ c, refArgs m' c = argsOf m c := fun c => args_eq m m' c (he c).1 (he c).2.1 (he c).2.2.1 (he c).2.2.2
  refine ⟨fun c => (argsOf m c).rows, fun c => (argsOf m c).act, ?_, ?_⟩
  · exact (θ_run Cert.Kernel4Ideal.defs _ _).mono (fun r h c => ⟨(h c).1.trans (final_rows m c), (h c).2.1.trans (final_act m c), (h c).2.2⟩)
      (Cert.Kernel4Ideal.Value.run_blocks m g)
  · exact (θ_run Cert.Reference4Ideal.defs _ _).mono (fun r h c =>
      ⟨(h c).1.trans ((Cert.Reference4Ideal.Read.val_main_v31_eq _ _).trans ((ref_v31 (refArgs m' c)).trans (congrArg Args.rows (ha c)))),
        (h c).2.1.trans ((Cert.Reference4Ideal.Read.val_main_v47_eq m' c).trans ((ref_v47 (refArgs m' c)).trans (congrArg Args.act (ha c)))),
        (h c).2.2⟩)
      (Cert.Reference4Ideal.Value.run m' g')

end Up
end Cert.Ffn

end
-- ==== Proof.Norm.lean ====
/- A layer norm's row: its mean, its deviations, the reciprocal root of their mean square, and the gradient of the
normalised row in two forms, which agree on rows of real numbers. -/
module

public import proofs.«01_k».proof.Proof.Finite

@[expose] public section

noncomputable section

namespace Cert.Norm

open Idealize.ShloMosaic Cert.Ffn

/-- A row of 1024 values. -/
abbrev Row : Type := Fin 1024 → EReal

abbrev kAlpha : EReal := Ideal.ofBits .f32 0x3FB504F3#32
abbrev kN : EReal := Ideal.ofBits .f32 0x44800000#32
abbrev kEps : EReal := Ideal.ofBits .f32 0x3727C5AC#32
abbrev kTwo : EReal := Ideal.ofBits .f32 0x40000000#32
abbrev kHalf : EReal := Ideal.ofBits .f32 0xBF000000#32

def mean (z : Row) : EReal := Ideal.div (∑ k, z k) kN
def dev (z : Row) : Row := fun n => z n - mean z
def moment (z : Row) : EReal := mean (fun k => dev z k * dev z k) + kEps
def root (z : Row) : EReal := Ideal.rsqrt (moment z)
/-- The normalised row. -/
def hat (z : Row) : Row := fun n => dev z n * root z

/-- The gradient with respect to the row, `d` the cotangent of the normalised row. -/
def back (d z : Row) : Row := fun n => root z * (d n - mean d - hat z n * mean (fun k => d k * hat z k))

/-- What the variance's cotangent contributes per unit of deviation. -/
def slope (d z : Row) : EReal := Ideal.div ((∑ k, dev z k * d k) * (kHalf * Ideal.div (root z) (moment z))) kN
/-- The same gradient as differentiating the norm step by step has it. -/
def chain (d z : Row) : Row := fun n => (d n * root z + slope d z * (kTwo * dev z n))
  + Ideal.div ((∑ k, -(d k * root z)) + ∑ k, -(slope d z * (kTwo * dev z k))) kN

theorem bits_n : kN = ((1024 : ℝ) : EReal) := by
  simp [kN, Ideal.ofBits, Ideal.ieee, -EReal.coe_mul]; norm_num
theorem bits_eps : kEps = ((2748779 / 274877906944 : ℝ) : EReal) := by
  simp [kEps, Ideal.ofBits, Ideal.ieee, -EReal.coe_mul]; norm_num
theorem bits_two : kTwo = ((2 : ℝ) : EReal) := by
  simp [kTwo, Ideal.ofBits, Ideal.ieee, -EReal.coe_mul]; norm_num
theorem bits_half : kHalf = ((-(1 / 2) : ℝ) : EReal) := by
  simp [kHalf, Ideal.ofBits, Ideal.ieee, -EReal.coe_mul]; norm_num
theorem alpha_real : IsReal kAlpha := by
  refine IsReal.of_bounds ?_ ?_ <;> simp [kAlpha, Ideal.ofBits, Ideal.ieee, -EReal.coe_mul]

theorem coe_sum {ι : Type} (s : Finset ι) (f : ι → ℝ) : (∑ k ∈ s, (f k : EReal)) = ((∑ k ∈ s, f k : ℝ) : EReal) := by
  classical
  induction s using Finset.induction_on with
  | empty => simp
  | insert a s h ih => rw [Finset.sum_insert h, Finset.sum_insert h, ih, EReal.coe_add]

theorem div_n (x : ℝ) : Ideal.div (x : EReal) kN = ((x / 1024 : ℝ) : EReal) := by
  rw [bits_n, Ideal.div_coe (by norm_num), ← EReal.coe_mul, mul_one_div]

/-- The row's statistics over the reals. -/
def rMean (z : Fin 1024 → ℝ) : ℝ := (∑ k, z k) / 1024
def rMoment (z : Fin 1024 → ℝ) : ℝ := rMean (fun k => (z k - rMean z) * (z k - rMean z)) + 2748779 / 274877906944
def rRoot (z : Fin 1024 → ℝ) : ℝ := (Real.sqrt (rMoment z))⁻¹

theorem mean_coe (z : Fin 1024 → ℝ) : mean (fun k => (z k : EReal)) = ((rMean z : ℝ) : EReal) := by
  rw [mean, coe_sum, div_n, rMean]

theorem dev_coe (z : Fin 1024 → ℝ) (n : Fin 1024) : dev (fun k => (z k : EReal)) n = ((z n - rMean z : ℝ) : EReal) := by
  rw [dev, mean_coe, EReal.coe_sub]

theorem moment_coe (z : Fin 1024 → ℝ) : moment (fun k => (z k : EReal)) = ((rMoment z : ℝ) : EReal) := by
  rw [moment, bits_eps]
  simp only [dev_coe, ← EReal.coe_mul]
  rw [mean_coe fun k => (z k - rMean z) * (z k - rMean z), ← EReal.coe_add, rMoment]

theorem moment_pos (z : Fin 1024 → ℝ) : 0 < rMoment z := by
  have h : 0 ≤ rMean fun k => (z k - rMean z) * (z k - rMean z) :=
    div_nonneg (Finset.sum_nonneg fun k _ => mul_self_nonneg _) (by norm_num)
  rw [rMoment]
  linarith [show (0 : ℝ) < 2748779 / 274877906944 by norm_num]

theorem root_coe (z : Fin 1024 → ℝ) : root (fun k => (z k : EReal)) = ((rRoot z : ℝ) : EReal) := by
  rw [root, moment_coe, Ideal.rsqrt_coe, if_neg (not_lt.mpr (moment_pos z).le), if_neg (moment_pos z).ne', rRoot]

/-- The deviations sum to nothing. -/
theorem sum_dev (z : Fin 1024 → ℝ) : ∑ k, (z k - rMean z) = 0 := by
  rw [Finset.sum_sub_distrib, Finset.sum_const, Finset.card_univ, Fintype.card_fin, rMean, nsmul_eq_mul]
  push_cast
  ring

theorem root_cube (z : Fin 1024 → ℝ) : rRoot z / rMoment z = rRoot z * (rRoot z * rRoot z) := by
  have h : rRoot z * rRoot z = (rMoment z)⁻¹ := by
    rw [rRoot, ← mul_inv, Real.mul_self_sqrt (moment_pos z).le]
  rw [h, div_eq_mul_inv]

/-- The two forms over the reals. -/
theorem chain_real (d z : Fin 1024 → ℝ) (n : Fin 1024) (S : ℝ)
    (hS : S = (∑ k, (z k - rMean z) * d k) * (-(1 / 2) * (rRoot z / rMoment z)) / 1024) :
    d n * rRoot z + S * (2 * (z n - rMean z)) + ((∑ k, -(d k * rRoot z)) + ∑ k, -(S * (2 * (z k - rMean z)))) / 1024
      = rRoot z * (d n - rMean d - (z n - rMean z) * rRoot z * rMean fun k => d k * ((z k - rMean z) * rRoot z)) := by
  have e1 : ∑ k, -(d k * rRoot z) = -((∑ k, d k) * rRoot z) := by
    rw [Finset.sum_neg_distrib, Finset.sum_mul]
  have e2 : ∑ k, -(S * (2 * (z k - rMean z))) = 0 := by
    rw [Finset.sum_neg_distrib, ← Finset.mul_sum, ← Finset.mul_sum, sum_dev]
    ring
  have e3 : (rMean fun k => d k * ((z k - rMean z) * rRoot z)) = (∑ k, (z k - rMean z) * d k) * rRoot z / 1024 := by
    rw [rMean, Finset.sum_mul]
    exact congrArg (· / 1024) (Finset.sum_congr rfl fun k _ => by ring)
  have e4 : rMean d = (∑ k, d k) / 1024 := rfl
  rw [e1, e2, e3, e4, hS, root_cube]
  ring

/-- The two forms agree on real rows. -/
theorem chain_eq (d z : Row) (hd : ∀ k, IsReal (d k)) (hz : ∀ k, IsReal (z k)) : chain d z = back d z := by
  obtain ⟨d, rfl⟩ : ∃ f : Fin 1024 → ℝ, d = fun k => (f k : EReal) := ⟨fun k => (hd k).choose, funext fun k => (hd k).choose_spec⟩
  obtain ⟨z, rfl⟩ : ∃ f : Fin 1024 → ℝ, z = fun k => (f k : EReal) := ⟨fun k => (hz k).choose, funext fun k => (hz k).choose_spec⟩
  have hs : slope (fun k => (d k : EReal)) (fun k => (z k : EReal))
      = (((∑ k, (z k - rMean z) * d k) * (-(1 / 2) * (rRoot z / rMoment z)) / 1024 : ℝ) : EReal) := by
    rw [slope, root_coe, moment_coe, bits_half, Ideal.div_coe (moment_pos z).ne']
    simp only [dev_coe, ← EReal.coe_mul]
    rw [coe_sum, ← EReal.coe_mul, div_n, mul_one_div]
  funext n
  rw [chain, back, hs, root_coe, bits_two]
  simp only [hat, root_coe, dev_coe, mean_coe, ← EReal.coe_mul, ← EReal.coe_neg]
  rw [coe_sum, coe_sum, ← EReal.coe_add, ← EReal.coe_add, div_n, ← EReal.coe_add,
    ← EReal.coe_sub, ← EReal.coe_sub, ← EReal.coe_mul]
  exact congrArg _ (chain_real d z n _ rfl)

end Cert.Norm

end
-- ==== Proof.NormGradient.lean ====
/- The gradient of the residual norm: the kernel's tiles. A tile's 512 rows are normalised afresh; each of its rows of the
first result is the gradient of that row, and the other two results sum over all tiles' rows. -/
module

public import proofs.«01_k».proof.Defs
public import proofs.«01_k».proof.Proof.Norm
public import proofs.«01_k».proof.Proof.Gen.Kernel5Ideal.Value
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384
set_option maxHeartbeats 400000

noncomputable section

namespace Cert.Norm

open Idealize.ShloMosaic Idealize.ShloMosaic.TcCoe Idealize.ShloMosaic.StableHlo Idealize.SL.Sem

open Cert.Kernel5Ideal Cert.Kernel5Ideal.Gen

/-- The call's arguments: the cotangent, the residual, the branch's result and the norm's scale. -/
structure Args where
  dy : Vec Ideal S4096x1024 .f32
  x : Vec Ideal S4096x1024 .f32
  s : Vec Ideal S4096x1024 .f32
  g : Vec Ideal S1024 .f32

namespace Args

variable (a : Args)

/-- The row the norm normalises. -/
def z (t : Fin 4096) : Row := fun k => kAlpha * a.x (ix2 t k) + a.s (ix2 t k)
/-- The cotangent of the normalised row. -/
def d (t : Fin 4096) : Row := fun k => a.dy (ix2 t k) * a.g (ix1 k)
/-- The three results. -/
def dz : Vec Ideal S4096x1024 .f32 := fun i => back (a.d (i 0)) (a.z (i 0)) (i 1)
def dg : Vec Ideal S1x1024 .f32 := fun i => ∑ t : Fin 4096, a.dy (ix2 t (i 1)) * hat (a.z t) (i 1)
def db : Vec Ideal S1x1024 .f32 := fun i => ∑ t : Fin 4096, a.dy (ix2 t (i 1))

end Args

/-! ## One tile -/

section Tile

variable (dy x s : Vec Ideal S512x1024 .f32) (g : Vec Ideal S1x1024 .f32)

/-- A tile's row, and its cotangent. -/
def tz (r : Fin 512) : Row := fun k => kAlpha * x (ix2 r k) + s (ix2 r k)
def td (r : Fin 512) : Row := fun k => dy (ix2 r k) * g (ix2 0 k)

theorem tile_dev (r : Fin 512) (n : Fin 1024) : k0_pay6 (F := Ideal) x s (ix2 r n) = dev (tz x s r) n := by
  pointwise [k0_pay6]
  rfl

theorem tile_root (r : Fin 512) : k0_pay7 (F := Ideal) x s (ix2 r 0) = root (tz x s r) := by
  pointwise [k0_pay7]
  simp only [tile_dev]
  rfl

theorem tile_hat (r : Fin 512) (n : Fin 1024) : k0_pay8 (F := Ideal) x s (ix2 r n) = hat (tz x s r) n := by
  pointwise [k0_pay8]
  rw [tile_dev, tile_root]
  rfl

theorem tile_d (r : Fin 512) (n : Fin 1024) : k0_pay9 (F := Ideal) dy g (ix2 r n) = td dy g r n := by
  pointwise [k0_pay9]
  rfl

theorem tile_centred (r : Fin 512) (n : Fin 1024) : k0_pay10 (F := Ideal) dy g (ix2 r n) = td dy g r n - mean (td dy g r) := by
  pointwise [k0_pay10]
  simp only [tile_d]
  rfl

theorem tile_corr (r : Fin 512) : k0_pay11 (F := Ideal) dy x s g (ix2 r 0) = ∑ k, td dy g r k * hat (tz x s r) k := by
  pointwise [k0_pay11]
  simp only [tile_d, tile_hat]

theorem tile_dz (r : Fin 512) (n : Fin 1024) :
    k0_pay1 (F := Ideal) (k0_pay7 x s) (k0_pay8 x s) (k0_pay10 dy g) (k0_pay11 dy x s g) (Scalar.ofBits .f32 0x44800000#32) (ix2 r n)
      = back (td dy g r) (tz x s r) n := by
  pointwise [k0_pay1]
  rw [tile_root, tile_hat, tile_centred, tile_corr]
  rfl

theorem tile_dg (old : Vec Ideal S1x1024 .f32) (n : Fin 1024) :
    k0_pay2 (F := Ideal) dy (k0_pay8 x s) old (ix2 0 n) = old (ix2 0 n) + ∑ r : Fin 512, dy (ix2 r n) * hat (tz x s r) n := by
  pointwise [k0_pay2]
  simp only [tile_hat]

theorem tile_db (old : Vec Ideal S1x1024 .f32) (n : Fin 1024) :
    k0_pay3 (F := Ideal) dy old (ix2 0 n) = old (ix2 0 n) + ∑ r : Fin 512, dy (ix2 r n) := by
  pointwise [k0_pay3]

theorem zero_dg (y : S1x1024.Idx) : k0_pay4 (F := Ideal) y = 0 := by
  idx_vars y
  pointwise [k0_pay4]
theorem zero_db (y : S1x1024.Idx) : k0_pay5 (F := Ideal) y = 0 := by
  idx_vars y
  pointwise [k0_pay5]

end Tile

/-! ## The launch's points -/

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2),
   m ((c : Thread nD τ).loc main_arg3)⟩

/-- The block each window is on at each point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_g (c : Dev nD) (n : Fin 1024) : V m c main_v0 (ix2 0 n) = (argsOf m c).g (ix1 n) := by
  entry_read
  pointwise [argsOf]

theorem blk_dy (c : Dev nD) (t : Fin cfg0.N) (r : Fin 512) (k : Fin 1024) : iblk m c 0 t (ix2 r k) = (argsOf m c).dy (ix2 (row t r) k) := by
  rw [show (argsOf m c).dy = V m c main_arg0 from (V_main_arg0 m c).symm]
  unfold row
  blk_ext [iblk, idx t]
theorem blk_x (c : Dev nD) (t : Fin cfg0.N) (r : Fin 512) (k : Fin 1024) : iblk m c 1 t (ix2 r k) = (argsOf m c).x (ix2 (row t r) k) := by
  rw [show (argsOf m c).x = V m c main_arg1 from (V_main_arg1 m c).symm]
  unfold row
  blk_ext [iblk, idx t]
theorem blk_s (c : Dev nD) (t : Fin cfg0.N) (r : Fin 512) (k : Fin 1024) : iblk m c 2 t (ix2 r k) = (argsOf m c).s (ix2 (row t r) k) := by
  rw [show (argsOf m c).s = V m c main_arg2 from (V_main_arg2 m c).symm]
  unfold row
  blk_ext [iblk, idx t]
theorem blk_g (c : Dev nD) (t : Fin cfg0.N) (k : Fin 1024) : iblk m c 3 t (ix2 0 k) = (argsOf m c).g (ix1 k) := by
  rw [← host_g m c]
  blk_ext [iblk, idx t]

theorem tz_eq (c : Dev nD) (t : Fin cfg0.N) (r : Fin 512) : tz (iblk m c 1 t) (iblk m c 2 t) r = (argsOf m c).z (row t r) :=
  funext fun k => congrArg₂ (fun a b : EReal => kAlpha * a + b) (blk_x m c t r k) (blk_s m c t r k)
theorem td_eq (c : Dev nD) (t : Fin cfg0.N) (r : Fin 512) : td (iblk m c 0 t) (iblk m c 3 t) r = (argsOf m c).d (row t r) :=
  funext fun k => congrArg₂ (fun a b : EReal => a * b) (blk_dy m c t r k) (blk_g m c t k)

/-- The first result's tile, at every point. -/
theorem point_dz (c : Dev nD) (t : Fin cfg0.N) (r : Fin 512) (n : Fin 1024) :
    (outsAt0 m c t.val t.isLt).1 (ix2 r n) = back ((argsOf m c).d (row t r)) ((argsOf m c).z (row t r)) n := by
  rw [← tz_eq, ← td_eq, ← tile_dz]
  by_cases h0 : t.val % 8 = 0
  · rw [outsAt0_A m c t h0]
    dsimp only
    frame_open
    frame_out
  · rw [outsAt0_B m c t h0]
    dsimp only
    frame_open
    frame_out

/-- What a tile adds to the other two results. -/
def partG (a : Args) (t : Fin cfg0.N) (n : Fin 1024) : EReal := ∑ r : Fin 512, a.dy (ix2 (row t r) n) * hat (a.z (row t r)) n
def partB (a : Args) (t : Fin cfg0.N) (n : Fin 1024) : EReal := ∑ r : Fin 512, a.dy (ix2 (row t r) n)

theorem sum_dg (c : Dev nD) (t : Fin cfg0.N) (n : Fin 1024) :
    (∑ r : Fin 512, (fun a b : EReal => a * b) (iblk m c 0 t (ix2 r n)) (hat (tz (iblk m c 1 t) (iblk m c 2 t) r) n)) = partG (argsOf m c) t n :=
  Finset.sum_congr rfl fun r _ => congrArg₂ (fun a b : EReal => a * b) (blk_dy m c t r n) (congrArg (hat · n) (tz_eq m c t r))
theorem sum_db (c : Dev nD) (t : Fin cfg0.N) (n : Fin 1024) :
    (∑ r : Fin 512, iblk m c 0 t (ix2 r n) : EReal) = partB (argsOf m c) t n :=
  Finset.sum_congr rfl fun r _ => blk_dy m c t r n

theorem dg_A (c : Dev nD) (t : Fin cfg0.N) (h0 : t.val % 8 = 0) (n : Fin 1024) :
    (outsAt0 m c t.val t.isLt).2.1 (ix2 0 n) = partG (argsOf m c) t n := by
  rw [← sum_dg, ← zero_add (∑ r : Fin 512, _), ← zero_dg (ix2 0 n), ← tile_dg, outsAt0_A m c t h0]
  dsimp only
  frame_open
  simp (disch := decide) only [↓ View.readCov_cons_toLoadRect]
  frame_out

theorem dg_B (c : Dev nD) (t : Fin cfg0.N) (h0 : ¬t.val % 8 = 0) (n : Fin 1024) :
    (outsAt0 m c t.val t.isLt).2.1 (ix2 0 n) = (outsAt0 m c (t.val - 1) (Nat.lt_of_le_of_lt (Nat.sub_le _ _) t.isLt)).2.1 (ix2 0 n)
      + partG (argsOf m c) t n := by
  rw [← sum_dg, ← tile_dg, outsAt0_B m c t h0]
  dsimp only
  frame_open
  simp (disch := decide) only [↓ View.readCov_cons_toLoadRect]
  frame_out

theorem db_A (c : Dev nD) (t : Fin cfg0.N) (h0 : t.val % 8 = 0) (n : Fin 1024) :
    (outsAt0 m c t.val t.isLt).2.2 (ix2 0 n) = partB (argsOf m c) t n := by
  rw [← sum_db, ← zero_add (∑ r : Fin 512, _), ← zero_db (ix2 0 n), ← tile_db, outsAt0_A m c t h0]
  dsimp only
  frame_open
  simp (disch := decide) only [↓ View.readCov_cons_toLoadRect]
  frame_out

theorem db_B (c : Dev nD) (t : Fin cfg0.N) (h0 : ¬t.val % 8 = 0) (n : Fin 1024) :
    (outsAt0 m c t.val t.isLt).2.2 (ix2 0 n) = (outsAt0 m c (t.val - 1) (Nat.lt_of_le_of_lt (Nat.sub_le _ _) t.isLt)).2.2 (ix2 0 n)
      + partB (argsOf m c) t n := by
  rw [← sum_db, ← tile_db, outsAt0_B m c t h0]
  dsimp only
  frame_open
  simp (disch := decide) only [↓ View.readCov_cons_toLoadRect]
  frame_out

end Cert.Norm

end
-- ==== Proof.NormClaims.lean ====
/- The residual norm's gradient: the kernel's arrays after the run, the reference's, and their equality on real
arguments. -/
module

public import proofs.«01_k».proof.Proof.NormGradient
public import proofs.«01_k».proof.Proof.Precondition
public import proofs.«01_k».proof.Proof.Gen.Reference5Ideal.Run
public import proofs.«01_k».proof.Proof.Gen.Reference5Ideal.Read
public import Idealize.ShloMosaic.Lib.Quiescent

@[expose] public section

set_option maxRecDepth 16384
set_option maxHeartbeats 400000

noncomputable section

namespace Cert.Norm

open Idealize.ShloMosaic Idealize.ShloMosaic.TcCoe Idealize.ShloMosaic.StableHlo Idealize.SL.Sem
open Cert.Ffn (IsReal)

section Kernel

open Cert.Kernel5Ideal Cert.Kernel5Ideal.Gen

variable (m : (ℓ : Loc nD τ sig) → Buf (Elt Ideal) ℓ)

/-- What tile `n` of the eight contributes to a sum over all rows. -/
def tileSum (f : Fin 4096 → EReal) (n : ℕ) : EReal := ∑ r : Fin 512, if h : n < 8 then f ⟨512 * n + r.val, by omega⟩ else 0

theorem tileSum_eq (f : Fin 4096 → EReal) (t : Fin cfg0.N) : tileSum f t.val = ∑ r : Fin 512, f (row t r) :=
  Finset.sum_congr rfl fun r _ => by rw [dif_pos (t_lt t), row]

theorem sum_tileSum (f : Fin 4096 → EReal) : ∑ k ∈ Finset.range 8, tileSum f k = ∑ t, f t := by
  have h := Cert.Ffn.sum_tiles fun u => if h : u < 4096 then f ⟨u, h⟩ else 0
  refine Eq.trans ?_ (h.trans (Finset.sum_congr rfl fun t _ => dif_pos t.isLt))
  refine Finset.sum_congr rfl fun k hk => Finset.sum_congr rfl fun r _ => ?_
  have hk' := Finset.mem_range.1 hk
  rw [dif_pos hk', dif_pos (by omega)]

theorem total_dg (c : Dev nD) (t : Fin cfg0.N) (ht : t.val % 8 = 7) (n : Fin 1024) :
    (outsAt0 m c t.val t.isLt).2.1 (ix2 0 n) = (argsOf m c).dg (ix2 0 n) := by
  have h := Pipeline.eq_sum_of_reset_step_apply_of_mod (fun k h (n : Fin 1024) => (outsAt0 m c k h).2.1 (ix2 0 n)) 8 (fun _ => (0 : EReal))
    (fun k n => tileSum (fun u => (argsOf m c).dy (ix2 u n) * hat ((argsOf m c).z u) n) k)
    (fun t h0 n => by rw [dg_A m c t h0, zero_add, tileSum_eq]; rfl)
    (fun t h0 n => by rw [dg_B m c t h0, tileSum_eq]; rfl) t ht n
  have h8 := t_lt t
  refine h.trans ((zero_add _).trans (Eq.trans ?_ (sum_tileSum fun u => (argsOf m c).dy (ix2 u n) * hat ((argsOf m c).z u) n)))
  exact Finset.sum_congr rfl fun k hk => by rw [show 8 * (t.val / 8) + k = k by omega]

theorem total_db (c : Dev nD) (t : Fin cfg0.N) (ht : t.val % 8 = 7) (n : Fin 1024) :
    (outsAt0 m c t.val t.isLt).2.2 (ix2 0 n) = (argsOf m c).db (ix2 0 n) := by
  have h := Pipeline.eq_sum_of_reset_step_apply_of_mod (fun k h (n : Fin 1024) => (outsAt0 m c k h).2.2 (ix2 0 n)) 8 (fun _ => (0 : EReal))
    (fun k n => tileSum (fun u => (argsOf m c).dy (ix2 u n)) k)
    (fun t h0 n => by rw [db_A m c t h0, zero_add, tileSum_eq]; rfl)
    (fun t h0 n => by rw [db_B m c t h0, tileSum_eq]; rfl) t ht n
  have h8 := t_lt t
  refine h.trans ((zero_add _).trans (Eq.trans ?_ (sum_tileSum fun u => (argsOf m c).dy (ix2 u n))))
  exact Finset.sum_congr rfl fun k hk => by rw [show 8 * (t.val / 8) + k = k by omega]

theorem final_dz (c : Dev nD) : (dats m 0 c).arrAt 4 cfg0.N = (argsOf m c).dz := by
  refine (dats m 0 c).arrAt_eq_of_covers 4 _ (by decide +kernel) fun t hf y => ?_
  idx_vars y
  blk_simp
  rw [after0_4, point_dz]
  refine Eq.trans (b := (argsOf m c).dz (ix2 (row t y0) y1)) rfl ?_
  unfold row
  blk_ext [idx t]

theorem final_dg (c : Dev nD) : (dats m 0 c).arrAt 5 cfg0.N = (argsOf m c).dg := by
  refine (dats m 0 c).arrAt_eq_of_covers 5 _ (by decide +kernel) fun t hf y => ?_
  idx_vars y
  obtain rfl : y0 = 0 := Subsingleton.elim _ _
  blk_simp
  rw [after0_5, total_dg m c t ((flush0_5 t).mp hf)]
  blk_ext [idx t]

theorem final_db (c : Dev nD) : (dats m 0 c).arrAt 6 cfg0.N = (argsOf m c).db := by
  refine (dats m 0 c).arrAt_eq_of_covers 6 _ (by decide +kernel) fun t hf y => ?_
  idx_vars y
  obtain rfl : y0 = 0 := Subsingleton.elim _ _
  blk_simp
  rw [after0_6, total_db m c t ((flush0_6 t).mp hf)]
  blk_ext [idx t]

end Kernel

section Reference

open Cert.Reference5Ideal Cert.Reference5Ideal.Read

variable (a : Args)

theorem ref_z (t : Fin 4096) (n : Fin 1024) : val_main_v3 (F := Ideal) a.x a.s (ix2 t n) = a.z t n := by
  pointwise [val_main_v3, val_main_v2, val_main_v1, val_main_cst_0]
  rfl
theorem ref_mean (t : Fin 4096) : val_main_v7 (F := Ideal) a.x a.s (ix2 t 0) = mean (a.z t) := by
  pointwise [val_main_v7, val_main_v6, val_main_v5, val_main_v4, val_main_cst_1, val_main_cst_2]
  simp only [ref_z]
  rfl
theorem ref_dev (t : Fin 4096) (n : Fin 1024) : val_main_v9 (F := Ideal) a.x a.s (ix2 t n) = dev (a.z t) n := by
  pointwise [val_main_v9, val_main_v8]
  rw [ref_z, ref_mean]
  rfl
theorem ref_dev' (t : Fin 4096) (n : Fin 1024) : val_main_v18 (F := Ideal) a.x a.s (ix2 t n) = dev (a.z t) n := by
  pointwise [val_main_v18, val_main_v17]
  rw [ref_z, ref_mean]
  rfl
theorem ref_moment (t : Fin 4096) : val_main_v20 (F := Ideal) a.x a.s (ix2 t 0) = moment (a.z t) := by
  pointwise [val_main_v20, val_main_v19, val_main_v16, val_main_v15, val_main_v14, val_main_v13, val_main_v10, val_main_cst_4, val_main_cst_5, val_main_cst_6]
  simp only [ref_dev]
  rfl
theorem ref_root (t : Fin 4096) : val_main_v21 (F := Ideal) a.x a.s (ix2 t 0) = root (a.z t) := by
  pointwise [val_main_v21]
  rw [ref_moment]
  rfl
theorem ref_hat (t : Fin 4096) (n : Fin 1024) : val_main_v26 (F := Ideal) a.x a.s (ix2 t n) = hat (a.z t) n := by
  pointwise [val_main_v26, val_main_v25]
  rw [ref_dev', ref_root]
  rfl
theorem ref_d (t : Fin 4096) (n : Fin 1024) : val_main_v41 (F := Ideal) a.dy a.g (ix2 t n) = a.d t n := by
  pointwise [val_main_v41, val_main_v40, val_main_v33, val_main_v27]
  rfl
theorem ref_slope (t : Fin 4096) : val_main_v53 (F := Ideal) a.dy a.x a.s a.g (ix2 t 0) = slope (a.d t) (a.z t) := by
  pointwise [val_main_v53, val_main_v52, val_main_v48, val_main_v45, val_main_v44, val_main_v43, val_main_v24, val_main_v23, val_main_v22, val_main_cst_7, val_main_cst_12, val_main_cst_14]
  simp only [ref_dev', ref_d, ref_root, ref_moment]
  rfl
theorem ref_direct (t : Fin 4096) (n : Fin 1024) : val_main_v47 (F := Ideal) a.dy a.x a.s a.g (ix2 t n) = a.d t n * root (a.z t) := by
  pointwise [val_main_v47, val_main_v46]
  rw [ref_d, ref_root]
theorem ref_spread (t : Fin 4096) (n : Fin 1024) :
    val_main_v56 (F := Ideal) a.dy a.x a.s a.g (ix2 t n) = slope (a.d t) (a.z t) * (kTwo * dev (a.z t) n) := by
  pointwise [val_main_v56, val_main_v55, val_main_v54, val_main_v12, val_main_v11, val_main_cst_3, val_main_cst_15]
  rw [Fin.sum_univ_one, ref_slope, ref_dev]
theorem ref_dz (t : Fin 4096) (n : Fin 1024) : val_main_v66 (F := Ideal) a.dy a.x a.s a.g (ix2 t n) = chain (a.d t) (a.z t) n := by
  pointwise [val_main_v66, val_main_v65, val_main_v64, val_main_v63, val_main_v62, val_main_v61, val_main_v60, val_main_v59, val_main_v58, val_main_v57, val_main_v51, val_main_v50, val_main_v49, val_main_cst_13, val_main_cst_16, val_main_cst_17, val_main_cst_18]
  simp only [ref_direct, ref_spread, Fin.sum_univ_one]
  rfl
theorem ref_v67 : val_main_v67 (F := Ideal) a.dy a.x a.s = a.dg := by
  funext y
  idx_vars y
  pointwise [val_main_v67, val_main_v42, val_main_v39, val_main_v38, val_main_v37, val_main_v33, val_main_cst_10, val_main_cst_11]
  simp only [ref_hat, Fin.sum_univ_one]
  exact Finset.sum_congr rfl fun _ _ => mul_comm (G := EReal) _ _
theorem ref_v68 : val_main_v68 (F := Ideal) a.dy = a.db := by
  funext y
  idx_vars y
  pointwise [val_main_v68, val_main_v36, val_main_v35, val_main_v34, val_main_cst_8, val_main_cst_9]
  rw [Fin.sum_univ_one]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r hr => ⟨fun c => (hr c).2.2.2, sem_eq_zero_of_no_sems (by decide) r.2⟩) (Cert.Reference5Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3)⟩

end Reference

/-! ## Real arguments -/

/-- Every argument holds real numbers. -/
structure Args.Real (a : Args) : Prop where
  dy : ∀ i, IsReal (a.dy i)
  x : ∀ i, IsReal (a.x i)
  s : ∀ i, IsReal (a.s i)
  g : ∀ i, IsReal (a.g i)

theorem preFacts : Cert.Pre_finite_norm.Facts where
  bcast_S_S4096x1024 := by decide
  bcast_S_S1024 := by decide

theorem args_real [Cert.Pre_finite_norm.Facts] {m : (ℓ : Loc Cert.Kernel5Ideal.nD Cert.Kernel5Ideal.τ Cert.Kernel5Ideal.sig) → Buf (Elt Ideal) ℓ}
    (h : Cert.Pre_Kernel5Ideal_finite_norm m) (c : Dev Cert.Kernel5Ideal.nD) : (argsOf m c).Real := by
  obtain ⟨h0, h1, h2, h3⟩ := h c
  exact ⟨Cert.Ffn.isReal_of_ones _ _ h0, Cert.Ffn.isReal_of_ones _ _ h1, Cert.Ffn.isReal_of_ones _ _ h2, Cert.Ffn.isReal_of_ones _ _ h3⟩

theorem ref_v66 (a : Args) (h : a.Real) : Cert.Reference5Ideal.Read.val_main_v66 (F := Ideal) a.dy a.x a.s a.g = a.dz := by
  funext y
  idx_vars y
  rw [ref_dz, chain_eq (a.d y0) (a.z y0) (fun k => (h.dy _).mul (h.g _)) fun k => (alpha_real.mul (h.x _)).add (h.s _)]
  rfl

/-- On equal arguments, real numbers all, the kernel and the reference leave the same three arrays. -/
theorem algebraic (hP : Cert.Pre_finite_norm.Facts) : Cert.algebraic_Kernel5Ideal_Reference5Ideal_pre_finite_norm := by
  intro m g m' g' hp he
  have ha : ∀ c, refArgs m' c = argsOf m c := fun c => by
    obtain ⟨h0, h1, h2, h3⟩ := he c
    show Args.mk _ _ _ _ = Args.mk _ _ _ _
    rw [h0, h1, h2, h3]
  refine ⟨fun c => (argsOf m c).dz, fun c => (argsOf m c).dg, fun c => (argsOf m c).db, ?_, ?_⟩
  · exact (θ_run Cert.Kernel5Ideal.defs _ _).mono (fun r h c =>
      ⟨(h c).1.trans (final_dz m c), (h c).2.1.trans (final_dg m c), (h c).2.2.1.trans (final_db m c), (h c).2.2.2⟩)
      (Cert.Kernel5Ideal.Value.run_blocks m g)
  · exact (θ_run Cert.Reference5Ideal.defs _ _).mono (fun r h c =>
      ⟨(h c).1.trans ((Cert.Reference5Ideal.Read.val_main_v66_eq m' c).trans
          ((ref_v66 (refArgs m' c) ((ha c).symm ▸ args_real hp c)).trans (congrArg Args.dz (ha c)))),
        (h c).2.1.trans ((Cert.Reference5Ideal.Read.val_main_v67_eq _ _ _).trans ((ref_v67 (refArgs m' c)).trans (congrArg Args.dg (ha c)))),
        (h c).2.2.1.trans ((Cert.Reference5Ideal.Read.val_main_v68_eq _).trans ((ref_v68 (refArgs m' c)).trans (congrArg Args.db (ha c)))),
        (h c).2.2.2⟩)
      (Cert.Reference5Ideal.Value.run m' g')

end Cert.Norm

end
-- ==== Proof.DownNorm.lean ====
/- The down projection with the residual norm after it: the projected rows, and the norm of the residual plus them. -/
module

public import proofs.«01_k».proof.Defs
public import proofs.«01_k».proof.Proof.Norm
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Norm.Down

open Idealize.ShloMosaic Idealize.ShloMosaic.TcCoe Idealize.ShloMosaic.StableHlo Idealize.SL.Sem

section Kernel

open Cert.Kernel6Ideal Cert.Kernel6Ideal.Gen

/-- The call's arguments: the activation, the weight, the residual, the norm's scale and offset. -/
structure Args where
  f : Vec Ideal S4096x2816 .f32
  w : Vec Ideal S2816x1024 .f32
  x : Vec Ideal S4096x1024 .f32
  g : Vec Ideal S1024 .f32
  b : Vec Ideal S1024 .f32

namespace Args

variable (a : Args)

/-- The projected row. -/
def proj (t : Fin 4096) : Row := fun n => ∑ k : Fin 2816, a.f (ix2 t k) * a.w (ix2 k n)
/-- The row the norm normalises. -/
def z (t : Fin 4096) : Row := fun n => kAlpha * a.x (ix2 t n) + a.proj t n
/-- The two results. -/
def s : Vec Ideal S4096x1024 .f32 := fun i => a.proj (i 0) (i 1)
def y : Vec Ideal S4096x1024 .f32 := fun i => hat (a.z (i 0)) (i 1) * a.g (ix1 (i 1)) + a.b (ix1 (i 1))

end Args

/-! ## One tile -/

section Tile

variable (f : Vec Ideal S512x2816 .bf16) (w : Vec Ideal S2816x1024 .bf16) (x : Vec Ideal S512x1024 .f32) (g b : Vec Ideal S1x1024 .f32)

def tproj (r : Fin 512) : Row := fun n => ∑ k : Fin 2816, f (ix2 r k) * w (ix2 k n)
def tz (r : Fin 512) : Row := fun n => kAlpha * x (ix2 r n) + tproj f w r n

theorem tile_s (r : Fin 512) (n : Fin 1024) : k0_pay1 (F := Ideal) f w (ix2 r n) = tproj f w r n := by
  pointwise [k0_pay1]
  rfl

theorem tile_y (r : Fin 512) (n : Fin 1024) :
    k0_pay2 (F := Ideal) f w x g b (ix2 r n) = hat (tz f w x r) n * g (ix2 0 n) + b (ix2 0 n) := by
  pointwise [k0_pay2]
  simp only [tile_s]
  rfl

end Tile

/-! ## The launch -/

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

/-- The block each window is on at each point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_f (c : Dev nD) (r : Fin 4096) (k : Fin 2816) : V m c main_v0 (ix2 r k) = (argsOf m c).f (ix2 r k) := by
  entry_read
  pointwise [argsOf]
theorem host_w (c : Dev nD) (k : Fin 2816) (n : Fin 1024) : V m c main_v1 (ix2 k n) = (argsOf m c).w (ix2 k n) := by
  entry_read
  pointwise [argsOf]
theorem host_g (c : Dev nD) (n : Fin 1024) : V m c main_v2 (ix2 0 n) = (argsOf m c).g (ix1 n) := by
  entry_read
  pointwise [argsOf]
theorem host_b (c : Dev nD) (n : Fin 1024) : V m c main_v3 (ix2 0 n) = (argsOf m c).b (ix1 n) := by
  entry_read
  pointwise [argsOf]

theorem blk_f (c : Dev nD) (t : Fin cfg0.N) (r : Fin 512) (k : Fin 2816) : iblk m c 0 t (ix2 r k) = (argsOf m c).f (ix2 (row t r) k) := by
  rw [← host_f m c]
  unfold row
  blk_ext [iblk, idx t]
theorem blk_w (c : Dev nD) (t : Fin cfg0.N) (k : Fin 2816) (n : Fin 1024) : iblk m c 1 t (ix2 k n) = (argsOf m c).w (ix2 k n) := by
  rw [← host_w m c]
  blk_ext [iblk, idx t]
theorem blk_x (c : Dev nD) (t : Fin cfg0.N) (r : Fin 512) (n : Fin 1024) : iblk m c 2 t (ix2 r n) = (argsOf m c).x (ix2 (row t r) n) := by
  rw [show (argsOf m c).x = V m c main_arg2 from (V_main_arg2 m c).symm]
  unfold row
  blk_ext [iblk, idx t]
theorem blk_g (c : Dev nD) (t : Fin cfg0.N) (n : Fin 1024) : iblk m c 3 t (ix2 0 n) = (argsOf m c).g (ix1 n) := by
  rw [← host_g m c]
  blk_ext [iblk, idx t]
theorem blk_b (c : Dev nD) (t : Fin cfg0.N) (n : Fin 1024) : iblk m c 4 t (ix2 0 n) = (argsOf m c).b (ix1 n) := by
  rw [← host_b m c]
  blk_ext [iblk, idx t]

theorem tproj_eq (c : Dev nD) (t : Fin cfg0.N) (r : Fin 512) : tproj (iblk m c 0 t) (iblk m c 1 t) r = (argsOf m c).proj (row t r) :=
  funext fun n => Finset.sum_congr rfl fun k _ => congrArg₂ (fun a b : EReal => a * b) (blk_f m c t r k) (blk_w m c t k n)
theorem tz_eq (c : Dev nD) (t : Fin cfg0.N) (r : Fin 512) :
    tz (iblk m c 0 t) (iblk m c 1 t) (iblk m c 2 t) r = (argsOf m c).z (row t r) :=
  funext fun n => congrArg₂ (fun a b : EReal => kAlpha * a + b) (blk_x m c t r n) (congrFun (tproj_eq m c t r) n)

theorem final_s (c : Dev nD) : (dats m 0 c).arrAt 5 cfg0.N = (argsOf m c).s := by
  refine (dats m 0 c).arrAt_eq_of_covers 5 _ (by decide +kernel) fun t hf y => ?_
  idx_vars y
  blk_simp
  rw [after0_5]
  frame_open
  frame_out
  rw [tile_s, tproj_eq]
  refine Eq.trans (b := (argsOf m c).s (ix2 (row t y0) y1)) rfl ?_
  unfold row
  blk_ext [idx t]

theorem final_y (c : Dev nD) : (dats m 0 c).arrAt 6 cfg0.N = (argsOf m c).y := by
  refine (dats m 0 c).arrAt_eq_of_covers 6 _ (by decide +kernel) fun t hf y => ?_
  idx_vars y
  blk_simp
  rw [after0_6]
  frame_open
  frame_out
  rw [tile_y, tz_eq, blk_g, blk_b]
  refine Eq.trans (b := (argsOf m c).y (ix2 (row t y0) y1)) rfl ?_
  unfold row
  blk_ext [idx t]

end Kernel

section Reference

open Cert.Reference6Ideal Cert.Reference6Ideal.Read

variable (a : Args)

theorem ref_proj (t : Fin 4096) (n : Fin 1024) : val_main_v0 (F := Ideal) a.f a.w (ix2 t n) = a.proj t n := by
  pointwise [val_main_v0]
  rfl
theorem ref_z (t : Fin 4096) (n : Fin 1024) : val_main_v3 (F := Ideal) a.f a.w a.x (ix2 t n) = a.z t n := by
  pointwise [val_main_v3, val_main_v2, val_main_v1, val_main_cst]
  rw [ref_proj]
  rfl
theorem ref_mean (t : Fin 4096) : val_main_v7 (F := Ideal) a.f a.w a.x (ix2 t 0) = mean (a.z t) := by
  pointwise [val_main_v7, val_main_v6, val_main_v5, val_main_v4, val_main_cst_0, val_main_cst_1]
  simp only [ref_z]
  rfl
theorem ref_dev (t : Fin 4096) (n : Fin 1024) : val_main_v9 (F := Ideal) a.f a.w a.x (ix2 t n) = dev (a.z t) n := by
  pointwise [val_main_v9, val_main_v8]
  rw [ref_z, ref_mean]
  rfl
theorem ref_dev' (t : Fin 4096) (n : Fin 1024) : val_main_v16 (F := Ideal) a.f a.w a.x (ix2 t n) = dev (a.z t) n := by
  pointwise [val_main_v16, val_main_v15]
  rw [ref_z, ref_mean]
  rfl
theorem ref_root (t : Fin 4096) : val_main_v19 (F := Ideal) a.f a.w a.x (ix2 t 0) = root (a.z t) := by
  pointwise [val_main_v19, val_main_v18, val_main_v17, val_main_v14, val_main_v13, val_main_v12, val_main_v11, val_main_v10, val_main_cst_2, val_main_cst_3, val_main_cst_4]
  simp only [ref_dev]
  rfl
theorem ref_v0 : val_main_v0 (F := Ideal) a.f a.w = a.s := by
  funext y
  idx_vars y
  exact ref_proj a y0 y1
theorem ref_v27 : val_main_v27 (F := Ideal) a.f a.w a.x a.g a.b = a.y := by
  funext y
  idx_vars y
  pointwise [val_main_v27, val_main_v26, val_main_v25, val_main_v24, val_main_v23, val_main_v22, val_main_v21, val_main_v20]
  rw [ref_dev', ref_root]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r hr => ⟨fun c => (hr c).2.2, sem_eq_zero_of_no_sems (by decide) r.2⟩) (Cert.Reference6Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4)⟩

end Reference

/-- On equal arguments the kernel and the reference leave the same two arrays. -/
theorem algebraic : Cert.algebraic_Kernel6Ideal_Reference6Ideal := by
  intro m g m' g' _ he
  have ha : ∀ c, refArgs m' c = argsOf m c := fun c => by
    obtain ⟨h0, h1, h2, h3, h4⟩ := he c
    show Args.mk _ _ _ _ _ = Args.mk _ _ _ _ _
    rw [h0, h1, h2, h3, h4]
  refine ⟨fun c => (argsOf m c).s, fun c => (argsOf m c).y, ?_, ?_⟩
  · exact (θ_run Cert.Kernel6Ideal.defs _ _).mono (fun r h c => ⟨(h c).1.trans (final_s m c), (h c).2.1.trans (final_y m c), (h c).2.2⟩)
      (Cert.Kernel6Ideal.Value.run_blocks m g)
  · exact (θ_run Cert.Reference6Ideal.defs _ _).mono (fun r h c =>
      ⟨(h c).1.trans ((Cert.Reference6Ideal.Read.val_main_v0_eq _ _).trans ((ref_v0 (refArgs m' c)).trans (congrArg Args.s (ha c)))),
        (h c).2.1.trans ((Cert.Reference6Ideal.Read.val_main_v27_eq _ _ _ _ _).trans ((ref_v27 (refArgs m' c)).trans (congrArg Args.y (ha c)))),
        (h c).2.2⟩)
      (Cert.Reference6Ideal.Value.run m' g')

end Cert.Norm.Down

end
-- ==== Proof.OutWeight.lean ====
/- The gradient of the attention's output weight: row `i`, column `j` is the sum over all rows of
   the input's column `i` times the result's gradient's column `j`. The launch takes the rows in two tiles. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.DownWeight
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Att.OutWeight

open Idealize.ShloMosaic Idealize.ShloMosaic.TcCoe Idealize.ShloMosaic.StableHlo Idealize.SL.Sem

section Kernel

open Cert.Kernel7Ideal Cert.Kernel7Ideal.Gen

/-- The gradient `aᵀ · dz`. -/
def weight (a dz : Vec Ideal S4096x1024 .f32) : Vec Ideal S1024x1024 .bf16 := fun i =>
  ∑ t : Fin 4096, a (ix2 t (i 0)) * dz (ix2 t (i 1))

/-- One tile's part: the sum over its 2048 rows. -/
def part (x : Vec Ideal S2048x1024 .f32) (z : Vec Ideal S2048x1024 .f32) : Vec Ideal S1024x1024 .f32 := fun i =>
  ∑ r : Fin 2048, x (ix2 r (i 0)) * z (ix2 r (i 1))

variable (m : (ℓ : Loc nD τ sig) → Buf (Elt Ideal) ℓ)

theorem idx : ∀ t : Fin cfg0.N, win0_0.index t = ![t.val, 0] ∧ win0_1.index t = ![t.val, 0] ∧ win0_2.index t = ![0, 0] := by
  show ∀ t : Fin grid0.N, _
  decide +kernel

theorem t_lt (t : Fin cfg0.N) : t.val < 2 := Nat.lt_of_lt_of_eq t.isLt N_0

/-- Row `r` of tile `t`. -/
def row (t : Fin cfg0.N) (r : Fin 2048) : Fin 4096 := ⟨2048 * t.val + r.val, by have := t_lt t; omega⟩

/-- The launch's arguments on core `c`. -/
abbrev aOf (c : Dev nD) : Vec Ideal S4096x1024 .f32 := m ((c : Thread nD τ).loc main_arg0)
abbrev dzOf (c : Dev nD) : Vec Ideal S4096x1024 .f32 := m ((c : Thread nD τ).loc main_arg1)

theorem blk_a (c : Dev nD) (t : Fin cfg0.N) (r : Fin 2048) (i : Fin 1024) : iblk m c 0 t (ix2 r i) = aOf m c (ix2 (row t r) i) := by
  rw [show aOf m c = V m c main_arg0 from (V_main_arg0 m c).symm]
  unfold row
  blk_ext [iblk, idx t]

theorem blk_dz (c : Dev nD) (t : Fin cfg0.N) (r : Fin 2048) (j : Fin 1024) : iblk m c 1 t (ix2 r j) = dzOf m c (ix2 (row t r) j) := by
  rw [show dzOf m c = V m c main_arg1 from (V_main_arg1 m c).symm]
  unfold row
  blk_ext [iblk, idx t]

/-- A tile's part in terms of the arguments. -/
theorem part_at (c : Dev nD) (t : Fin cfg0.N) (i j : Fin 1024) :
    part (iblk m c 0 t) (iblk m c 1 t) (ix2 i j) = ∑ r : Fin 2048, aOf m c (ix2 (row t r) i) * dzOf m c (ix2 (row t r) j) :=
  Finset.sum_congr rfl fun r _ => congrArg₂ (fun a b : EReal => a * b) (blk_a m c t r i) (blk_dz m c t r j)

theorem product (x : Vec Ideal S2048x1024 .f32) (z : Vec Ideal S2048x1024 .f32) (i : S1024x1024.Idx) :
    k0_pay1 (F := Ideal) x z i = part x z i := by
  idx_vars i
  pointwise [k0_pay1]
  rfl

/-- After the first point the scratch holds the first tile's part. -/
theorem first (c : Dev nD) (t : Fin cfg0.N) (h0 : t.val % 2 = 0) (h1 : ¬t.val % 2 = 1) (i : S1024x1024.Idx) :
    (outsAt0 m c t.val t.isLt).2 i = part (iblk m c 0 t) (iblk m c 1 t) i := by
  rw [outsAt0_A m c t h0 h1 h1]
  dsimp only
  frame_open
  frame_out
  rw [← product]
  idx_vars i
  pointwise [k0_pay2]

/-- The last point writes the two tiles' parts. -/
theorem last (c : Dev nD) (t : Fin cfg0.N) (h0 : ¬t.val % 2 = 0) (h1 : t.val % 2 = 1) (i : S1024x1024.Idx) :
    (outsAt0 m c t.val t.isLt).1 i = (outsAt0 m c (t.val - 1) (Nat.lt_of_le_of_lt (Nat.sub_le _ _) t.isLt)).2 i
      + part (iblk m c 0 t) (iblk m c 1 t) i := by
  rw [outsAt0_B m c t h0 h1 h1]
  dsimp only
  frame_open
  simp (disch := decide) only [↓ View.readCov_cons_toLoadRect]
  frame_out
  rw [← product]
  generalize outsAt0 m c (t.val - 1) _ = s
  idx_vars i
  pointwise [k0_pay3, k0_pay4]
  exact congrArg (· + _) (congrFun (Memref.IsWhole.read_unread _ _) _)

/-- The two points of the launch. -/
def point (k : Fin 2) : Fin cfg0.N := ⟨k.val, Nat.lt_of_lt_of_eq k.isLt N_0.symm⟩

theorem final (c : Dev nD) : (dats m 0 c).arrAt 2 cfg0.N = weight (aOf m c) (dzOf m c) := by
  refine (dats m 0 c).arrAt_eq_of_covers 2 _ (by decide +kernel) fun t hf y => ?_
  have ht : t.val % 2 = 1 := (flush0_2 t).mp hf
  obtain rfl : t = point 1 := Fin.ext (by have := t_lt t; show t.val = 1; omega)
  idx_vars y
  blk_simp
  rw [after0_2, last m c (point 1) (by decide) (by decide)]
  refine Eq.trans (b := weight (aOf m c) (dzOf m c) (ix2 y0 y1)) ?_ ?_
  · refine Eq.trans ?_ (Cert.Ffn.DownWeight.sum_halves fun u => aOf m c (ix2 u y0) * dzOf m c (ix2 u y1))
    refine congrArg₂ (fun a b : EReal => a + b) ((first m c (point 0) (by decide) (by decide) _).trans ((part_at m c (point 0) y0 y1).trans ?_)) (part_at m c (point 1) y0 y1)
    refine Finset.sum_congr rfl fun r _ => ?_
    rw [show row (point 0) r = ⟨r.val, by omega⟩ from Fin.ext (Nat.zero_add _)]
  · blk_ext [idx (point 1)]

end Kernel

section Reference

open Cert.Reference7Ideal Cert.Reference7Ideal.Read

theorem ref_v4 (a dz : Vec Ideal S4096x1024 .f32) : val_main_v4 (F := Ideal) a dz = weight a dz := by
  funext i
  idx_vars i
  pointwise [val_main_v4, val_main_v3, val_main_v2]
  exact Finset.sum_congr rfl fun _ _ => mul_comm _ _

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference7Ideal.Value.run m ρ)

end Reference

/-- On equal arguments the kernel and the reference leave the same array. -/
theorem algebraic : Cert.algebraic_Kernel7Ideal_Reference7Ideal := by
  intro m g m' g' _ he
  refine ⟨fun c => weight (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (final m c), (h c).2⟩) (Cert.Kernel7Ideal.Value.run_blocks m g)
  · refine (θ_run Cert.Reference7Ideal.defs _ _).mono (fun r h c => ⟨(h c).1.trans ((Cert.Reference7Ideal.Read.val_main_v4_eq _ _).trans ((ref_v4 _ _).trans ?_)), (h c).2⟩)
      (Cert.Reference7Ideal.Value.run m' g')
    obtain ⟨h0, h1⟩ := he c
    rw [h0, h1]

end Cert.Att.OutWeight

end
-- ==== Proof.OutInput.lean ====
/- The gradient of an output projection's input: row `t`, column `j` is the product of row `t` of the result's gradient and row
   `j` of the weight. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Att.OutInput

open Idealize.ShloMosaic Idealize.ShloMosaic.TcCoe Idealize.ShloMosaic.StableHlo Idealize.SL.Sem

section Kernel

open Cert.Kernel8Ideal Cert.Kernel8Ideal.Gen

/-- The gradient `dz · wᵀ`. -/
def input (w : Vec Ideal S1024x1024 .f32) (dz : Vec Ideal S4096x1024 .f32) : Vec Ideal S4096x1024 .f32 := fun i =>
  ∑ k : Fin 1024, dz (ix2 (i 0) k) * w (ix2 (i 1) k)

variable (m : (ℓ : Loc nD τ sig) → Buf (Elt Ideal) ℓ)

/-- The launch's arguments on core `c`. -/
abbrev wOf (c : Dev nD) : Vec Ideal S1024x1024 .f32 := m ((c : Thread nD τ).loc main_arg0)
abbrev dzOf (c : Dev nD) : Vec Ideal S4096x1024 .f32 := m ((c : Thread nD τ).loc main_arg1)

theorem idx : ∀ t : Fin cfg0.N, win0_0.index t = ![t.val, 0] ∧ win0_1.index t = ![0, 0] ∧ win0_2.index t = ![t.val, 0] := by
  show ∀ t : Fin grid0.N, _
  decide +kernel

theorem t_lt (t : Fin cfg0.N) : t.val < 4 := Nat.lt_of_lt_of_eq t.isLt N_0

/-- Row `r` of tile `t`. -/
def row (t : Fin cfg0.N) (r : Fin 1024) : Fin 4096 := ⟨1024 * t.val + r.val, by have := t_lt t; omega⟩

theorem host_w (c : Dev nD) (j k : Fin 1024) : V m c main_v0 (ix2 j k) = wOf m c (ix2 j k) := by
  entry_read
  pointwise []

theorem blk_dz (c : Dev nD) (t : Fin cfg0.N) (r k : Fin 1024) : iblk m c 0 t (ix2 r k) = dzOf m c (ix2 (row t r) k) := by
  rw [show dzOf m c = V m c main_arg1 from (V_main_arg1 m c).symm]
  unfold row
  blk_ext [iblk, idx t]

theorem blk_w (c : Dev nD) (t : Fin cfg0.N) (j k : Fin 1024) : iblk m c 1 t (ix2 j k) = wOf m c (ix2 j k) := by
  rw [← host_w m c]
  blk_ext [iblk, idx t]

theorem tile (x : Vec Ideal S1024x1024 .f32) (w : Vec Ideal S1024x1024 .bf16) (r j : Fin 1024) :
    k0_pay1 (F := Ideal) x w (ix2 r j) = ∑ k : Fin 1024, x (ix2 r k) * w (ix2 j k) := by
  pointwise [k0_pay1]

theorem final (c : Dev nD) : (dats m 0 c).arrAt 2 cfg0.N = input (wOf m c) (dzOf m c) := by
  refine (dats m 0 c).arrAt_eq_of_covers 2 _ (by decide +kernel) fun t hf y => ?_
  idx_vars y
  blk_simp
  rw [after0_2]
  frame_open
  frame_out
  rw [tile]
  simp only [blk_dz, blk_w]
  refine Eq.trans (b := input (wOf m c) (dzOf m c) (ix2 (row t y0) y1)) rfl ?_
  unfold row
  blk_ext [idx t]

end Kernel

section Reference

open Cert.Reference8Ideal Cert.Reference8Ideal.Read

theorem ref_v2 (w : Vec Ideal S1024x1024 .f32) (dz : Vec Ideal S4096x1024 .f32) : val_main_v2 (F := Ideal) w dz = input w dz := by
  funext i
  idx_vars i
  pointwise [val_main_v2]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference8Ideal.Value.run m ρ)

end Reference

/-- On equal arguments the kernel and the reference leave the same array. -/
theorem algebraic : Cert.algebraic_Kernel8Ideal_Reference8Ideal := by
  intro m g m' g' _ he
  refine ⟨fun c => input (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (final m c), (h c).2⟩) (Cert.Kernel8Ideal.Value.run_blocks m g)
  · refine (θ_run Cert.Reference8Ideal.defs _ _).mono (fun r h c => ⟨(h c).1.trans ((Cert.Reference8Ideal.Read.val_main_v2_eq _ _).trans ((ref_v2 _ _).trans ?_)), (h c).2⟩)
      (Cert.Reference8Ideal.Value.run m' g')
    obtain ⟨h0, h1⟩ := he c
    rw [h0, h1]

end Cert.Att.OutInput

end
-- ==== Proof.QkvWeight.lean ====
/- The gradient of the attention's projection weight: row `i`, column `j` is the sum over all rows of the input's column `i`
   times the projection's gradient's column `j`. The launch takes the rows in four tiles. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Att.QkvWeight

open Idealize.ShloMosaic Idealize.ShloMosaic.TcCoe Idealize.ShloMosaic.StableHlo Idealize.SL.Sem

section Kernel

open Cert.Kernel9Ideal Cert.Kernel9Ideal.Gen

/-- The gradient `xᵀ · dqkv`. -/
def weight (x : Vec Ideal S4096x1024 .f32) (dqkv : Vec Ideal S4096x1280 .f32) : Vec Ideal S1024x1280 .bf16 := fun i =>
  ∑ t : Fin 4096, x (ix2 t (i 0)) * dqkv (ix2 t (i 1))

/-- One tile's part: the sum over its 1024 rows. -/
def part (x : Vec Ideal S1024x1024 .f32) (z : Vec Ideal S1024x1280 .bf16) : Vec Ideal S1024x1280 .f32 := fun i =>
  ∑ r : Fin 1024, x (ix2 r (i 0)) * z (ix2 r (i 1))

variable (m : (ℓ : Loc nD τ sig) → Buf (Elt Ideal) ℓ)

theorem idx : ∀ t : Fin cfg0.N, win0_0.index t = ![t.val, 0] ∧ win0_1.index t = ![t.val, 0] ∧ win0_2.index t = ![0, 0] := by
  show ∀ t : Fin grid0.N, _
  decide +kernel

theorem t_lt (t : Fin cfg0.N) : t.val < 4 := Nat.lt_of_lt_of_eq t.isLt N_0

/-- Row `r` of tile `t`. -/
def row (t : Fin cfg0.N) (r : Fin 1024) : Fin 4096 := ⟨1024 * t.val + r.val, by have := t_lt t; omega⟩

/-- The launch's arguments on core `c`. -/
abbrev xOf (c : Dev nD) : Vec Ideal S4096x1024 .f32 := m ((c : Thread nD τ).loc main_arg0)
abbrev dqkvOf (c : Dev nD) : Vec Ideal S4096x1280 .f32 := m ((c : Thread nD τ).loc main_arg1)

theorem host_dqkv (c : Dev nD) (r : Fin 4096) (j : Fin 1280) : V m c main_v0 (ix2 r j) = dqkvOf m c (ix2 r j) := by
  entry_read
  pointwise []

theorem blk_x (c : Dev nD) (t : Fin cfg0.N) (r i : Fin 1024) : iblk m c 0 t (ix2 r i) = xOf m c (ix2 (row t r) i) := by
  rw [show xOf m c = V m c main_arg0 from (V_main_arg0 m c).symm]
  unfold row
  blk_ext [iblk, idx t]

theorem blk_dqkv (c : Dev nD) (t : Fin cfg0.N) (r : Fin 1024) (j : Fin 1280) : iblk m c 1 t (ix2 r j) = dqkvOf m c (ix2 (row t r) j) := by
  rw [← host_dqkv m c]
  unfold row
  blk_ext [iblk, idx t]

/-- A tile's part in terms of the arguments. -/
theorem part_at (c : Dev nD) (t : Fin cfg0.N) (i : Fin 1024) (j : Fin 1280) :
    part (iblk m c 0 t) (iblk m c 1 t) (ix2 i j) = ∑ r : Fin 1024, xOf m c (ix2 (row t r) i) * dqkvOf m c (ix2 (row t r) j) :=
  Finset.sum_congr rfl fun r _ => congrArg₂ (fun a b : EReal => a * b) (blk_x m c t r i) (blk_dqkv m c t r j)

theorem product (x : Vec Ideal S1024x1024 .f32) (z : Vec Ideal S1024x1280 .bf16) (i : S1024x1280.Idx) :
    k0_pay1 (F := Ideal) x z i = part x z i := by
  idx_vars i
  pointwise [k0_pay1]
  rfl

/-- After the first point the scratch holds the first tile's part. -/
theorem first (c : Dev nD) (t : Fin cfg0.N) (h0 : t.val % 4 = 0) (h1 : ¬1 ≤ t.val) (h2 : ¬t.val % 4 = 3) (i : S1024x1280.Idx) :
    (outsAt0 m c t.val t.isLt).2 i = part (iblk m c 0 t) (iblk m c 1 t) i := by
  rw [outsAt0_A m c t h0 h1 h2]
  dsimp only
  frame_open
  frame_out
  rw [← product]
  idx_vars i
  pointwise [k0_pay2]

/-- A point in between adds its tile's part to the scratch. -/
theorem mid (c : Dev nD) (t : Fin cfg0.N) (h0 : ¬t.val % 4 = 0) (h1 : 1 ≤ t.val) (h2 : ¬t.val % 4 = 3) (i : S1024x1280.Idx) :
    (outsAt0 m c t.val t.isLt).2 i = (outsAt0 m c (t.val - 1) (Nat.lt_of_le_of_lt (Nat.sub_le _ _) t.isLt)).2 i
      + part (iblk m c 0 t) (iblk m c 1 t) i := by
  rw [outsAt0_B m c t h0 h1 h2]
  dsimp only
  frame_open
  frame_out
  rw [← product]
  generalize outsAt0 m c (t.val - 1) _ = s
  idx_vars i
  pointwise [k0_pay3]
  exact congrArg (· + _) (congrFun (Memref.IsWhole.read_unread _ _) _)

/-- The last point writes what the scratch holds plus its tile's part. -/
theorem last (c : Dev nD) (t : Fin cfg0.N) (h0 : ¬t.val % 4 = 0) (h1 : 1 ≤ t.val) (h2 : t.val % 4 = 3) (i : S1024x1280.Idx) :
    (outsAt0 m c t.val t.isLt).1 i = (outsAt0 m c (t.val - 1) (Nat.lt_of_le_of_lt (Nat.sub_le _ _) t.isLt)).2 i
      + part (iblk m c 0 t) (iblk m c 1 t) i := by
  rw [outsAt0_C m c t h0 h1 h2]
  dsimp only
  frame_open
  simp (disch := decide) only [↓ View.readCov_cons_toLoadRect]
  frame_out
  rw [← product]
  generalize outsAt0 m c (t.val - 1) _ = s
  idx_vars i
  pointwise [k0_pay3, k0_pay4]
  exact congrArg (· + _) (congrFun (Memref.IsWhole.read_unread _ _) _)

/-- The four points of the launch. -/
def point (k : Fin 4) : Fin cfg0.N := ⟨k.val, Nat.lt_of_lt_of_eq k.isLt N_0.symm⟩

/-- The four tiles' rows are all the rows. -/
theorem sum_quarters (f : Fin 4096 → EReal) :
    (∑ r, f (row (point 0) r)) + (∑ r, f (row (point 1) r)) + (∑ r, f (row (point 2) r)) + ∑ r, f (row (point 3) r) = ∑ t : Fin 4096, f t := by
  rw [← Equiv.sum_comp (finProdFinEquiv (m := 4) (n := 1024)) f, Fintype.sum_prod_type, Fin.sum_univ_four]
  have e (k : Fin 4) (r : Fin 1024) : finProdFinEquiv (k, r) = row (point k) r := Fin.ext (Nat.add_comm _ _)
  have e' (k : Fin 4) : ∑ r : Fin 1024, f (finProdFinEquiv (k, r)) = ∑ r, f (row (point k) r) := Finset.sum_congr rfl fun r _ => congrArg f (e k r)
  rw [e' 0, e' 1, e' 2, e' 3]

theorem final (c : Dev nD) : (dats m 0 c).arrAt 2 cfg0.N = weight (xOf m c) (dqkvOf m c) := by
  refine (dats m 0 c).arrAt_eq_of_covers 2 _ (by decide +kernel) fun t hf y => ?_
  have ht : t.val % 4 = 3 := (flush0_2 t).mp hf
  obtain rfl : t = point 3 := Fin.ext (by have := t_lt t; show t.val = 3; omega)
  idx_vars y
  blk_simp
  rw [after0_2, last m c (point 3) (by decide) (by decide) (by decide)]
  refine Eq.trans (b := weight (xOf m c) (dqkvOf m c) (ix2 y0 y1)) ?_ ?_
  · refine Eq.trans ?_ (sum_quarters fun u => xOf m c (ix2 u y0) * dqkvOf m c (ix2 u y1))
    have e0 := (first m c (point 0) (by decide) (by decide) (by decide) (ix2 y0 y1)).trans (part_at m c (point 0) y0 y1)
    have e1 := (mid m c (point 1) (by decide) (by decide) (by decide) (ix2 y0 y1)).trans (congrArg₂ (fun a b : EReal => a + b) e0 (part_at m c (point 1) y0 y1))
    have e2 := (mid m c (point 2) (by decide) (by decide) (by decide) (ix2 y0 y1)).trans (congrArg₂ (fun a b : EReal => a + b) e1 (part_at m c (point 2) y0 y1))
    exact congrArg₂ (fun a b : EReal => a + b) e2 (part_at m c (point 3) y0 y1)
  · blk_ext [idx (point 3)]

end Kernel

section Reference

open Cert.Reference9Ideal Cert.Reference9Ideal.Read

theorem ref_v4 (x : Vec Ideal S4096x1024 .f32) (dqkv : Vec Ideal S4096x1280 .f32) : val_main_v4 (F := Ideal) x dqkv = weight x dqkv := by
  funext i
  idx_vars i
  pointwise [val_main_v4, val_main_v3, val_main_v2]
  exact Finset.sum_congr rfl fun _ _ => mul_comm _ _

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference9Ideal.Value.run m ρ)

end Reference

/-- On equal arguments the kernel and the reference leave the same array. -/
theorem algebraic : Cert.algebraic_Kernel9Ideal_Reference9Ideal := by
  intro m g m' g' _ he
  refine ⟨fun c => weight (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (final m c), (h c).2⟩) (Cert.Kernel9Ideal.Value.run_blocks m g)
  · refine (θ_run Cert.Reference9Ideal.defs _ _).mono (fun r h c => ⟨(h c).1.trans ((Cert.Reference9Ideal.Read.val_main_v4_eq _ _).trans ((ref_v4 _ _).trans ?_)), (h c).2⟩)
      (Cert.Reference9Ideal.Value.run m' g')
    obtain ⟨h0, h1⟩ := he c
    rw [h0, h1]

end Cert.Att.QkvWeight

end
-- ==== Proof.QkvInput.lean ====
/- The gradient of the attention's input, by its projection and by the residual: row `t` is the product of row `t` of the
   projection's gradient and the transposed weight, plus `alpha` times row `t` of the residual sum's gradient. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Att.QkvInput

open Idealize.ShloMosaic Idealize.ShloMosaic.TcCoe Idealize.ShloMosaic.StableHlo Idealize.SL.Sem

section Kernel

open Cert.Kernel10Ideal Cert.Kernel10Ideal.Gen

/-- The residual's factor, as the f32 word both programs have. -/
def alpha : EReal := Ideal.ofBits .f32 0x3FB504F3#32

/-- The gradient `dqkv · wᵀ + alpha · dz`. -/
def input (w : Vec Ideal S1024x1280 .f32) (dqkv : Vec Ideal S4096x1280 .f32) (dz : Vec Ideal S4096x1024 .f32) : Vec Ideal S4096x1024 .f32 :=
  fun i => (∑ k : Fin 1280, dqkv (ix2 (i 0) k) * w (ix2 (i 1) k)) + alpha * dz i

variable (m : (ℓ : Loc nD τ sig) → Buf (Elt Ideal) ℓ)

/-- The launch's arguments on core `c`. -/
abbrev wOf (c : Dev nD) : Vec Ideal S1024x1280 .f32 := m ((c : Thread nD τ).loc main_arg0)
abbrev dqkvOf (c : Dev nD) : Vec Ideal S4096x1280 .f32 := m ((c : Thread nD τ).loc main_arg1)
abbrev dzOf (c : Dev nD) : Vec Ideal S4096x1024 .f32 := m ((c : Thread nD τ).loc main_arg2)

theorem idx : ∀ t : Fin cfg0.N, win0_0.index t = ![t.val, 0] ∧ win0_1.index t = ![0, 0] ∧ win0_2.index t = ![t.val, 0]
    ∧ win0_3.index t = ![t.val, 0] := by
  show ∀ t : Fin grid0.N, _
  decide +kernel

theorem t_lt (t : Fin cfg0.N) : t.val < 4 := Nat.lt_of_lt_of_eq t.isLt N_0

/-- Row `r` of tile `t`. -/
def row (t : Fin cfg0.N) (r : Fin 1024) : Fin 4096 := ⟨1024 * t.val + r.val, by have := t_lt t; omega⟩

theorem host_dqkv (c : Dev nD) (r : Fin 4096) (k : Fin 1280) : V m c main_v0 (ix2 r k) = dqkvOf m c (ix2 r k) := by
  entry_read
  pointwise []

theorem host_w (c : Dev nD) (j : Fin 1024) (k : Fin 1280) : V m c main_v1 (ix2 j k) = wOf m c (ix2 j k) := by
  entry_read
  pointwise []

theorem blk_dqkv (c : Dev nD) (t : Fin cfg0.N) (r : Fin 1024) (k : Fin 1280) : iblk m c 0 t (ix2 r k) = dqkvOf m c (ix2 (row t r) k) := by
  rw [← host_dqkv m c]
  unfold row
  blk_ext [iblk, idx t]

theorem blk_w (c : Dev nD) (t : Fin cfg0.N) (j : Fin 1024) (k : Fin 1280) : iblk m c 1 t (ix2 j k) = wOf m c (ix2 j k) := by
  rw [← host_w m c]
  blk_ext [iblk, idx t]

theorem blk_dz (c : Dev nD) (t : Fin cfg0.N) (r j : Fin 1024) : iblk m c 2 t (ix2 r j) = dzOf m c (ix2 (row t r) j) := by
  rw [show dzOf m c = V m c main_arg2 from (V_main_arg2 m c).symm]
  unfold row
  blk_ext [iblk, idx t]

theorem tile (x w : Vec Ideal S1024x1280 .bf16) (z : Vec Ideal S1024x1024 .f32) (r j : Fin 1024) :
    k0_pay1 (F := Ideal) x w z (ix2 r j) = (∑ k : Fin 1280, x (ix2 r k) * w (ix2 j k)) + alpha * z (ix2 r j) := by
  pointwise [k0_pay1]
  rfl

theorem final (c : Dev nD) : (dats m 0 c).arrAt 3 cfg0.N = input (wOf m c) (dqkvOf m c) (dzOf m c) := by
  refine (dats m 0 c).arrAt_eq_of_covers 3 _ (by decide +kernel) fun t hf y => ?_
  idx_vars y
  blk_simp
  rw [after0_3]
  frame_open
  frame_out
  rw [tile, blk_dz]
  simp only [blk_dqkv, blk_w]
  refine Eq.trans (b := input (wOf m c) (dqkvOf m c) (dzOf m c) (ix2 (row t y0) y1)) rfl ?_
  unfold row
  blk_ext [idx t]

end Kernel

section Reference

open Cert.Reference10Ideal Cert.Reference10Ideal.Read

theorem ref_v7 (w : Vec Ideal S1024x1280 .f32) (dqkv : Vec Ideal S4096x1280 .f32) (dz : Vec Ideal S4096x1024 .f32) :
    val_main_v7 (F := Ideal) w dqkv dz = input w dqkv dz := by
  funext i
  idx_vars i
  pointwise [val_main_v7, val_main_v6, val_main_v5, val_main_v4, val_main_cst_1]
  exact add_comm (G := EReal) _ _

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r hr => ⟨fun c => (hr c).2, sem_eq_zero_of_no_sems (by decide) r.2⟩) (Cert.Reference10Ideal.Value.run m ρ)

end Reference

/-- On equal arguments the kernel and the reference leave the same array. -/
theorem algebraic : Cert.algebraic_Kernel10Ideal_Reference10Ideal := by
  intro m g m' g' _ he
  refine ⟨fun c => input (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)), ?_, ?_⟩
  · exact (θ_run Cert.Kernel10Ideal.defs _ _).mono (fun r h c => ⟨(h c).1.trans (final m c), (h c).2⟩) (Cert.Kernel10Ideal.Value.run_blocks m g)
  · refine (θ_run Cert.Reference10Ideal.defs _ _).mono (fun r h c => ⟨(h c).1.trans ((Cert.Reference10Ideal.Read.val_main_v7_eq _ _ _).trans ((ref_v7 _ _ _).trans ?_)), (h c).2⟩)
      (Cert.Reference10Ideal.Value.run m' g')
    obtain ⟨h0, h1, h2⟩ := he c
    rw [h0, h1, h2]

end Cert.Att.QkvInput

end
-- ==== Proof.DownForward.lean ====
/- The down projection: row `t`, column `j` is the product of row `t` of the gated product and column `j` of the weight. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Ffn.DownForward

open Idealize.ShloMosaic Idealize.ShloMosaic.TcCoe Idealize.ShloMosaic.StableHlo Idealize.SL.Sem

section Kernel

open Cert.Kernel11Ideal Cert.Kernel11Ideal.Gen

/-- The product `f · w`. -/
def product (f : Vec Ideal S4096x2816 .f32) (w : Vec Ideal S2816x1024 .f32) : Vec Ideal S4096x1024 .f32 := fun i =>
  ∑ k : Fin 2816, f (ix2 (i 0) k) * w (ix2 k (i 1))

variable (m : (ℓ : Loc nD τ sig) → Buf (Elt Ideal) ℓ)

/-- The launch's arguments on core `c`. -/
abbrev fOf (c : Dev nD) : Vec Ideal S4096x2816 .f32 := m ((c : Thread nD τ).loc main_arg0)
abbrev wOf (c : Dev nD) : Vec Ideal S2816x1024 .f32 := m ((c : Thread nD τ).loc main_arg1)

theorem idx : ∀ t : Fin cfg0.N, win0_0.index t = ![t.val, 0] ∧ win0_1.index t = ![0, 0] ∧ win0_2.index t = ![t.val, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_f (c : Dev nD) (r : Fin 4096) (k : Fin 2816) : V m c main_v0 (ix2 r k) = fOf m c (ix2 r k) := by
  entry_read
  pointwise []

theorem host_w (c : Dev nD) (k : Fin 2816) (j : Fin 1024) : V m c main_v1 (ix2 k j) = wOf m c (ix2 k j) := by
  entry_read
  pointwise []

theorem blk_f (c : Dev nD) (t : Fin cfg0.N) (r : Fin 512) (k : Fin 2816) : iblk m c 0 t (ix2 r k) = fOf m c (ix2 (row t r) k) := by
  rw [← host_f m c]
  unfold row
  blk_ext [iblk, idx t]

theorem blk_w (c : Dev nD) (t : Fin cfg0.N) (k : Fin 2816) (j : Fin 1024) : iblk m c 1 t (ix2 k j) = wOf m c (ix2 k j) := by
  rw [← host_w m c]
  blk_ext [iblk, idx t]

theorem tile (x : Vec Ideal S512x2816 .bf16) (w : Vec Ideal S2816x1024 .bf16) (r : Fin 512) (j : Fin 1024) :
    k0_pay1 (F := Ideal) x w (ix2 r j) = ∑ k : Fin 2816, x (ix2 r k) * w (ix2 k j) := by
  pointwise [k0_pay1]

theorem final (c : Dev nD) : (dats m 0 c).arrAt 2 cfg0.N = product (fOf m c) (wOf m c) := by
  refine (dats m 0 c).arrAt_eq_of_covers 2 _ (by decide +kernel) fun t hf y => ?_
  idx_vars y
  blk_simp
  rw [after0_2]
  frame_open
  frame_out
  rw [tile]
  simp only [blk_f, blk_w]
  refine Eq.trans (b := product (fOf m c) (wOf m c) (ix2 (row t y0) y1)) rfl ?_
  unfold row
  blk_ext [idx t]

end Kernel

section Reference

open Cert.Reference11Ideal Cert.Reference11Ideal.Read

theorem ref_v0 (f : Vec Ideal S4096x2816 .f32) (w : Vec Ideal S2816x1024 .f32) : val_main_v0 (F := Ideal) f w = product f w := by
  funext i
  idx_vars i
  pointwise [val_main_v0]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference11Ideal.Value.run m ρ)

end Reference

/-- On equal arguments the kernel and the reference leave the same array. -/
theorem algebraic : Cert.algebraic_Kernel11Ideal_Reference11Ideal := by
  intro m g m' g' _ he
  refine ⟨fun c => product (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun r h c => ⟨(h c).1.trans (final m c), (h c).2⟩) (Cert.Kernel11Ideal.Value.run_blocks m g)
  · refine (θ_run Cert.Reference11Ideal.defs _ _).mono (fun r h c => ⟨(h c).1.trans ((Cert.Reference11Ideal.Read.val_main_v0_eq _ _).trans ((ref_v0 _ _).trans ?_)), (h c).2⟩)
      (Cert.Reference11Ideal.Value.run m' g')
    obtain ⟨h0, h1⟩ := he c
    rw [h0, h1]

end Cert.Ffn.DownForward

end
-- ==== Proof.Qkv.lean ====
/- The attention's projection: row `t`, column `j` is the product of row `t` of the input and column `j` of the weight, plus the
   bias of column `j`. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Att.Qkv

open Idealize.ShloMosaic Idealize.ShloMosaic.TcCoe Idealize.ShloMosaic.StableHlo Idealize.SL.Sem

section Kernel

open Cert.Kernel12Ideal Cert.Kernel12Ideal.Gen

/-- The projection `x · w + b`. -/
def project (x : Vec Ideal S4096x1024 .f32) (w : Vec Ideal S1024x1280 .f32) (b : Vec Ideal S1280 .f32) : Vec Ideal S4096x1280 .f32 :=
  fun i => (∑ k : Fin 1024, x (ix2 (i 0) k) * w (ix2 k (i 1))) + b (ix1 (i 1))

variable (m : (ℓ : Loc nD τ sig) → Buf (Elt Ideal) ℓ)

/-- The launch's arguments on core `c`. -/
abbrev xOf (c : Dev nD) : Vec Ideal S4096x1024 .f32 := m ((c : Thread nD τ).loc main_arg0)
abbrev wOf (c : Dev nD) : Vec Ideal S1024x1280 .f32 := m ((c : Thread nD τ).loc main_arg1)
abbrev bOf (c : Dev nD) : Vec Ideal S1280 .f32 := m ((c : Thread nD τ).loc main_arg2)

theorem idx : ∀ t : Fin cfg0.N, win0_0.index t = ![t.val, 0] ∧ win0_1.index t = ![0, 0] ∧ win0_2.index t = ![0, 0]
    ∧ win0_3.index t = ![t.val, 0] := by
  show ∀ t : Fin grid0.N, _
  decide +kernel

theorem t_lt (t : Fin cfg0.N) : t.val < 4 := Nat.lt_of_lt_of_eq t.isLt N_0

/-- Row `r` of tile `t`. -/
def row (t : Fin cfg0.N) (r : Fin 1024) : Fin 4096 := ⟨1024 * t.val + r.val, by have := t_lt t; omega⟩

theorem host_w (c : Dev nD) (k : Fin 1024) (j : Fin 1280) : V m c main_v0 (ix2 k j) = wOf m c (ix2 k j) := by
  entry_read
  pointwise []

theorem host_b (c : Dev nD) (j : Fin 1280) : V m c main_v1 (ix2 0 j) = bOf m c (ix1 j) := by
  entry_read
  pointwise []

theorem blk_x (c : Dev nD) (t : Fin cfg0.N) (r k : Fin 1024) : iblk m c 0 t (ix2 r k) = xOf m c (ix2 (row t r) k) := by
  rw [show xOf m c = V m c main_arg0 from (V_main_arg0 m c).symm]
  unfold row
  blk_ext [iblk, idx t]

theorem blk_w (c : Dev nD) (t : Fin cfg0.N) (k : Fin 1024) (j : Fin 1280) : iblk m c 1 t (ix2 k j) = wOf m c (ix2 k j) := by
  rw [← host_w m c]
  blk_ext [iblk, idx t]

theorem blk_b (c : Dev nD) (t : Fin cfg0.N) (j : Fin 1280) : iblk m c 2 t (ix2 0 j) = bOf m c (ix1 j) := by
  rw [← host_b m c]
  blk_ext [iblk, idx t]

theorem tile (x : Vec Ideal S1024x1024 .f32) (w : Vec Ideal S1024x1280 .bf16) (b : Vec Ideal S1x1280 .f32) (r : Fin 1024) (j : Fin 1280) :
    k0_pay1 (F := Ideal) x w b (ix2 r j) = (∑ k : Fin 1024, x (ix2 r k) * w (ix2 k j)) + b (ix2 0 j) := by
  pointwise [k0_pay1]

theorem final (c : Dev nD) : (dats m 0 c).arrAt 3 cfg0.N = project (xOf m c) (wOf m c) (bOf m c) := by
  refine (dats m 0 c).arrAt_eq_of_covers 3 _ (by decide +kernel) fun t hf y => ?_
  idx_vars y
  blk_simp
  rw [after0_3]
  frame_open
  frame_out
  rw [tile, blk_b]
  simp only [blk_x, blk_w]
  refine Eq.trans (b := project (xOf m c) (wOf m c) (bOf m c) (ix2 (row t y0) y1)) rfl ?_
  unfold row
  blk_ext [idx t]

end Kernel

section Reference

open Cert.Reference12Ideal Cert.Reference12Ideal.Read

theorem ref_v3 (x : Vec Ideal S4096x1024 .f32) (w : Vec Ideal S1024x1280 .f32) (b : Vec Ideal S1280 .f32) :
    val_main_v3 (F := Ideal) x w b = project x w b := by
  funext i
  idx_vars i
  pointwise [val_main_v3, val_main_v2, val_main_v1, val_main_v0]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r hr => ⟨fun c => (hr c).2, sem_eq_zero_of_no_sems (by decide) r.2⟩) (Cert.Reference12Ideal.Value.run m ρ)

end Reference

/-- On equal arguments the kernel and the reference leave the same array. -/
theorem algebraic : Cert.algebraic_Kernel12Ideal_Reference12Ideal := by
  intro m g m' g' _ he
  refine ⟨fun c => project (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), ?_, ?_⟩
  · exact (θ_run Cert.Kernel12Ideal.defs _ _).mono (fun r h c => ⟨(h c).1.trans (final m c), (h c).2⟩) (Cert.Kernel12Ideal.Value.run_blocks m g)
  · refine (θ_run Cert.Reference12Ideal.defs _ _).mono (fun r h c => ⟨(h c).1.trans ((Cert.Reference12Ideal.Read.val_main_v3_eq _ _ _).trans ((ref_v3 _ _ _).trans ?_)), (h c).2⟩)
      (Cert.Reference12Ideal.Value.run m' g')
    obtain ⟨h0, h1, h2⟩ := he c
    rw [h0, h1, h2]

end Cert.Att.Qkv

end
-- ==== Proof.OutNorm.lean ====
/- The attention's output projection with the residual norm after it: the projected rows, and the norm of the residual plus them. -/
module

public import proofs.«01_k».proof.Defs
public import proofs.«01_k».proof.Proof.Norm
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Norm.Out

open Idealize.ShloMosaic Idealize.ShloMosaic.TcCoe Idealize.ShloMosaic.StableHlo Idealize.SL.Sem

section Kernel

open Cert.Kernel13Ideal Cert.Kernel13Ideal.Gen

/-- The call's arguments: the attention's result, the weight, the residual, the norm's scale and offset. -/
structure Args where
  f : Vec Ideal S4096x1024 .f32
  w : Vec Ideal S1024x1024 .f32
  x : Vec Ideal S4096x1024 .f32
  g : Vec Ideal S1024 .f32
  b : Vec Ideal S1024 .f32

namespace Args

variable (a : Args)

/-- The projected row. -/
def proj (t : Fin 4096) : Row := fun n => ∑ k : Fin 1024, a.f (ix2 t k) * a.w (ix2 k n)
/-- The row the norm normalises. -/
def z (t : Fin 4096) : Row := fun n => kAlpha * a.x (ix2 t n) + a.proj t n
/-- The two results. -/
def s : Vec Ideal S4096x1024 .f32 := fun i => a.proj (i 0) (i 1)
def y : Vec Ideal S4096x1024 .f32 := fun i => hat (a.z (i 0)) (i 1) * a.g (ix1 (i 1)) + a.b (ix1 (i 1))

end Args

/-! ## One tile -/

section Tile

variable (f : Vec Ideal S512x1024 .f32) (w : Vec Ideal S1024x1024 .bf16) (x : Vec Ideal S512x1024 .f32) (g b : Vec Ideal S1x1024 .f32)

def tproj (r : Fin 512) : Row := fun n => ∑ k : Fin 1024, f (ix2 r k) * w (ix2 k n)
def tz (r : Fin 512) : Row := fun n => kAlpha * x (ix2 r n) + tproj f w r n

theorem tile_s (r : Fin 512) (n : Fin 1024) : k0_pay1 (F := Ideal) f w (ix2 r n) = tproj f w r n := by
  pointwise [k0_pay1]
  rfl

theorem tile_y (r : Fin 512) (n : Fin 1024) :
    k0_pay2 (F := Ideal) f w x g b (ix2 r n) = hat (tz f w x r) n * g (ix2 0 n) + b (ix2 0 n) := by
  pointwise [k0_pay2]
  simp only [tile_s]
  rfl

end Tile

/-! ## The launch -/

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

/-- The block each window is on at each point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_w (c : Dev nD) (k : Fin 1024) (n : Fin 1024) : V m c main_v0 (ix2 k n) = (argsOf m c).w (ix2 k n) := by
  entry_read
  pointwise [argsOf]
theorem host_g (c : Dev nD) (n : Fin 1024) : V m c main_v1 (ix2 0 n) = (argsOf m c).g (ix1 n) := by
  entry_read
  pointwise [argsOf]
theorem host_b (c : Dev nD) (n : Fin 1024) : V m c main_v2 (ix2 0 n) = (argsOf m c).b (ix1 n) := by
  entry_read
  pointwise [argsOf]

theorem blk_f (c : Dev nD) (t : Fin cfg0.N) (r : Fin 512) (k : Fin 1024) : iblk m c 0 t (ix2 r k) = (argsOf m c).f (ix2 (row t r) k) := by
  rw [show (argsOf m c).f = V m c main_arg0 from (V_main_arg0 m c).symm]
  unfold row
  blk_ext [iblk, idx t]
theorem blk_w (c : Dev nD) (t : Fin cfg0.N) (k : Fin 1024) (n : Fin 1024) : iblk m c 1 t (ix2 k n) = (argsOf m c).w (ix2 k n) := by
  rw [← host_w m c]
  blk_ext [iblk, idx t]
theorem blk_x (c : Dev nD) (t : Fin cfg0.N) (r : Fin 512) (n : Fin 1024) : iblk m c 2 t (ix2 r n) = (argsOf m c).x (ix2 (row t r) n) := by
  rw [show (argsOf m c).x = V m c main_arg2 from (V_main_arg2 m c).symm]
  unfold row
  blk_ext [iblk, idx t]
theorem blk_g (c : Dev nD) (t : Fin cfg0.N) (n : Fin 1024) : iblk m c 3 t (ix2 0 n) = (argsOf m c).g (ix1 n) := by
  rw [← host_g m c]
  blk_ext [iblk, idx t]
theorem blk_b (c : Dev nD) (t : Fin cfg0.N) (n : Fin 1024) : iblk m c 4 t (ix2 0 n) = (argsOf m c).b (ix1 n) := by
  rw [← host_b m c]
  blk_ext [iblk, idx t]

theorem tproj_eq (c : Dev nD) (t : Fin cfg0.N) (r : Fin 512) : tproj (iblk m c 0 t) (iblk m c 1 t) r = (argsOf m c).proj (row t r) :=
  funext fun n => Finset.sum_congr rfl fun k _ => congrArg₂ (fun a b : EReal => a * b) (blk_f m c t r k) (blk_w m c t k n)
theorem tz_eq (c : Dev nD) (t : Fin cfg0.N) (r : Fin 512) :
    tz (iblk m c 0 t) (iblk m c 1 t) (iblk m c 2 t) r = (argsOf m c).z (row t r) :=
  funext fun n => congrArg₂ (fun a b : EReal => kAlpha * a + b) (blk_x m c t r n) (congrFun (tproj_eq m c t r) n)

theorem final_s (c : Dev nD) : (dats m 0 c).arrAt 5 cfg0.N = (argsOf m c).s := by
  refine (dats m 0 c).arrAt_eq_of_covers 5 _ (by decide +kernel) fun t hf y => ?_
  idx_vars y
  blk_simp
  rw [after0_5]
  frame_open
  frame_out
  rw [tile_s, tproj_eq]
  refine Eq.trans (b := (argsOf m c).s (ix2 (row t y0) y1)) rfl ?_
  unfold row
  blk_ext [idx t]

theorem final_y (c : Dev nD) : (dats m 0 c).arrAt 6 cfg0.N = (argsOf m c).y := by
  refine (dats m 0 c).arrAt_eq_of_covers 6 _ (by decide +kernel) fun t hf y => ?_
  idx_vars y
  blk_simp
  rw [after0_6]
  frame_open
  frame_out
  rw [tile_y, tz_eq, blk_g, blk_b]
  refine Eq.trans (b := (argsOf m c).y (ix2 (row t y0) y1)) rfl ?_
  unfold row
  blk_ext [idx t]

end Kernel

section Reference

open Cert.Reference13Ideal Cert.Reference13Ideal.Read

variable (a : Args)

theorem ref_proj (t : Fin 4096) (n : Fin 1024) : val_main_v0 (F := Ideal) a.f a.w (ix2 t n) = a.proj t n := by
  pointwise [val_main_v0]
  rfl
theorem ref_z (t : Fin 4096) (n : Fin 1024) : val_main_v3 (F := Ideal) a.f a.w a.x (ix2 t n) = a.z t n := by
  pointwise [val_main_v3, val_main_v2, val_main_v1, val_main_cst]
  rw [ref_proj]
  rfl
theorem ref_mean (t : Fin 4096) : val_main_v7 (F := Ideal) a.f a.w a.x (ix2 t 0) = mean (a.z t) := by
  pointwise [val_main_v7, val_main_v6, val_main_v5, val_main_v4, val_main_cst_0, val_main_cst_1]
  simp only [ref_z]
  rfl
theorem ref_dev (t : Fin 4096) (n : Fin 1024) : val_main_v9 (F := Ideal) a.f a.w a.x (ix2 t n) = dev (a.z t) n := by
  pointwise [val_main_v9, val_main_v8]
  rw [ref_z, ref_mean]
  rfl
theorem ref_dev' (t : Fin 4096) (n : Fin 1024) : val_main_v16 (F := Ideal) a.f a.w a.x (ix2 t n) = dev (a.z t) n := by
  pointwise [val_main_v16, val_main_v15]
  rw [ref_z, ref_mean]
  rfl
theorem ref_root (t : Fin 4096) : val_main_v19 (F := Ideal) a.f a.w a.x (ix2 t 0) = root (a.z t) := by
  pointwise [val_main_v19, val_main_v18, val_main_v17, val_main_v14, val_main_v13, val_main_v12, val_main_v11, val_main_v10, val_main_cst_2, val_main_cst_3, val_main_cst_4]
  simp only [ref_dev]
  rfl
theorem ref_v0 : val_main_v0 (F := Ideal) a.f a.w = a.s := by
  funext y
  idx_vars y
  exact ref_proj a y0 y1
theorem ref_v27 : val_main_v27 (F := Ideal) a.f a.w a.x a.g a.b = a.y := by
  funext y
  idx_vars y
  pointwise [val_main_v27, val_main_v26, val_main_v25, val_main_v24, val_main_v23, val_main_v22, val_main_v21, val_main_v20]
  rw [ref_dev', ref_root]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r hr => ⟨fun c => (hr c).2.2, sem_eq_zero_of_no_sems (by decide) r.2⟩) (Cert.Reference13Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4)⟩

end Reference

/-- On equal arguments the kernel and the reference leave the same two arrays. -/
theorem algebraic : Cert.algebraic_Kernel13Ideal_Reference13Ideal := by
  intro m g m' g' _ he
  have ha : ∀ c, refArgs m' c = argsOf m c := fun c => by
    obtain ⟨h0, h1, h2, h3, h4⟩ := he c
    show Args.mk _ _ _ _ _ = Args.mk _ _ _ _ _
    rw [h0, h1, h2, h3, h4]
  refine ⟨fun c => (argsOf m c).s, fun c => (argsOf m c).y, ?_, ?_⟩
  · exact (θ_run Cert.Kernel13Ideal.defs _ _).mono (fun r h c => ⟨(h c).1.trans (final_s m c), (h c).2.1.trans (final_y m c), (h c).2.2⟩)
      (Cert.Kernel13Ideal.Value.run_blocks m g)
  · exact (θ_run Cert.Reference13Ideal.defs _ _).mono (fun r h c =>
      ⟨(h c).1.trans ((Cert.Reference13Ideal.Read.val_main_v0_eq _ _).trans ((ref_v0 (refArgs m' c)).trans (congrArg Args.s (ha c)))),
        (h c).2.1.trans ((Cert.Reference13Ideal.Read.val_main_v27_eq _ _ _ _ _).trans ((ref_v27 (refArgs m' c)).trans (congrArg Args.y (ha c)))),
        (h c).2.2⟩)
      (Cert.Reference13Ideal.Value.run m' g')

end Cert.Norm.Out

end
-- ==== Proof.MixWeight.lean ====
/- The gradient of the mixer's output weight: row `i`, column `j` is the sum over all rows of
   the input's column `i` times the result's gradient's column `j`. The launch takes the rows in two tiles. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.DownWeight
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Mix.Weight

open Idealize.ShloMosaic Idealize.ShloMosaic.TcCoe Idealize.ShloMosaic.StableHlo Idealize.SL.Sem

section Kernel

open Cert.Kernel14Ideal Cert.Kernel14Ideal.Gen

/-- The gradient `aᵀ · dz`. -/
def weight (a dz : Vec Ideal S4096x1024 .f32) : Vec Ideal S1024x1024 .bf16 := fun i =>
  ∑ t : Fin 4096, a (ix2 t (i 0)) * dz (ix2 t (i 1))

/-- One tile's part: the sum over its 2048 rows. -/
def part (x : Vec Ideal S2048x1024 .bf16) (z : Vec Ideal S2048x1024 .f32) : Vec Ideal S1024x1024 .f32 := fun i =>
  ∑ r : Fin 2048, x (ix2 r (i 0)) * z (ix2 r (i 1))

variable (m : (ℓ : Loc nD τ sig) → Buf (Elt Ideal) ℓ)

theorem idx : ∀ t : Fin cfg0.N, win0_0.index t = ![t.val, 0] ∧ win0_1.index t = ![t.val, 0] ∧ win0_2.index t = ![0, 0] := by
  show ∀ t : Fin grid0.N, _
  decide +kernel

theorem t_lt (t : Fin cfg0.N) : t.val < 2 := Nat.lt_of_lt_of_eq t.isLt N_0

/-- Row `r` of tile `t`. -/
def row (t : Fin cfg0.N) (r : Fin 2048) : Fin 4096 := ⟨2048 * t.val + r.val, by have := t_lt t; omega⟩

/-- The launch's arguments on core `c`. -/
abbrev aOf (c : Dev nD) : Vec Ideal S4096x1024 .f32 := m ((c : Thread nD τ).loc main_arg0)
abbrev dzOf (c : Dev nD) : Vec Ideal S4096x1024 .f32 := m ((c : Thread nD τ).loc main_arg1)

theorem host_a (c : Dev nD) (r : Fin 4096) (i : Fin 1024) : V m c main_v0 (ix2 r i) = aOf m c (ix2 r i) := by
  entry_read
  pointwise []

theorem blk_a (c : Dev nD) (t : Fin cfg0.N) (r : Fin 2048) (i : Fin 1024) : iblk m c 0 t (ix2 r i) = aOf m c (ix2 (row t r) i) := by
  rw [← host_a m c]
  unfold row
  blk_ext [iblk, idx t]

theorem blk_dz (c : Dev nD) (t : Fin cfg0.N) (r : Fin 2048) (j : Fin 1024) : iblk m c 1 t (ix2 r j) = dzOf m c (ix2 (row t r) j) := by
  rw [show dzOf m c = V m c main_arg1 from (V_main_arg1 m c).symm]
  unfold row
  blk_ext [iblk, idx t]

/-- A tile's part in terms of the arguments. -/
theorem part_at (c : Dev nD) (t : Fin cfg0.N) (i j : Fin 1024) :
    part (iblk m c 0 t) (iblk m c 1 t) (ix2 i j) = ∑ r : Fin 2048, aOf m c (ix2 (row t r) i) * dzOf m c (ix2 (row t r) j) :=
  Finset.sum_congr rfl fun r _ => congrArg₂ (fun a b : EReal => a * b) (blk_a m c t r i) (blk_dz m c t r j)

theorem product (x : Vec Ideal S2048x1024 .bf16) (z : Vec Ideal S2048x1024 .f32) (i : S1024x1024.Idx) :
    k0_pay1 (F := Ideal) x z i = part x z i := by
  idx_vars i
  pointwise [k0_pay1]
  rfl

/-- After the first point the scratch holds the first tile's part. -/
theorem first (c : Dev nD) (t : Fin cfg0.N) (h0 : t.val % 2 = 0) (h1 : ¬t.val % 2 = 1) (i : S1024x1024.Idx) :
    (outsAt0 m c t.val t.isLt).2 i = part (iblk m c 0 t) (iblk m c 1 t) i := by
  rw [outsAt0_A m c t h0 h1 h1]
  dsimp only
  frame_open
  frame_out
  rw [← product]
  idx_vars i
  pointwise [k0_pay2]

/-- The last point writes the two tiles' parts. -/
theorem last (c : Dev nD) (t : Fin cfg0.N) (h0 : ¬t.val % 2 = 0) (h1 : t.val % 2 = 1) (i : S1024x1024.Idx) :
    (outsAt0 m c t.val t.isLt).1 i = (outsAt0 m c (t.val - 1) (Nat.lt_of_le_of_lt (Nat.sub_le _ _) t.isLt)).2 i
      + part (iblk m c 0 t) (iblk m c 1 t) i := by
  rw [outsAt0_B m c t h0 h1 h1]
  dsimp only
  frame_open
  simp (disch := decide) only [↓ View.readCov_cons_toLoadRect]
  frame_out
  rw [← product]
  generalize outsAt0 m c (t.val - 1) _ = s
  idx_vars i
  pointwise [k0_pay3, k0_pay4]
  exact congrArg (· + _) (congrFun (Memref.IsWhole.read_unread _ _) _)

/-- The two points of the launch. -/
def point (k : Fin 2) : Fin cfg0.N := ⟨k.val, Nat.lt_of_lt_of_eq k.isLt N_0.symm⟩

theorem final (c : Dev nD) : (dats m 0 c).arrAt 2 cfg0.N = weight (aOf m c) (dzOf m c) := by
  refine (dats m 0 c).arrAt_eq_of_covers 2 _ (by decide +kernel) fun t hf y => ?_
  have ht : t.val % 2 = 1 := (flush0_2 t).mp hf
  obtain rfl : t = point 1 := Fin.ext (by have := t_lt t; show t.val = 1; omega)
  idx_vars y
  blk_simp
  rw [after0_2, last m c (point 1) (by decide) (by decide)]
  refine Eq.trans (b := weight (aOf m c) (dzOf m c) (ix2 y0 y1)) ?_ ?_
  · refine Eq.trans ?_ (Cert.Ffn.DownWeight.sum_halves fun u => aOf m c (ix2 u y0) * dzOf m c (ix2 u y1))
    refine congrArg₂ (fun a b : EReal => a + b) ((first m c (point 0) (by decide) (by decide) _).trans ((part_at m c (point 0) y0 y1).trans ?_)) (part_at m c (point 1) y0 y1)
    refine Finset.sum_congr rfl fun r _ => ?_
    rw [show row (point 0) r = ⟨r.val, by omega⟩ from Fin.ext (Nat.zero_add _)]
  · blk_ext [idx (point 1)]

end Kernel

section Reference

open Cert.Reference14Ideal Cert.Reference14Ideal.Read

theorem ref_v4 (a dz : Vec Ideal S4096x1024 .f32) : val_main_v4 (F := Ideal) a dz = weight a dz := by
  funext i
  idx_vars i
  pointwise [val_main_v4, val_main_v3, val_main_v2]
  exact Finset.sum_congr rfl fun _ _ => mul_comm _ _

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r hr => ⟨fun c => (hr c).2, sem_eq_zero_of_no_sems (by decide) r.2⟩) (Cert.Reference14Ideal.Value.run m ρ)

end Reference

/-- On equal arguments the kernel and the reference leave the same array. -/
theorem algebraic : Cert.algebraic_Kernel14Ideal_Reference14Ideal := by
  intro m g m' g' _ he
  refine ⟨fun c => weight (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)), ?_, ?_⟩
  · exact (θ_run Cert.Kernel14Ideal.defs _ _).mono (fun r h c => ⟨(h c).1.trans (final m c), (h c).2⟩) (Cert.Kernel14Ideal.Value.run_blocks m g)
  · refine (θ_run Cert.Reference14Ideal.defs _ _).mono (fun r h c => ⟨(h c).1.trans ((Cert.Reference14Ideal.Read.val_main_v4_eq _ _).trans ((ref_v4 _ _).trans ?_)), (h c).2⟩)
      (Cert.Reference14Ideal.Value.run m' g')
    obtain ⟨h0, h1⟩ := he c
    rw [h0, h1]

end Cert.Mix.Weight

end
-- ==== Proof.MixNorm.lean ====
/- The mixer's output projection with the residual norm after it: the projected rows, and the norm of the residual plus them. -/
module

public import proofs.«01_k».proof.Defs
public import proofs.«01_k».proof.Proof.Norm
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.Pipeline.ValueKit
public import Idealize.ShloMosaic.Lib.Claim
public import Idealize.ShloMosaic.Lib.Quiescent

@[expose] public section

set_option maxRecDepth 16384
set_option maxHeartbeats 400000

noncomputable section

namespace Cert.Norm.Mix

open Idealize.ShloMosaic Idealize.ShloMosaic.TcCoe Idealize.ShloMosaic.StableHlo Idealize.SL.Sem

section Kernel

open Cert.Kernel15Ideal Cert.Kernel15Ideal.Gen

/-- The call's arguments: the mixer's result, the weight, the residual, the norm's scale and offset. -/
structure Args where
  f : Vec Ideal S4096x1024 .f32
  w : Vec Ideal S1024x1024 .f32
  x : Vec Ideal S4096x1024 .f32
  g : Vec Ideal S1024 .f32
  b : Vec Ideal S1024 .f32

namespace Args

variable (a : Args)

/-- The projected row. -/
def proj (t : Fin 4096) : Row := fun n => ∑ k : Fin 1024, a.f (ix2 t k) * a.w (ix2 k n)
/-- The row the norm normalises. -/
def z (t : Fin 4096) : Row := fun n => kAlpha * a.x (ix2 t n) + a.proj t n
/-- The two results. -/
def s : Vec Ideal S4096x1024 .f32 := fun i => a.proj (i 0) (i 1)
def y : Vec Ideal S4096x1024 .f32 := fun i => hat (a.z (i 0)) (i 1) * a.g (ix1 (i 1)) + a.b (ix1 (i 1))

end Args

/-! ## One tile -/

section Tile

variable (f : Vec Ideal S512x1024 .bf16) (w : Vec Ideal S1024x1024 .bf16) (x : Vec Ideal S512x1024 .f32) (g b : Vec Ideal S1x1024 .f32)

def tproj (r : Fin 512) : Row := fun n => ∑ k : Fin 1024, f (ix2 r k) * w (ix2 k n)
def tz (r : Fin 512) : Row := fun n => kAlpha * x (ix2 r n) + tproj f w r n

theorem tile_s (r : Fin 512) (n : Fin 1024) : k0_pay1 (F := Ideal) f w (ix2 r n) = tproj f w r n := by
  pointwise [k0_pay1]
  rfl

theorem tile_y (r : Fin 512) (n : Fin 1024) :
    k0_pay2 (F := Ideal) f w x g b (ix2 r n) = hat (tz f w x r) n * g (ix2 0 n) + b (ix2 0 n) := by
  pointwise [k0_pay2]
  simp only [tile_s]
  rfl

end Tile

/-! ## The launch -/

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

/-- The block each window is on at each point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_f (c : Dev nD) (r : Fin 4096) (k : Fin 1024) : V m c main_v0 (ix2 r k) = (argsOf m c).f (ix2 r k) := by
  entry_read
  pointwise [argsOf]
theorem host_w (c : Dev nD) (k : Fin 1024) (n : Fin 1024) : V m c main_v1 (ix2 k n) = (argsOf m c).w (ix2 k n) := by
  entry_read
  pointwise [argsOf]
theorem host_g (c : Dev nD) (n : Fin 1024) : V m c main_v2 (ix2 0 n) = (argsOf m c).g (ix1 n) := by
  entry_read
  pointwise [argsOf]
theorem host_b (c : Dev nD) (n : Fin 1024) : V m c main_v3 (ix2 0 n) = (argsOf m c).b (ix1 n) := by
  entry_read
  pointwise [argsOf]

theorem blk_f (c : Dev nD) (t : Fin cfg0.N) (r : Fin 512) (k : Fin 1024) : iblk m c 0 t (ix2 r k) = (argsOf m c).f (ix2 (row t r) k) := by
  rw [← host_f m c]
  unfold row
  blk_ext [iblk, idx t]
theorem blk_w (c : Dev nD) (t : Fin cfg0.N) (k : Fin 1024) (n : Fin 1024) : iblk m c 1 t (ix2 k n) = (argsOf m c).w (ix2 k n) := by
  rw [← host_w m c]
  blk_ext [iblk, idx t]
theorem blk_x (c : Dev nD) (t : Fin cfg0.N) (r : Fin 512) (n : Fin 1024) : iblk m c 2 t (ix2 r n) = (argsOf m c).x (ix2 (row t r) n) := by
  rw [show (argsOf m c).x = V m c main_arg2 from (V_main_arg2 m c).symm]
  unfold row
  blk_ext [iblk, idx t]
theorem blk_g (c : Dev nD) (t : Fin cfg0.N) (n : Fin 1024) : iblk m c 3 t (ix2 0 n) = (argsOf m c).g (ix1 n) := by
  rw [← host_g m c]
  blk_ext [iblk, idx t]
theorem blk_b (c : Dev nD) (t : Fin cfg0.N) (n : Fin 1024) : iblk m c 4 t (ix2 0 n) = (argsOf m c).b (ix1 n) := by
  rw [← host_b m c]
  blk_ext [iblk, idx t]

theorem tproj_eq (c : Dev nD) (t : Fin cfg0.N) (r : Fin 512) : tproj (iblk m c 0 t) (iblk m c 1 t) r = (argsOf m c).proj (row t r) :=
  funext fun n => Finset.sum_congr rfl fun k _ => congrArg₂ (fun a b : EReal => a * b) (blk_f m c t r k) (blk_w m c t k n)
theorem tz_eq (c : Dev nD) (t : Fin cfg0.N) (r : Fin 512) :
    tz (iblk m c 0 t) (iblk m c 1 t) (iblk m c 2 t) r = (argsOf m c).z (row t r) :=
  funext fun n => congrArg₂ (fun a b : EReal => kAlpha * a + b) (blk_x m c t r n) (congrFun (tproj_eq m c t r) n)

theorem final_s (c : Dev nD) : (dats m 0 c).arrAt 5 cfg0.N = (argsOf m c).s := by
  refine (dats m 0 c).arrAt_eq_of_covers 5 _ (by decide +kernel) fun t hf y => ?_
  idx_vars y
  blk_simp
  rw [after0_5]
  frame_open
  frame_out
  rw [tile_s, tproj_eq]
  refine Eq.trans (b := (argsOf m c).s (ix2 (row t y0) y1)) rfl ?_
  unfold row
  blk_ext [idx t]

theorem final_y (c : Dev nD) : (dats m 0 c).arrAt 6 cfg0.N = (argsOf m c).y := by
  refine (dats m 0 c).arrAt_eq_of_covers 6 _ (by decide +kernel) fun t hf y => ?_
  idx_vars y
  blk_simp
  rw [after0_6]
  frame_open
  frame_out
  rw [tile_y, tz_eq, blk_g, blk_b]
  refine Eq.trans (b := (argsOf m c).y (ix2 (row t y0) y1)) rfl ?_
  unfold row
  blk_ext [idx t]

end Kernel

section Reference

open Cert.Reference15Ideal Cert.Reference15Ideal.Read

variable (a : Args)

theorem ref_proj (t : Fin 4096) (n : Fin 1024) : val_main_v0 (F := Ideal) a.f a.w (ix2 t n) = a.proj t n := by
  pointwise [val_main_v0]
  rfl
theorem ref_z (t : Fin 4096) (n : Fin 1024) : val_main_v3 (F := Ideal) a.f a.w a.x (ix2 t n) = a.z t n := by
  pointwise [val_main_v3, val_main_v2, val_main_v1, val_main_cst]
  rw [ref_proj]
  rfl
theorem ref_mean (t : Fin 4096) : val_main_v7 (F := Ideal) a.f a.w a.x (ix2 t 0) = mean (a.z t) := by
  pointwise [val_main_v7, val_main_v6, val_main_v5, val_main_v4, val_main_cst_0, val_main_cst_1]
  simp only [ref_z]
  rfl
theorem ref_dev (t : Fin 4096) (n : Fin 1024) : val_main_v9 (F := Ideal) a.f a.w a.x (ix2 t n) = dev (a.z t) n := by
  pointwise [val_main_v9, val_main_v8]
  rw [ref_z, ref_mean]
  rfl
theorem ref_dev' (t : Fin 4096) (n : Fin 1024) : val_main_v16 (F := Ideal) a.f a.w a.x (ix2 t n) = dev (a.z t) n := by
  pointwise [val_main_v16, val_main_v15]
  rw [ref_z, ref_mean]
  rfl
theorem ref_root (t : Fin 4096) : val_main_v19 (F := Ideal) a.f a.w a.x (ix2 t 0) = root (a.z t) := by
  pointwise [val_main_v19, val_main_v18, val_main_v17, val_main_v14, val_main_v13, val_main_v12, val_main_v11, val_main_v10, val_main_cst_2, val_main_cst_3, val_main_cst_4]
  simp only [ref_dev]
  rfl
theorem ref_v0 : val_main_v0 (F := Ideal) a.f a.w = a.s := by
  funext y
  idx_vars y
  exact ref_proj a y0 y1
theorem ref_v27 : val_main_v27 (F := Ideal) a.f a.w a.x a.g a.b = a.y := by
  funext y
  idx_vars y
  pointwise [val_main_v27, val_main_v26, val_main_v25, val_main_v24, val_main_v23, val_main_v22, val_main_v21, val_main_v20]
  rw [ref_dev', ref_root]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r hr => ⟨fun c => (hr c).2.2, sem_eq_zero_of_no_sems (by decide) r.2⟩) (Cert.Reference15Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4)⟩

end Reference

/-- On equal arguments the kernel and the reference leave the same two arrays. -/
theorem algebraic : Cert.algebraic_Kernel15Ideal_Reference15Ideal := by
  intro m g m' g' _ he
  have ha : ∀ c, refArgs m' c = argsOf m c := fun c => by
    obtain ⟨h0, h1, h2, h3, h4⟩ := he c
    show Args.mk _ _ _ _ _ = Args.mk _ _ _ _ _
    rw [h0, h1, h2, h3, h4]
  refine ⟨fun c => (argsOf m c).s, fun c => (argsOf m c).y, ?_, ?_⟩
  · exact (θ_run Cert.Kernel15Ideal.defs _ _).mono (fun r h c => ⟨(h c).1.trans (final_s m c), (h c).2.1.trans (final_y m c), (h c).2.2⟩)
      (Cert.Kernel15Ideal.Value.run_blocks m g)
  · exact (θ_run Cert.Reference15Ideal.defs _ _).mono (fun r h c =>
      ⟨(h c).1.trans ((Cert.Reference15Ideal.Read.val_main_v0_eq _ _).trans ((ref_v0 (refArgs m' c)).trans (congrArg Args.s (ha c)))),
        (h c).2.1.trans ((Cert.Reference15Ideal.Read.val_main_v27_eq _ _ _ _ _).trans ((ref_v27 (refArgs m' c)).trans (congrArg Args.y (ha c)))),
        (h c).2.2⟩)
      (Cert.Reference15Ideal.Value.run m' g')

end Cert.Norm.Mix

end
-- ==== Proof.NormPair.lean ====
/- The gradient of the residual norm with the cotangent as its terms: two partial sums and the residual's cotangent, added
up in the kernel. What follows is the other norm gradient's, at that sum. -/
module

public import proofs.«01_k».proof.Defs
public import proofs.«01_k».proof.Proof.NormClaims
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384
set_option maxHeartbeats 400000

noncomputable section

namespace Cert.Norm.Pair

open Idealize.ShloMosaic Idealize.ShloMosaic.TcCoe Idealize.ShloMosaic.StableHlo Idealize.SL.Sem
open Cert.Ffn (IsReal)

section Kernel

open Cert.Kernel16Ideal Cert.Kernel16Ideal.Gen

/-! ## One tile -/

section Tile

variable (p q : Vec Ideal S1x512x1024 .f32) (u x s : Vec Ideal S512x1024 .f32) (g : Vec Ideal S1x1024 .f32)

/-- A tile's cotangent. -/
def tdy : Vec Ideal S512x1024 .f32 := fun i => p (ix3 0 (i 0) (i 1)) + q (ix3 0 (i 0) (i 1)) + kAlpha * u i

theorem tile_dy : k0_pay6 (F := Ideal) p q u = tdy p q u := by
  funext y
  idx_vars y
  pointwise [k0_pay6]
  rfl

theorem tile_dev (r : Fin 512) (n : Fin 1024) : k0_pay7 (F := Ideal) x s (ix2 r n) = dev (tz x s r) n := by
  pointwise [k0_pay7]
  rfl

theorem tile_root (r : Fin 512) : k0_pay8 (F := Ideal) x s (ix2 r 0) = root (tz x s r) := by
  pointwise [k0_pay8]
  simp only [tile_dev]
  rfl

theorem tile_hat (r : Fin 512) (n : Fin 1024) : k0_pay9 (F := Ideal) x s (ix2 r n) = hat (tz x s r) n := by
  pointwise [k0_pay9]
  rw [tile_dev, tile_root]
  rfl

theorem tile_g (n : Fin 1024) : k0_pay10 (F := Ideal) g (ix2 0 n) = g (ix2 0 n) := by
  pointwise [k0_pay10]

theorem tile_dz (dy : Vec Ideal S512x1024 .f32) (r : Fin 512) (n : Fin 1024) :
    k0_pay1 (F := Ideal) dy (k0_pay8 x s) (k0_pay9 x s) (k0_pay10 g) (ix2 r n) = back (td dy g r) (tz x s r) n := by
  pointwise [k0_pay1]
  simp only [tile_root, tile_hat, tile_g]
  rfl

theorem tile_dg (dy : Vec Ideal S512x1024 .f32) (old : Vec Ideal S1x1024 .f32) (n : Fin 1024) :
    k0_pay2 (F := Ideal) dy (k0_pay9 x s) old (ix2 0 n) = old (ix2 0 n) + ∑ r : Fin 512, dy (ix2 r n) * hat (tz x s r) n := by
  pointwise [k0_pay2]
  simp only [tile_hat]

theorem tile_db (dy : Vec Ideal S512x1024 .f32) (old : Vec Ideal S1x1024 .f32) (n : Fin 1024) :
    k0_pay3 (F := Ideal) dy old (ix2 0 n) = old (ix2 0 n) + ∑ r : Fin 512, dy (ix2 r n) := by
  pointwise [k0_pay3]

theorem zero_dg (y : S1x1024.Idx) : k0_pay4 (F := Ideal) y = 0 := by
  idx_vars y
  pointwise [k0_pay4]
theorem zero_db (y : S1x1024.Idx) : k0_pay5 (F := Ideal) y = 0 := by
  idx_vars y
  pointwise [k0_pay5]

end Tile

/-! ## The launch's points -/

variable (m : (ℓ : Loc nD τ sig) → Buf (Elt Ideal) ℓ)

/-- The launch's cotangent terms on core `c`. -/
def partsOf (c : Dev nD) : Vec Ideal S2x4096x1024 .f32 := m ((c : Thread nD τ).loc main_arg0)
def tokOf (c : Dev nD) : Vec Ideal S4096x1024 .f32 := m ((c : Thread nD τ).loc main_arg1)

/-- The cotangent: its three terms' sum. -/
def cotangent (ps : Vec Ideal S2x4096x1024 .f32) (u : Vec Ideal S4096x1024 .f32) : Vec Ideal S4096x1024 .f32 :=
  fun i => ps (ix3 0 (i 0) (i 1)) + ps (ix3 1 (i 0) (i 1)) + kAlpha * u i

/-- The norm gradient's arguments on core `c`. -/
def argsOf (c : Dev nD) : Args :=
  ⟨cotangent (partsOf m c) (tokOf m c), m ((c : Thread nD τ).loc main_arg2), m ((c : Thread nD τ).loc main_arg3),
   m ((c : Thread nD τ).loc main_arg4)⟩

/-- The block each window is on at each point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_g (c : Dev nD) (n : Fin 1024) : V m c main_v0 (ix2 0 n) = (argsOf m c).g (ix1 n) := by
  entry_read
  pointwise [argsOf]

theorem blk_p (c : Dev nD) (t : Fin cfg0.N) (j : Fin 2) (r : Fin 512) (k : Fin 1024) :
    iblk m c 0 t (ix3 j r k) = partsOf m c (ix3 j (row t r) k) := by
  rw [show partsOf m c = V m c main_arg0 from (V_main_arg0 m c).symm]
  unfold row
  blk_ext [iblk, idx t]
theorem blk_u (c : Dev nD) (t : Fin cfg0.N) (r : Fin 512) (k : Fin 1024) : iblk m c 1 t (ix2 r k) = tokOf m c (ix2 (row t r) k) := by
  rw [show tokOf m c = V m c main_arg1 from (V_main_arg1 m c).symm]
  unfold row
  blk_ext [iblk, idx t]
theorem blk_x (c : Dev nD) (t : Fin cfg0.N) (r : Fin 512) (k : Fin 1024) : iblk m c 2 t (ix2 r k) = (argsOf m c).x (ix2 (row t r) k) := by
  rw [show (argsOf m c).x = V m c main_arg2 from (V_main_arg2 m c).symm]
  unfold row
  blk_ext [iblk, idx t]
theorem blk_s (c : Dev nD) (t : Fin cfg0.N) (r : Fin 512) (k : Fin 1024) : iblk m c 3 t (ix2 r k) = (argsOf m c).s (ix2 (row t r) k) := by
  rw [show (argsOf m c).s = V m c main_arg3 from (V_main_arg3 m c).symm]
  unfold row
  blk_ext [iblk, idx t]
theorem blk_g (c : Dev nD) (t : Fin cfg0.N) (k : Fin 1024) : iblk m c 4 t (ix2 0 k) = (argsOf m c).g (ix1 k) := by
  rw [← host_g m c]
  blk_ext [iblk, idx t]

/-- The two parts of a tile of partial sums. -/
def half0 (b : Vec Ideal S2x512x1024 .f32) : Vec Ideal S1x512x1024 .f32 :=
  View.ld b (Rect.unit ![0, 0, 0] ![1, 512, 1024] inb_S2x512x1024_S1x512x1024_0_0_0)
def half1 (b : Vec Ideal S2x512x1024 .f32) : Vec Ideal S1x512x1024 .f32 :=
  View.ld b (Rect.unit ![1, 0, 0] ![1, 512, 1024] inb_S2x512x1024_S1x512x1024_1_0_0)
theorem half0_apply (b : Vec Ideal S2x512x1024 .f32) (r : Fin 512) (k : Fin 1024) : half0 b (ix3 0 r k) = b (ix3 0 r k) := by
  unfold half0
  rw [View.ld_apply]
  exact congrArg b (funext fun a => by fin_cases a <;> exact Fin.ext (by simp))
theorem half1_apply (b : Vec Ideal S2x512x1024 .f32) (r : Fin 512) (k : Fin 1024) : half1 b (ix3 0 r k) = b (ix3 1 r k) := by
  unfold half1
  rw [View.ld_apply]
  exact congrArg b (funext fun a => by fin_cases a <;> exact Fin.ext (by simp))

/-- A tile's cotangent, from its blocks. -/
def bdy (c : Dev nD) (t : Fin cfg0.N) : Vec Ideal S512x1024 .f32 := tdy (half0 (iblk m c 0 t)) (half1 (iblk m c 0 t)) (iblk m c 1 t)

theorem bdy_eq (c : Dev nD) (t : Fin cfg0.N) (r : Fin 512) (k : Fin 1024) : bdy m c t (ix2 r k) = (argsOf m c).dy (ix2 (row t r) k) :=
  congrArg₂ (fun a b : EReal => a + kAlpha * b) (congrArg₂ (fun a b : EReal => a + b) ((half0_apply _ r k).trans (blk_p m c t 0 r k)) ((half1_apply _ r k).trans (blk_p m c t 1 r k))) (blk_u m c t r k)

theorem tz_eq (c : Dev nD) (t : Fin cfg0.N) (r : Fin 512) : tz (iblk m c 2 t) (iblk m c 3 t) r = (argsOf m c).z (row t r) :=
  funext fun k => congrArg₂ (fun a b : EReal => kAlpha * a + b) (blk_x m c t r k) (blk_s m c t r k)
theorem td_eq (c : Dev nD) (t : Fin cfg0.N) (r : Fin 512) : td (bdy m c t) (iblk m c 4 t) r = (argsOf m c).d (row t r) :=
  funext fun k => congrArg₂ (fun a b : EReal => a * b) (bdy_eq m c t r k) (blk_g m c t k)

/-- The first result's tile, at every point. -/
theorem point_dz (c : Dev nD) (t : Fin cfg0.N) (r : Fin 512) (n : Fin 1024) :
    (outsAt0 m c t.val t.isLt).1 (ix2 r n) = back ((argsOf m c).d (row t r)) ((argsOf m c).z (row t r)) n := by
  rw [← tz_eq, ← td_eq, ← tile_dz, bdy, ← tile_dy, half0, half1]
  by_cases h0 : t.val % 8 = 0
  · rw [outsAt0_A m c t h0]
    dsimp only
    frame_open
    frame_out
  · rw [outsAt0_B m c t h0]
    dsimp only
    frame_open
    frame_out

/-- What a tile adds to the other two results. -/
def partG (a : Args) (t : Fin cfg0.N) (n : Fin 1024) : EReal := ∑ r : Fin 512, a.dy (ix2 (row t r) n) * hat (a.z (row t r)) n
def partB (a : Args) (t : Fin cfg0.N) (n : Fin 1024) : EReal := ∑ r : Fin 512, a.dy (ix2 (row t r) n)

theorem sum_dg (c : Dev nD) (t : Fin cfg0.N) (n : Fin 1024) :
    (∑ r : Fin 512, (fun a b : EReal => a * b) (bdy m c t (ix2 r n)) (hat (tz (iblk m c 2 t) (iblk m c 3 t) r) n)) = partG (argsOf m c) t n :=
  Finset.sum_congr rfl fun r _ => congrArg₂ (fun a b : EReal => a * b) (bdy_eq m c t r n) (congrArg (hat · n) (tz_eq m c t r))
theorem sum_db (c : Dev nD) (t : Fin cfg0.N) (n : Fin 1024) :
    (∑ r : Fin 512, bdy m c t (ix2 r n) : EReal) = partB (argsOf m c) t n :=
  Finset.sum_congr rfl fun r _ => bdy_eq m c t r n

theorem dg_A (c : Dev nD) (t : Fin cfg0.N) (h0 : t.val % 8 = 0) (n : Fin 1024) :
    (outsAt0 m c t.val t.isLt).2.1 (ix2 0 n) = partG (argsOf m c) t n := by
  rw [← sum_dg, ← zero_add (∑ r : Fin 512, _), ← zero_dg (ix2 0 n), ← tile_dg, bdy, ← tile_dy, half0, half1, outsAt0_A m c t h0]
  dsimp only
  frame_open
  simp (disch := decide) only [↓ View.readCov_cons_toLoadRect]
  frame_out

theorem dg_B (c : Dev nD) (t : Fin cfg0.N) (h0 : ¬t.val % 8 = 0) (n : Fin 1024) :
    (outsAt0 m c t.val t.isLt).2.1 (ix2 0 n) = (outsAt0 m c (t.val - 1) (Nat.lt_of_le_of_lt (Nat.sub_le _ _) t.isLt)).2.1 (ix2 0 n)
      + partG (argsOf m c) t n := by
  rw [← sum_dg, ← tile_dg, bdy, ← tile_dy, half0, half1, outsAt0_B m c t h0]
  dsimp only
  frame_open
  simp (disch := decide) only [↓ View.readCov_cons_toLoadRect]
  frame_out

theorem db_A (c : Dev nD) (t : Fin cfg0.N) (h0 : t.val % 8 = 0) (n : Fin 1024) :
    (outsAt0 m c t.val t.isLt).2.2 (ix2 0 n) = partB (argsOf m c) t n := by
  rw [← sum_db, ← zero_add (∑ r : Fin 512, _), ← zero_db (ix2 0 n), ← tile_db, bdy, ← tile_dy, half0, half1, outsAt0_A m c t h0]
  dsimp only
  frame_open
  simp (disch := decide) only [↓ View.readCov_cons_toLoadRect]
  frame_out

theorem db_B (c : Dev nD) (t : Fin cfg0.N) (h0 : ¬t.val % 8 = 0) (n : Fin 1024) :
    (outsAt0 m c t.val t.isLt).2.2 (ix2 0 n) = (outsAt0 m c (t.val - 1) (Nat.lt_of_le_of_lt (Nat.sub_le _ _) t.isLt)).2.2 (ix2 0 n)
      + partB (argsOf m c) t n := by
  rw [← sum_db, ← tile_db, bdy, ← tile_dy, half0, half1, outsAt0_B m c t h0]
  dsimp only
  frame_open
  simp (disch := decide) only [↓ View.readCov_cons_toLoadRect]
  frame_out

theorem tileSum_eq (f : Fin 4096 → EReal) (t : Fin cfg0.N) : tileSum f t.val = ∑ r : Fin 512, f (row t r) :=
  Finset.sum_congr rfl fun r _ => by rw [dif_pos (t_lt t), row]

theorem total_dg (c : Dev nD) (t : Fin cfg0.N) (ht : t.val % 8 = 7) (n : Fin 1024) :
    (outsAt0 m c t.val t.isLt).2.1 (ix2 0 n) = (argsOf m c).dg (ix2 0 n) := by
  have h := Pipeline.eq_sum_of_reset_step_apply_of_mod (fun k h (n : Fin 1024) => (outsAt0 m c k h).2.1 (ix2 0 n)) 8 (fun _ => (0 : EReal))
    (fun k n => tileSum (fun u => (argsOf m c).dy (ix2 u n) * hat ((argsOf m c).z u) n) k)
    (fun t h0 n => by rw [dg_A m c t h0, zero_add, tileSum_eq]; rfl)
    (fun t h0 n => by rw [dg_B m c t h0, tileSum_eq]; rfl) t ht n
  have h8 := t_lt t
  refine h.trans ((zero_add _).trans (Eq.trans ?_ (sum_tileSum fun u => (argsOf m c).dy (ix2 u n) * hat ((argsOf m c).z u) n)))
  exact Finset.sum_congr rfl fun k hk => by rw [show 8 * (t.val / 8) + k = k by omega]

theorem total_db (c : Dev nD) (t : Fin cfg0.N) (ht : t.val % 8 = 7) (n : Fin 1024) :
    (outsAt0 m c t.val t.isLt).2.2 (ix2 0 n) = (argsOf m c).db (ix2 0 n) := by
  have h := Pipeline.eq_sum_of_reset_step_apply_of_mod (fun k h (n : Fin 1024) => (outsAt0 m c k h).2.2 (ix2 0 n)) 8 (fun _ => (0 : EReal))
    (fun k n => tileSum (fun u => (argsOf m c).dy (ix2 u n)) k)
    (fun t h0 n => by rw [db_A m c t h0, zero_add, tileSum_eq]; rfl)
    (fun t h0 n => by rw [db_B m c t h0, tileSum_eq]; rfl) t ht n
  have h8 := t_lt t
  refine h.trans ((zero_add _).trans (Eq.trans ?_ (sum_tileSum fun u => (argsOf m c).dy (ix2 u n))))
  exact Finset.sum_congr rfl fun k hk => by rw [show 8 * (t.val / 8) + k = k by omega]

theorem final_dz (c : Dev nD) : (dats m 0 c).arrAt 5 cfg0.N = (argsOf m c).dz := by
  refine (dats m 0 c).arrAt_eq_of_covers 5 _ (by decide +kernel) fun t hf y => ?_
  idx_vars y
  blk_simp
  rw [after0_5, point_dz]
  refine Eq.trans (b := (argsOf m c).dz (ix2 (row t y0) y1)) rfl ?_
  unfold row
  blk_ext [idx t]

theorem final_dg (c : Dev nD) : (dats m 0 c).arrAt 6 cfg0.N = (argsOf m c).dg := by
  refine (dats m 0 c).arrAt_eq_of_covers 6 _ (by decide +kernel) fun t hf y => ?_
  idx_vars y
  obtain rfl : y0 = 0 := Subsingleton.elim _ _
  blk_simp
  rw [after0_6, total_dg m c t ((flush0_6 t).mp hf)]
  blk_ext [idx t]

theorem final_db (c : Dev nD) : (dats m 0 c).arrAt 7 cfg0.N = (argsOf m c).db := by
  refine (dats m 0 c).arrAt_eq_of_covers 7 _ (by decide +kernel) fun t hf y => ?_
  idx_vars y
  obtain rfl : y0 = 0 := Subsingleton.elim _ _
  blk_simp
  rw [after0_7, total_db m c t ((flush0_7 t).mp hf)]
  blk_ext [idx t]

end Kernel

section Reference

open Cert.Reference16Ideal Cert.Reference16Ideal.Read

variable (a : Args) (ps : Vec Ideal S2x4096x1024 .f32) (u : Vec Ideal S4096x1024 .f32)

theorem ref_dy (t : Fin 4096) (n : Fin 1024) : val_main_v3 (F := Ideal) ps u (ix2 t n) = cotangent ps u (ix2 t n) := by
  pointwise [val_main_v3, val_main_v2, val_main_v1, val_main_v0, val_main_cst, val_main_cst_0]
  rw [Fin.sum_univ_two]
  rfl

theorem ref_z (t : Fin 4096) (n : Fin 1024) : val_main_v7 (F := Ideal) a.x a.s (ix2 t n) = a.z t n := by
  pointwise [val_main_v7, val_main_v6, val_main_v5, val_main_cst_2]
  rfl
theorem ref_mean (t : Fin 4096) : val_main_v11 (F := Ideal) a.x a.s (ix2 t 0) = mean (a.z t) := by
  pointwise [val_main_v11, val_main_v10, val_main_v9, val_main_v8, val_main_cst_3, val_main_cst_4]
  simp only [ref_z]
  rfl
theorem ref_dev (t : Fin 4096) (n : Fin 1024) : val_main_v13 (F := Ideal) a.x a.s (ix2 t n) = dev (a.z t) n := by
  pointwise [val_main_v13, val_main_v12]
  rw [ref_z, ref_mean]
  rfl
theorem ref_dev' (t : Fin 4096) (n : Fin 1024) : val_main_v22 (F := Ideal) a.x a.s (ix2 t n) = dev (a.z t) n := by
  pointwise [val_main_v22, val_main_v21]
  rw [ref_z, ref_mean]
  rfl
theorem ref_moment (t : Fin 4096) : val_main_v24 (F := Ideal) a.x a.s (ix2 t 0) = moment (a.z t) := by
  pointwise [val_main_v24, val_main_v23, val_main_v20, val_main_v19, val_main_v18, val_main_v17, val_main_v14, val_main_cst_6, val_main_cst_7, val_main_cst_8]
  simp only [ref_dev]
  rfl
theorem ref_root (t : Fin 4096) : val_main_v25 (F := Ideal) a.x a.s (ix2 t 0) = root (a.z t) := by
  pointwise [val_main_v25]
  rw [ref_moment]
  rfl
theorem ref_hat (t : Fin 4096) (n : Fin 1024) : val_main_v30 (F := Ideal) a.x a.s (ix2 t n) = hat (a.z t) n := by
  pointwise [val_main_v30, val_main_v29]
  rw [ref_dev', ref_root]
  rfl
theorem ref_d (h : a.dy = cotangent ps u) (t : Fin 4096) (n : Fin 1024) : val_main_v44 (F := Ideal) ps u a.g (ix2 t n) = a.d t n := by
  pointwise [val_main_v44, val_main_v43, val_main_v31]
  rw [ref_dy, ← h]
  rfl
theorem ref_slope (h : a.dy = cotangent ps u) (t : Fin 4096) : val_main_v56 (F := Ideal) ps u a.x a.s a.g (ix2 t 0) = slope (a.d t) (a.z t) := by
  pointwise [val_main_v56, val_main_v55, val_main_v51, val_main_v48, val_main_v47, val_main_v46, val_main_v28, val_main_v27, val_main_v26, val_main_cst_9, val_main_cst_14, val_main_cst_16]
  simp only [ref_dev', ref_d a ps u h, ref_root, ref_moment]
  rfl
theorem ref_direct (h : a.dy = cotangent ps u) (t : Fin 4096) (n : Fin 1024) : val_main_v50 (F := Ideal) ps u a.x a.s a.g (ix2 t n) = a.d t n * root (a.z t) := by
  pointwise [val_main_v50, val_main_v49]
  rw [ref_d a ps u h, ref_root]
theorem ref_spread (h : a.dy = cotangent ps u) (t : Fin 4096) (n : Fin 1024) :
    val_main_v59 (F := Ideal) ps u a.x a.s a.g (ix2 t n) = slope (a.d t) (a.z t) * (kTwo * dev (a.z t) n) := by
  pointwise [val_main_v59, val_main_v58, val_main_v57, val_main_v16, val_main_v15, val_main_cst_5, val_main_cst_17]
  rw [Fin.sum_univ_one, ref_slope a ps u h, ref_dev]
theorem ref_dz (h : a.dy = cotangent ps u) (t : Fin 4096) (n : Fin 1024) : val_main_v69 (F := Ideal) ps u a.x a.s a.g (ix2 t n) = chain (a.d t) (a.z t) n := by
  pointwise [val_main_v69, val_main_v68, val_main_v67, val_main_v66, val_main_v65, val_main_v64, val_main_v63, val_main_v62, val_main_v61, val_main_v60, val_main_v54, val_main_v53, val_main_v52, val_main_cst_15, val_main_cst_18, val_main_cst_19, val_main_cst_20]
  simp only [ref_direct a ps u h, ref_spread a ps u h, Fin.sum_univ_one]
  rfl
theorem ref_v70 (h : a.dy = cotangent ps u) : val_main_v70 (F := Ideal) ps u a.x a.s = a.dg := by
  funext y
  idx_vars y
  pointwise [val_main_v70, val_main_v45, val_main_v42, val_main_v41, val_main_v40, val_main_cst_12, val_main_cst_13]
  simp only [ref_dy, ← h, ref_hat, Fin.sum_univ_one]
  exact Finset.sum_congr rfl fun _ _ => mul_comm (G := EReal) _ _
theorem ref_v71 (h : a.dy = cotangent ps u) : val_main_v71 (F := Ideal) ps u = a.db := by
  funext y
  idx_vars y
  pointwise [val_main_v71, val_main_v39, val_main_v38, val_main_v37, val_main_cst_10, val_main_cst_11]
  simp only [ref_dy, ← h, Fin.sum_univ_one]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r hr => ⟨fun c => (hr c).2.2.2, sem_eq_zero_of_no_sems (by decide) r.2⟩) (Cert.Reference16Ideal.Value.run m ρ)

/-- The reference's cotangent terms and its norm's arguments. -/
def refParts (m : (ℓ : Loc nD τ sig) → Buf (Elt Ideal) ℓ) (c : Dev nD) : Vec Ideal S2x4096x1024 .f32 := m ((c.tc : Thread nD τ).loc main_arg0)
def refTok (m : (ℓ : Loc nD τ sig) → Buf (Elt Ideal) ℓ) (c : Dev nD) : Vec Ideal S4096x1024 .f32 := m ((c.tc : Thread nD τ).loc main_arg1)
def refArgs (m : (ℓ : Loc nD τ sig) → Buf (Elt Ideal) ℓ) (c : Dev nD) : Args :=
  ⟨cotangent (refParts m c) (refTok m c), m ((c.tc : Thread nD τ).loc main_arg2), m ((c.tc : Thread nD τ).loc main_arg3), m ((c.tc : Thread nD τ).loc main_arg4)⟩

end Reference

/-! ## Real arguments -/

theorem preFacts : Cert.Pre_finite_norm2.Facts where
  bcast_S_S2x4096x1024 := by decide
  bcast_S_S4096x1024 := by decide
  bcast_S_S1024 := by decide

theorem args_real [Cert.Pre_finite_norm2.Facts] {m : (ℓ : Loc Cert.Kernel16Ideal.nD Cert.Kernel16Ideal.τ Cert.Kernel16Ideal.sig) → Buf (Elt Ideal) ℓ}
    (h : Cert.Pre_Kernel16Ideal_finite_norm2 m) (c : Dev Cert.Kernel16Ideal.nD) : (argsOf m c).Real := by
  obtain ⟨h0, h1, h2, h3, h4⟩ := h c
  have hp : ∀ i, IsReal (partsOf m c i) := Cert.Ffn.isReal_of_ones _ _ h0
  have hu : ∀ i, IsReal (tokOf m c i) := Cert.Ffn.isReal_of_ones _ _ h1
  exact ⟨fun i => ((hp _).add (hp _)).add (alpha_real.mul (hu i)), Cert.Ffn.isReal_of_ones _ _ h2, Cert.Ffn.isReal_of_ones _ _ h3,
    Cert.Ffn.isReal_of_ones _ _ h4⟩

theorem ref_v69 (a : Args) (ps : Vec Ideal Cert.Kernel16Ideal.S2x4096x1024 .f32) (u : Vec Ideal Cert.Kernel16Ideal.S4096x1024 .f32)
    (h : a.Real) (hd : a.dy = cotangent ps u) : Cert.Reference16Ideal.Read.val_main_v69 (F := Ideal) ps u a.x a.s a.g = a.dz := by
  funext y
  idx_vars y
  rw [ref_dz a ps u hd, chain_eq (a.d y0) (a.z y0) (fun k => (h.dy _).mul (h.g _)) fun k => (alpha_real.mul (h.x _)).add (h.s _)]
  rfl

/-- On equal arguments, real numbers all, the kernel and the reference leave the same three arrays. -/
theorem algebraic (hP : Cert.Pre_finite_norm2.Facts) : Cert.algebraic_Kernel16Ideal_Reference16Ideal_pre_finite_norm2 := by
  intro m g m' g' hp he
  have ha : ∀ c, refArgs m' c = argsOf m c := fun c => by
    obtain ⟨h0, h1, h2, h3, h4⟩ := he c
    show Args.mk (cotangent _ _) _ _ _ = Args.mk (cotangent _ _) _ _ _
    unfold refParts refTok partsOf tokOf
    rw [h0, h1, h2, h3, h4]
  refine ⟨fun c => (argsOf m c).dz, fun c => (argsOf m c).dg, fun c => (argsOf m c).db, ?_, ?_⟩
  · exact (θ_run Cert.Kernel16Ideal.defs _ _).mono (fun r h c =>
      ⟨(h c).1.trans (final_dz m c), (h c).2.1.trans (final_dg m c), (h c).2.2.1.trans (final_db m c), (h c).2.2.2⟩)
      (Cert.Kernel16Ideal.Value.run_blocks m g)
  · exact (θ_run Cert.Reference16Ideal.defs _ _).mono (fun r h c =>
      ⟨(h c).1.trans ((Cert.Reference16Ideal.Read.val_main_v69_eq m' c).trans
          ((ref_v69 (refArgs m' c) (refParts m' c) (refTok m' c) ((ha c).symm ▸ args_real hp c) rfl).trans (congrArg Args.dz (ha c)))),
        (h c).2.1.trans ((Cert.Reference16Ideal.Read.val_main_v70_eq _ _ _ _).trans
          ((ref_v70 (refArgs m' c) (refParts m' c) (refTok m' c) rfl).trans (congrArg Args.dg (ha c)))),
        (h c).2.2.1.trans ((Cert.Reference16Ideal.Read.val_main_v71_eq _ _).trans
          ((ref_v71 (refArgs m' c) (refParts m' c) (refTok m' c) rfl).trans (congrArg Args.db (ha c)))),
        (h c).2.2.2⟩)
      (Cert.Reference16Ideal.Value.run m' g')

end Cert.Norm.Pair

end
-- ==== Proof.Loss.lean ====
/- The last residual norm with the loss after it: the squared errors' sums by column, and the loss's gradient by the norm's
result. -/
module

public import proofs.«01_k».proof.Defs
public import proofs.«01_k».proof.Proof.NormClaims
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384
set_option maxHeartbeats 400000

noncomputable section

namespace Cert.Norm.Loss

open Idealize.ShloMosaic Idealize.ShloMosaic.TcCoe Idealize.ShloMosaic.StableHlo Idealize.SL.Sem

/-- The 1/1024 the kernel multiplies the error by. -/
abbrev kPart : EReal := Ideal.ofBits .f32 0x3A800000#32
/-- The half that the loss's gradient starts from. -/
abbrev kHalfPos : EReal := Ideal.ofBits .f32 0x3F000000#32

theorem bits_part : kPart = ((1 / 1024 : ℝ) : EReal) := by
  simp [kPart, Ideal.ofBits, Ideal.ieee, -EReal.coe_mul]; norm_num
theorem bits_halfPos : kHalfPos = ((1 / 2 : ℝ) : EReal) := by
  simp [kHalfPos, Ideal.ofBits, Ideal.ieee, -EReal.coe_mul]; norm_num

/-- The loss's gradient, of any error. -/
theorem slope_eq (e : EReal) : Ideal.div kHalfPos kN * (kTwo * e) = e * kPart := by
  rw [bits_halfPos, div_n, bits_two, bits_part, ← mul_assoc, ← EReal.coe_mul, mul_comm]
  congr 2
  norm_num

section Kernel

open Cert.Kernel17Ideal Cert.Kernel17Ideal.Gen

/-- The call's arguments: the residual, the branch's result, the norm's scale and offset, and the target. -/
structure Args where
  x : Vec Ideal S4096x1024 .f32
  s : Vec Ideal S4096x1024 .f32
  g : Vec Ideal S1024 .f32
  b : Vec Ideal S1024 .f32
  tgt : Vec Ideal S4096x1024 .f32

namespace Args

variable (a : Args)

/-- The row the norm normalises. -/
def z (t : Fin 4096) : Row := fun n => kAlpha * a.x (ix2 t n) + a.s (ix2 t n)
/-- The error of the norm's result. -/
def err (t : Fin 4096) : Row := fun n => hat (a.z t) n * a.g (ix1 n) + a.b (ix1 n) - a.tgt (ix2 t n)
/-- The two results. -/
def l : Vec Ideal S1x1024 .f32 := fun i => ∑ t : Fin 4096, a.err t (i 1) * a.err t (i 1)
def dy : Vec Ideal S4096x1024 .f32 := fun i => a.err (i 0) (i 1) * kPart

end Args

/-! ## One tile -/

section Tile

variable (x s : Vec Ideal S512x1024 .f32) (g b : Vec Ideal S1x1024 .f32) (tgt : Vec Ideal S512x1024 .f32)

/-- A tile's errors. -/
def terr (r : Fin 512) : Row := fun n => hat (tz x s r) n * g (ix2 0 n) + b (ix2 0 n) - tgt (ix2 r n)

theorem tile_err (r : Fin 512) (n : Fin 1024) : k0_pay4 (F := Ideal) x s g b tgt (ix2 r n) = terr x s g b tgt r n := by
  pointwise [k0_pay4]
  rfl

theorem tile_dy (r : Fin 512) (n : Fin 1024) : k0_pay2 (F := Ideal) (k0_pay4 x s g b tgt) (ix2 r n) = terr x s g b tgt r n * kPart := by
  pointwise [k0_pay2]
  rw [tile_err]

theorem tile_l (old : Vec Ideal S1x1024 .f32) (n : Fin 1024) :
    k0_pay1 (F := Ideal) (k0_pay5 old) (k0_pay6 x s g b tgt) (ix2 0 n)
      = old (ix2 0 n) + ∑ r : Fin 512, terr x s g b tgt r n * terr x s g b tgt r n := by
  pointwise [k0_pay1, k0_pay5, k0_pay6]
  simp only [tile_err]

theorem zero_l (y : S1x1024.Idx) : k0_pay3 (F := Ideal) y = 0 := by
  idx_vars y
  pointwise [k0_pay3]

end Tile

/-! ## The launch -/

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4)⟩

/-- The block each window is on at each point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0] := by
  show ∀ t : Fin grid0.N, _
  decide +kernel

theorem t_lt (t : Fin cfg0.N) : t.val < 8 := Nat.lt_of_lt_of_eq t.isLt N_0

/-- Row `r` of tile `t`. -/
def row (t : Fin cfg0.N) (r : Fin 512) : Fin 4096 := ⟨512 * t.val + r.val, by have := t_lt t; omega⟩

theorem host_g (c : Dev nD) (n : Fin 1024) : V m c main_v0 (ix2 0 n) = (argsOf m c).g (ix1 n) := by
  entry_read
  pointwise [argsOf]
theorem host_b (c : Dev nD) (n : Fin 1024) : V m c main_v1 (ix2 0 n) = (argsOf m c).b (ix1 n) := by
  entry_read
  pointwise [argsOf]

theorem blk_x (c : Dev nD) (t : Fin cfg0.N) (r : Fin 512) (n : Fin 1024) : iblk m c 0 t (ix2 r n) = (argsOf m c).x (ix2 (row t r) n) := by
  rw [show (argsOf m c).x = V m c main_arg0 from (V_main_arg0 m c).symm]
  unfold row
  blk_ext [iblk, idx t]
theorem blk_s (c : Dev nD) (t : Fin cfg0.N) (r : Fin 512) (n : Fin 1024) : iblk m c 1 t (ix2 r n) = (argsOf m c).s (ix2 (row t r) n) := by
  rw [show (argsOf m c).s = V m c main_arg1 from (V_main_arg1 m c).symm]
  unfold row
  blk_ext [iblk, idx t]
theorem blk_tgt (c : Dev nD) (t : Fin cfg0.N) (r : Fin 512) (n : Fin 1024) : iblk m c 4 t (ix2 r n) = (argsOf m c).tgt (ix2 (row t r) n) := by
  rw [show (argsOf m c).tgt = V m c main_arg4 from (V_main_arg4 m c).symm]
  unfold row
  blk_ext [iblk, idx t]
theorem blk_g (c : Dev nD) (t : Fin cfg0.N) (n : Fin 1024) : iblk m c 2 t (ix2 0 n) = (argsOf m c).g (ix1 n) := by
  rw [← host_g m c]
  blk_ext [iblk, idx t]
theorem blk_b (c : Dev nD) (t : Fin cfg0.N) (n : Fin 1024) : iblk m c 3 t (ix2 0 n) = (argsOf m c).b (ix1 n) := by
  rw [← host_b m c]
  blk_ext [iblk, idx t]

theorem tz_eq (c : Dev nD) (t : Fin cfg0.N) (r : Fin 512) : tz (iblk m c 0 t) (iblk m c 1 t) r = (argsOf m c).z (row t r) :=
  funext fun k => congrArg₂ (fun a b : EReal => kAlpha * a + b) (blk_x m c t r k) (blk_s m c t r k)
theorem terr_eq (c : Dev nD) (t : Fin cfg0.N) (r : Fin 512) :
    terr (iblk m c 0 t) (iblk m c 1 t) (iblk m c 2 t) (iblk m c 3 t) (iblk m c 4 t) r = (argsOf m c).err (row t r) := by
  funext n
  unfold terr Args.err
  rw [tz_eq, blk_g, blk_b, blk_tgt]

/-- The gradient's tile, at every point. -/
theorem point_dy (c : Dev nD) (t : Fin cfg0.N) (r : Fin 512) (n : Fin 1024) :
    (outsAt0 m c t.val t.isLt).2 (ix2 r n) = (argsOf m c).err (row t r) n * kPart := by
  rw [← terr_eq, ← tile_dy]
  by_cases h0 : t.val % 8 = 0
  · rw [outsAt0_A m c t h0]
    dsimp only
    frame_open
    frame_out
  · rw [outsAt0_B m c t h0]
    dsimp only
    frame_open
    frame_out

/-- What a tile adds to the squared errors' sums. -/
def part (a : Args) (t : Fin cfg0.N) (n : Fin 1024) : EReal := ∑ r : Fin 512, a.err (row t r) n * a.err (row t r) n

theorem sum_l (c : Dev nD) (t : Fin cfg0.N) (n : Fin 1024) :
    (∑ r : Fin 512, terr (iblk m c 0 t) (iblk m c 1 t) (iblk m c 2 t) (iblk m c 3 t) (iblk m c 4 t) r n * terr (iblk m c 0 t) (iblk m c 1 t) (iblk m c 2 t) (iblk m c 3 t) (iblk m c 4 t) r n : EReal)
      = part (argsOf m c) t n :=
  Finset.sum_congr rfl fun r _ => by rw [terr_eq]

theorem l_A (c : Dev nD) (t : Fin cfg0.N) (h0 : t.val % 8 = 0) (n : Fin 1024) :
    (outsAt0 m c t.val t.isLt).1 (ix2 0 n) = part (argsOf m c) t n := by
  rw [← sum_l, ← zero_add (∑ r : Fin 512, _), ← zero_l (ix2 0 n), ← tile_l, outsAt0_A m c t h0]
  dsimp only
  frame_open
  simp (disch := decide) only [↓ View.readCov_cons_toLoadRect]
  frame_out

theorem l_B (c : Dev nD) (t : Fin cfg0.N) (h0 : ¬t.val % 8 = 0) (n : Fin 1024) :
    (outsAt0 m c t.val t.isLt).1 (ix2 0 n) = (outsAt0 m c (t.val - 1) (Nat.lt_of_le_of_lt (Nat.sub_le _ _) t.isLt)).1 (ix2 0 n)
      + part (argsOf m c) t n := by
  rw [← sum_l, ← tile_l, outsAt0_B m c t h0]
  dsimp only
  frame_open
  simp (disch := decide) only [↓ View.readCov_cons_toLoadRect]
  frame_out

theorem tileSum_eq (f : Fin 4096 → EReal) (t : Fin cfg0.N) : tileSum f t.val = ∑ r : Fin 512, f (row t r) :=
  Finset.sum_congr rfl fun r _ => by rw [dif_pos (t_lt t), row]

theorem total_l (c : Dev nD) (t : Fin cfg0.N) (ht : t.val % 8 = 7) (n : Fin 1024) :
    (outsAt0 m c t.val t.isLt).1 (ix2 0 n) = (argsOf m c).l (ix2 0 n) := by
  have h := Pipeline.eq_sum_of_reset_step_apply_of_mod (fun k h (n : Fin 1024) => (outsAt0 m c k h).1 (ix2 0 n)) 8 (fun _ => (0 : EReal))
    (fun k n => tileSum (fun u => (argsOf m c).err u n * (argsOf m c).err u n) k)
    (fun t h0 n => by rw [l_A m c t h0, zero_add, tileSum_eq]; rfl)
    (fun t h0 n => by rw [l_B m c t h0, tileSum_eq]; rfl) t ht n
  have h8 := t_lt t
  refine h.trans ((zero_add _).trans (Eq.trans ?_ (sum_tileSum fun u => (argsOf m c).err u n * (argsOf m c).err u n)))
  exact Finset.sum_congr rfl fun k hk => by rw [show 8 * (t.val / 8) + k = k by omega]

theorem final_l (c : Dev nD) : (dats m 0 c).arrAt 5 cfg0.N = (argsOf m c).l := by
  refine (dats m 0 c).arrAt_eq_of_covers 5 _ (by decide +kernel) fun t hf y => ?_
  idx_vars y
  obtain rfl : y0 = 0 := Subsingleton.elim _ _
  blk_simp
  rw [after0_5, total_l m c t ((flush0_5 t).mp hf)]
  blk_ext [idx t]

theorem final_dy (c : Dev nD) : (dats m 0 c).arrAt 6 cfg0.N = (argsOf m c).dy := by
  refine (dats m 0 c).arrAt_eq_of_covers 6 _ (by decide +kernel) fun t hf y => ?_
  idx_vars y
  blk_simp
  rw [after0_6, point_dy]
  refine Eq.trans (b := (argsOf m c).dy (ix2 (row t y0) y1)) rfl ?_
  unfold row
  blk_ext [idx t]

end Kernel

section Reference

open Cert.Reference17Ideal Cert.Reference17Ideal.Read

variable (a : Args)

theorem ref_z (t : Fin 4096) (n : Fin 1024) : val_main_v2 (F := Ideal) a.x a.s (ix2 t n) = a.z t n := by
  pointwise [val_main_v2, val_main_v1, val_main_v0, val_main_cst]
  rfl
theorem ref_mean (t : Fin 4096) : val_main_v6 (F := Ideal) a.x a.s (ix2 t 0) = mean (a.z t) := by
  pointwise [val_main_v6, val_main_v5, val_main_v4, val_main_v3, val_main_cst_0, val_main_cst_1]
  simp only [ref_z]
  rfl
theorem ref_dev (t : Fin 4096) (n : Fin 1024) : val_main_v8 (F := Ideal) a.x a.s (ix2 t n) = dev (a.z t) n := by
  pointwise [val_main_v8, val_main_v7]
  rw [ref_z, ref_mean]
  rfl
theorem ref_dev' (t : Fin 4096) (n : Fin 1024) : val_main_v15 (F := Ideal) a.x a.s (ix2 t n) = dev (a.z t) n := by
  pointwise [val_main_v15, val_main_v14]
  rw [ref_z, ref_mean]
  rfl
theorem ref_root (t : Fin 4096) : val_main_v18 (F := Ideal) a.x a.s (ix2 t 0) = root (a.z t) := by
  pointwise [val_main_v18, val_main_v17, val_main_v16, val_main_v13, val_main_v12, val_main_v11, val_main_v10, val_main_v9, val_main_cst_2, val_main_cst_3, val_main_cst_4]
  simp only [ref_dev]
  rfl
theorem ref_norm (t : Fin 4096) (n : Fin 1024) :
    val_main_v26 (F := Ideal) a.x a.s a.g a.b (ix2 t n) = hat (a.z t) n * a.g (ix1 n) + a.b (ix1 n) := by
  pointwise [val_main_v26, val_main_v25, val_main_v24, val_main_v23, val_main_v22, val_main_v21, val_main_v20, val_main_v19]
  rw [ref_dev', ref_root]
  rfl
theorem ref_err (t : Fin 4096) (n : Fin 1024) : val_main_v27 (F := Ideal) a.x a.s a.g a.b a.tgt (ix2 t n) = a.err t n := by
  pointwise [val_main_v27]
  rw [ref_norm]
  rfl
theorem ref_err' (t : Fin 4096) (n : Fin 1024) : val_main_v42 (F := Ideal) a.x a.s a.g a.b a.tgt (ix2 t n) = a.err t n := by
  pointwise [val_main_v42]
  rw [ref_norm]
  rfl
theorem ref_v41 : val_main_v41 (F := Ideal) a.x a.s a.g a.b a.tgt = a.dy := by
  funext y
  idx_vars y
  pointwise [val_main_v41, val_main_v40, val_main_v39, val_main_v38, val_main_v37, val_main_v36, val_main_v30, val_main_v29, val_main_cst_5, val_main_cst_10, val_main_cst_11, val_main_cst_12]
  rw [ref_err]
  exact slope_eq _
theorem ref_v45 : val_main_v45 (F := Ideal) a.x a.s a.g a.b a.tgt = a.l := by
  funext y
  idx_vars y
  pointwise [val_main_v45, val_main_v44, val_main_v43, val_main_cst_13]
  simp only [ref_err']
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r hr => ⟨fun c => (hr c).2.2, sem_eq_zero_of_no_sems (by decide) r.2⟩) (Cert.Reference17Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4)⟩

end Reference

/-- On equal arguments the kernel and the reference leave the same two arrays. -/
theorem algebraic : Cert.algebraic_Kernel17Ideal_Reference17Ideal := by
  intro m g m' g' _ he
  have ha : ∀ c, refArgs m' c = argsOf m c := fun c => by
    obtain ⟨h0, h1, h2, h3, h4⟩ := he c
    show Args.mk _ _ _ _ _ = Args.mk _ _ _ _ _
    rw [h0, h1, h2, h3, h4]
  refine ⟨fun c => (argsOf m c).l, fun c => (argsOf m c).dy, ?_, ?_⟩
  · exact (θ_run Cert.Kernel17Ideal.defs _ _).mono (fun r h c => ⟨(h c).1.trans (final_l m c), (h c).2.1.trans (final_dy m c), (h c).2.2⟩)
      (Cert.Kernel17Ideal.Value.run_blocks m g)
  · exact (θ_run Cert.Reference17Ideal.defs _ _).mono (fun r h c =>
      ⟨(h c).1.trans ((Cert.Reference17Ideal.Read.val_main_v45_eq m' c).trans ((ref_v45 (refArgs m' c)).trans (congrArg Args.l (ha c)))),
        (h c).2.1.trans ((Cert.Reference17Ideal.Read.val_main_v41_eq _ _ _ _ _).trans ((ref_v41 (refArgs m' c)).trans (congrArg Args.dy (ha c)))),
        (h c).2.2⟩)
      (Cert.Reference17Ideal.Value.run m' g')

end Cert.Norm.Loss

end
-- ==== Proof.Assemble.lean ====
/- The cotangent of the attention's projections put together: the queries' columns, the keys' and values' columns with the
next block's share added, and the sums of all columns. -/
module

public import proofs.«01_k».proof.Defs
public import proofs.«01_k».proof.Proof.Spec
public import proofs.«01_k».proof.Proof.Gen.Kernel18Ideal.Value
public import proofs.«01_k».proof.Proof.Gen.Reference18Ideal.Run
public import proofs.«01_k».proof.Proof.Gen.Reference18Ideal.Read
public import Idealize.ShloMosaic.Lib.Pointwise
public import Idealize.ShloMosaic.Lib.Pipeline.ValueKit
public import Idealize.ShloMosaic.Lib.Pipeline.ReadBack
public import Idealize.ShloMosaic.Lib.Claim
public import Idealize.ShloMosaic.Lib.Quiescent

@[expose] public section

set_option maxRecDepth 16384
set_option maxHeartbeats 400000

noncomputable section

namespace Cert.Att.Assemble

open Idealize.ShloMosaic Idealize.ShloMosaic.TcCoe Idealize.ShloMosaic.StableHlo Idealize.SL.Sem

section Kernel

open Cert.Kernel18Ideal Cert.Kernel18Ideal.Gen

/-- The call's arguments: the queries' cotangent, the keys' and values' as a block's own, and as the block before's. -/
structure Args where
  q : Vec Ideal S4096x1024 .f32
  kc : Vec Ideal S4096x256 .f32
  kp : Vec Ideal S4096x256 .f32

namespace Args

variable (a : Args)

/-- What the next block has for a row. -/
def next (t : Fin 4096) (n : Fin 256) : EReal := if h : 128 + t.val < 4096 then a.kp (ix2 ⟨128 + t.val, h⟩ n) else 0
/-- The keys' and values' cotangent. -/
def kv (t : Fin 4096) (n : Fin 256) : EReal := a.kc (ix2 t n) + a.next t n
/-- The whole row. -/
def whole (t : Fin 4096) (n : Fin 1280) : EReal := if h : n.val < 1024 then a.q (ix2 t ⟨n.val, h⟩) else a.kv t ⟨n.val - 1024, by omega⟩
/-- The two results. -/
def d : Vec Ideal S4096x1280 .bf16 := fun i => a.whole (i 0) (i 1)
def db : Vec Ideal S1x1280 .f32 := fun i => ∑ t : Fin 4096, a.whole t (i 1)

end Args

/-! ## One tile -/

section Tile

variable (i : grid0.Coords) (q : Vec Ideal S128x1024 .f32) (kc kp : Vec Ideal S128x256 .f32)

/-- A tile's rows. -/
def twhole (r : Fin 128) (n : Fin 1280) : EReal :=
  if h : n.val < 1024 then q (ix2 r ⟨n.val, h⟩) else k0_pay2 (F := Ideal) i kc kp (ix2 r ⟨n.val - 1024, by omega⟩)
def tout : Vec Ideal S128x1280 .bf16 := fun y => twhole i q kc kp (y 0) (y 1)
/-- The columns' sums with the tile's added. -/
def tsum (old : Vec Ideal S1x1280 .f32) : Vec Ideal S1x1280 .f32 := fun y => old y + ∑ r : Fin 128, twhole i q kc kp r (y 1)

def colQ (n : Fin 1024) : Fin 1280 := ⟨n.val, by omega⟩
def colK (n : Fin 256) : Fin 1280 := ⟨1024 + n.val, by omega⟩

theorem twhole_q (r : Fin 128) (n : Fin 1024) : twhole i q kc kp r (colQ n) = q (ix2 r n) := dif_pos n.isLt
theorem twhole_k (r : Fin 128) (n : Fin 256) : twhole i q kc kp r (colK n) = k0_pay2 (F := Ideal) i kc kp (ix2 r n) := by
  refine (dif_neg (by show ¬1024 + n.val < 1024; omega)).trans (congrArg (fun n => k0_pay2 (F := Ideal) i kc kp (ix2 r n)) (Fin.ext ?_))
  show 1024 + n.val - 1024 = n.val
  omega

theorem ld_q (old : Vec Ideal S1x1280 .f32) (n : Fin 1024) :
    View.ld old (Rect.unit ![0, 0] ![1, 1024] inb_S1x1280_S1x1024_0_0) (ix2 0 n) = old (ix2 0 (colQ n)) := by
  refine congrArg old (funext fun a => ?_)
  fin_cases a
  · rfl
  · exact Fin.ext (by show 0 + 1 * n.val = n.val; omega)
theorem ld_k (old : Vec Ideal S1x1280 .f32) (n : Fin 256) :
    View.ld old (Rect.unit ![0, 1024] ![1, 256] inb_S1x1280_S1x256_0_1024) (ix2 0 n) = old (ix2 0 (colK n)) := by
  refine congrArg old (funext fun a => ?_)
  fin_cases a
  · rfl
  · exact Fin.ext (by show 1024 + 1 * n.val = 1024 + n.val; omega)

theorem zero_db (y : S1x1280.Idx) : k0_pay1 (F := Ideal) y = 0 := by
  idx_vars y
  pointwise [k0_pay1]

theorem out_canon (y : S128x1280.Idx) :
    View.canon [⟨Rect.unit ![0, 1024] ![128, 256] inb_S128x1280_S128x256_0_1024, k0_pay4 (F := Ideal) i kc kp⟩,
      ⟨Rect.unit ![0, 0] ![128, 1024] inb_S128x1280_S128x1024_0_0, k0_pay3 (F := Ideal) q⟩] y = tout i q kc kp y := by
  refine View.canon_append_of_piecesOf (tout i q kc kp) [] [_, _] ⟨fun x => ?_, fun x => ?_, trivial⟩ y (View.cover_of_tiledBy _ ![128, 256] (by sl_kernel_rfl) y)
  · idx_vars x
    refine (show _ = twhole i q kc kp x0 (colK x1) from ?_).trans (congrArg (tout i q kc kp) (show ix2 x0 (colK x1) = _ from ?_))
    · rw [twhole_k]
      pointwise [k0_pay4]
    · funext a
      fin_cases a
      · exact Fin.ext (by show x0.val = 0 + 1 * x0.val; omega)
      · exact Fin.ext (by show 1024 + x1.val = 1024 + 1 * x1.val; omega)
  · idx_vars x
    refine (show _ = twhole i q kc kp x0 (colQ x1) from ?_).trans (congrArg (tout i q kc kp) (show ix2 x0 (colQ x1) = _ from ?_))
    · rw [twhole_q]
      pointwise [k0_pay3]
    · funext a
      fin_cases a
      · exact Fin.ext (by show x0.val = 0 + 1 * x0.val; omega)
      · exact Fin.ext (by show x1.val = 0 + 1 * x1.val; omega)

theorem sum_canon (old : Vec Ideal S1x1280 .f32) (oq : Vec Ideal S1x1024 .f32) (ok : Vec Ideal S1x256 .f32)
    (hq : ∀ n, oq (ix2 0 n) = old (ix2 0 (colQ n))) (hk : ∀ n, ok (ix2 0 n) = old (ix2 0 (colK n)))
    (L : List (View.Piece (Elt Ideal) S1x1280 .f32)) (y : S1x1280.Idx) :
    View.canon (⟨Rect.unit ![0, 1024] ![1, 256] inb_S1x1280_S1x256_0_1024, k0_pay6 (F := Ideal) i kc kp ok⟩ ::
      ⟨Rect.unit ![0, 0] ![1, 1024] inb_S1x1280_S1x1024_0_0, k0_pay5 (F := Ideal) q oq⟩ :: L) y = tsum i q kc kp old y := by
  refine View.canon_append_of_piecesOf (tsum i q kc kp old) L [_, _] ⟨fun x => ?_, fun x => ?_, trivial⟩ y (View.cover_of_tiledBy _ ![1, 256] (by sl_kernel_rfl) y)
  · idx_vars x
    obtain rfl : x0 = 0 := Subsingleton.elim (α := Fin 1) _ _
    refine (show _ = old (ix2 0 (colK x1)) + ∑ r : Fin 128, twhole i q kc kp r (colK x1) from ?_).trans
      (congrArg (tsum i q kc kp old) (show ix2 0 (colK x1) = _ from ?_))
    · simp only [twhole_k, ← hk]
      pointwise [k0_pay6]
    · funext a
      fin_cases a
      · rfl
      · exact Fin.ext (by show 1024 + x1.val = 1024 + 1 * x1.val; omega)
  · idx_vars x
    obtain rfl : x0 = 0 := Subsingleton.elim (α := Fin 1) _ _
    refine (show _ = old (ix2 0 (colQ x1)) + ∑ r : Fin 128, twhole i q kc kp r (colQ x1) from ?_).trans
      (congrArg (tsum i q kc kp old) (show ix2 0 (colQ x1) = _ from ?_))
    · simp only [twhole_q, ← hq]
      pointwise [k0_pay5]
    · funext a
      fin_cases a
      · rfl
      · exact Fin.ext (by show x1.val = 0 + 1 * x1.val; omega)

end Tile

/-! ## The launch's points -/

variable (m : (ℓ : Loc nD τ sig) → Buf (Elt Ideal) ℓ)

/-- The launch's arguments on core `c`. -/
def argsOf (c : Dev nD) : Args :=
  ⟨m ((c : Thread nD τ).loc main_arg0), m ((c : Thread nD τ).loc main_arg1), m ((c : Thread nD τ).loc main_arg2)⟩

/-- The block each window is on at each point. -/
theorem idx : ∀ t : Fin cfg0.N, win0_0.index t = ![t.val, 0] ∧ win0_1.index t = ![t.val, 0] ∧ win0_2.index t = ![min (t.val + 1) 31, 0]
    ∧ win0_3.index t = ![t.val, 0] ∧ win0_4.index t = ![0, 0] := by
  show ∀ t : Fin grid0.N, _
  decide +kernel

/-- Only the last point has no next block. -/
theorem last : ∀ t : Fin grid0.N, Scalar.cmpi .eq (BitVec.ofNat 32 (grid0.coords t 0).val) 31#32 = if t.val = 31 then 1#1 else 0#1 := by
  decide +kernel

theorem t_lt (t : Fin cfg0.N) : t.val < 32 := Nat.lt_of_lt_of_eq t.isLt N_0

/-- Row `r` of tile `t`, and the row the next tile has there. -/
def row (t : Fin cfg0.N) (r : Fin 128) : Fin 4096 := ⟨128 * t.val + r.val, by have := t_lt t; omega⟩
def row' (t : Fin cfg0.N) (r : Fin 128) : Fin 4096 := ⟨128 * min (t.val + 1) 31 + r.val, by have := t_lt t; omega⟩

theorem blk_q (c : Dev nD) (t : Fin cfg0.N) (r : Fin 128) (n : Fin 1024) : iblk m c 0 t (ix2 r n) = (argsOf m c).q (ix2 (row t r) n) := by
  rw [show (argsOf m c).q = V m c main_arg0 from (V_main_arg0 m c).symm]
  unfold row
  blk_ext [iblk, idx t]
theorem blk_kc (c : Dev nD) (t : Fin cfg0.N) (r : Fin 128) (n : Fin 256) : iblk m c 1 t (ix2 r n) = (argsOf m c).kc (ix2 (row t r) n) := by
  rw [show (argsOf m c).kc = V m c main_arg1 from (V_main_arg1 m c).symm]
  unfold row
  blk_ext [iblk, idx t]
theorem blk_kp (c : Dev nD) (t : Fin cfg0.N) (r : Fin 128) (n : Fin 256) : iblk m c 2 t (ix2 r n) = (argsOf m c).kp (ix2 (row' t r) n) := by
  rw [show (argsOf m c).kp = V m c main_arg2 from (V_main_arg2 m c).symm]
  unfold row'
  blk_ext [iblk, idx t]

theorem kv_eq (c : Dev nD) (t : Fin cfg0.N) (r : Fin 128) (n : Fin 256) :
    k0_pay2 (F := Ideal) (grid0.coords t) (iblk m c 1 t) (iblk m c 2 t) (ix2 r n) = (argsOf m c).kv (row t r) n := by
  have h8 := t_lt t
  unfold Args.kv Args.next
  rw [← blk_kc]
  simp only [k0_pay2]
  rw [last t]
  by_cases h : t.val = 31
  · rw [if_pos h, dif_neg (by show ¬128 + (128 * t.val + r.val) < 4096; omega)]
    pointwise []
  · rw [if_neg h, dif_pos (by show 128 + (128 * t.val + r.val) < 4096; omega)]
    have e : ∀ h', (⟨128 + (row t r).val, h'⟩ : Fin 4096) = row' t r := fun _ => Fin.ext (by
      show 128 + (128 * t.val + r.val) = 128 * min (t.val + 1) 31 + r.val
      omega)
    rw [e, ← blk_kp]
    pointwise []

theorem twhole_eq (c : Dev nD) (t : Fin cfg0.N) (r : Fin 128) (n : Fin 1280) :
    twhole (grid0.coords t) (iblk m c 0 t) (iblk m c 1 t) (iblk m c 2 t) r n = (argsOf m c).whole (row t r) n := by
  unfold twhole Args.whole
  simp only [kv_eq, blk_q]

/-- The first result's tile, at every point. -/
theorem point_d (c : Dev nD) (t : Fin cfg0.N) (y : S128x1280.Idx) :
    (outsAt0 m c t.val t.isLt).1 y = (argsOf m c).whole (row t (y 0)) (y 1) := by
  refine Eq.trans ?_ (twhole_eq m c t (y 0) (y 1))
  refine Eq.trans ?_ (out_canon (grid0.coords t) (iblk m c 0 t) (iblk m c 1 t) (iblk m c 2 t) y)
  by_cases h0 : t.val % 32 = 0
  · rw [outsAt0_A m c t h0]
    dsimp only
    frame_open
    frame_out
  · rw [outsAt0_B m c t h0]
    dsimp only
    frame_open
    frame_out

/-- The columns' sums at the first point, and after it. -/
theorem db_A (c : Dev nD) (t : Fin cfg0.N) (h0 : t.val % 32 = 0) (y : S1x1280.Idx) :
    (outsAt0 m c t.val t.isLt).2 y = tsum (grid0.coords t) (iblk m c 0 t) (iblk m c 1 t) (iblk m c 2 t) (k0_pay1 (F := Ideal)) y := by
  rw [outsAt0_A m c t h0]
  dsimp only
  frame_open
  simp (disch := decide) only [↓ View.readCov_skip, ↓ View.readCov_cons_toLoadRect, ↓ View.readCov_fill]
  frame_out
  exact sum_canon _ _ _ _ _ _ _ (ld_q _) (ld_k _) _ y

theorem db_B (c : Dev nD) (t : Fin cfg0.N) (h0 : ¬t.val % 32 = 0) (y : S1x1280.Idx) :
    (outsAt0 m c t.val t.isLt).2 y = tsum (grid0.coords t) (iblk m c 0 t) (iblk m c 1 t) (iblk m c 2 t)
      (outsAt0 m c (t.val - 1) (Nat.lt_of_le_of_lt (Nat.sub_le _ _) t.isLt)).2 y := by
  rw [outsAt0_B m c t h0]
  dsimp only
  frame_open
  simp (disch := decide) only [↓ View.readCov_skip, ↓ View.readCov_cons_toLoadRect, ↓ View.readCov_fill]
  frame_out
  exact sum_canon _ _ _ _ _ _ _ (ld_q _) (ld_k _) _ y

/-- What a tile adds to the sum of column `n`. -/
def part (a : Args) (n : Fin 1280) (k : ℕ) : EReal := ∑ r : Fin 128, if h : k < 32 then a.whole ⟨128 * k + r.val, by omega⟩ n else 0

theorem tsum_eq (c : Dev nD) (t : Fin cfg0.N) (old : Vec Ideal S1x1280 .f32) (n : Fin 1280) :
    tsum (grid0.coords t) (iblk m c 0 t) (iblk m c 1 t) (iblk m c 2 t) old (ix2 0 n) = old (ix2 0 n) + part (argsOf m c) n t.val := by
  refine congrArg (fun e : EReal => old (ix2 0 n) + e) (Finset.sum_congr rfl fun r _ => ?_)
  rw [dif_pos (t_lt t)]
  exact twhole_eq m c t r n

/-- The rows of the 32 tiles are all the rows. -/
theorem sum_part (a : Args) (n : Fin 1280) : ∑ k ∈ Finset.range 32, part a n k = ∑ t, a.whole t n := by
  rw [← Fin.sum_univ_eq_sum_range (part a n) 32]
  unfold part
  rw [← Fintype.sum_prod_type', ← (finProdFinEquiv (m := 32) (n := 128)).sum_comp (fun t : Fin (32 * 128) => a.whole t n)]
  refine Finset.sum_congr rfl fun p _ => ?_
  rw [dif_pos p.1.isLt]
  exact congrArg (fun t => a.whole t n) (Fin.ext (Nat.add_comm _ _))

theorem total_db (c : Dev nD) (t : Fin cfg0.N) (ht : t.val % 32 = 31) (n : Fin 1280) :
    (outsAt0 m c t.val t.isLt).2 (ix2 0 n) = (argsOf m c).db (ix2 0 n) := by
  have h := Pipeline.eq_sum_of_reset_step_apply_of_mod (fun k h (n : Fin 1280) => (outsAt0 m c k h).2 (ix2 0 n)) 32 (fun _ => (0 : EReal))
    (fun k n => part (argsOf m c) n k)
    (fun t h0 n => by rw [db_A m c t h0, tsum_eq, zero_db])
    (fun t h0 n => by rw [db_B m c t h0, tsum_eq]) t ht n
  have h8 := t_lt t
  refine h.trans ((zero_add _).trans (Eq.trans ?_ (sum_part (argsOf m c) n)))
  exact Finset.sum_congr rfl fun k hk => by rw [show 32 * (t.val / 32) + k = k by omega]

theorem final_d (c : Dev nD) : (dats m 0 c).arrAt 3 cfg0.N = (argsOf m c).d := by
  refine (dats m 0 c).arrAt_eq_of_covers 3 _ (by decide +kernel) fun t hf y => ?_
  idx_vars y
  blk_simp
  rw [after0_3, point_d]
  refine Eq.trans (b := (argsOf m c).d (ix2 (row t y0) y1)) rfl ?_
  unfold row
  blk_ext [idx t]

theorem final_db (c : Dev nD) : (dats m 0 c).arrAt 4 cfg0.N = (argsOf m c).db := by
  refine (dats m 0 c).arrAt_eq_of_covers 4 _ (by decide +kernel) fun t hf y => ?_
  idx_vars y
  obtain rfl : y0 = 0 := Subsingleton.elim _ _
  blk_simp
  rw [after0_4, total_db m c t ((flush0_4 t).mp hf)]
  blk_ext [idx t]

end Kernel

section Reference

open Cert.Reference18Ideal Cert.Reference18Ideal.Read

variable (a : Args)

theorem ref_kv (t : Fin 4096) (n : Fin 256) : val_main_v3 (F := Ideal) a.kc a.kp (ix2 t n) = a.kv t n := by
  unfold Args.kv Args.next
  pointwise [val_main_v3, val_main_v2, val_main_v1, val_main_v0, val_main_cst]
  congr 1
  split_ifs <;> first | rfl | omega
theorem ref_whole (t : Fin 4096) (n : Fin 1280) : val_main_v4 (F := Ideal) a.q a.kc a.kp (ix2 t n) = a.whole t n := by
  unfold Args.whole
  pointwise [val_main_v4]
  simp only [ref_kv]
theorem ref_v5 : val_main_v5 (F := Ideal) a.q a.kc a.kp = a.d := by
  funext y
  idx_vars y
  pointwise [val_main_v5]
  exact ref_whole a y0 y1
theorem ref_v7 : val_main_v7 (F := Ideal) a.q a.kc a.kp = a.db := by
  funext y
  idx_vars y
  pointwise [val_main_v7, val_main_v6, val_main_cst_0]
  simp only [ref_whole]
  rfl

/-- The reference's frame: it has no semaphore. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r hr => ⟨fun c => (hr c).2.2, sem_eq_zero_of_no_sems (by decide) r.2⟩) (Cert.Reference18Ideal.Value.run m ρ)

/-- The reference's arguments. -/
def refArgs (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2)⟩

end Reference

/-- On equal arguments the kernel and the reference leave the same two arrays. -/
theorem algebraic : Cert.algebraic_Kernel18Ideal_Reference18Ideal := by
  intro m g m' g' _ he
  have ha : ∀ c, refArgs m' c = argsOf m c := fun c => by
    obtain ⟨h0, h1, h2⟩ := he c
    show Args.mk _ _ _ = Args.mk _ _ _
    rw [h0, h1, h2]
  refine ⟨fun c => (argsOf m c).d, fun c => (argsOf m c).db, ?_, ?_⟩
  · exact (θ_run Cert.Kernel18Ideal.defs _ _).mono (fun r h c => ⟨(h c).1.trans (final_d m c), (h c).2.1.trans (final_db m c), (h c).2.2⟩)
      (Cert.Kernel18Ideal.Value.run_blocks m g)
  · exact (θ_run Cert.Reference18Ideal.defs _ _).mono (fun r h c =>
      ⟨(h c).1.trans ((Cert.Reference18Ideal.Read.val_main_v5_eq _ _ _).trans ((ref_v5 (refArgs m' c)).trans (congrArg Args.d (ha c)))),
        (h c).2.1.trans ((Cert.Reference18Ideal.Read.val_main_v7_eq _ _ _).trans ((ref_v7 (refArgs m' c)).trans (congrArg Args.db (ha c)))),
        (h c).2.2⟩)
      (Cert.Reference18Ideal.Value.run m' g')

end Cert.Att.Assemble

end
-- ==== Proof.lean ====
/- The claims of `Defs.lean`, put together: the frames, the named constants, and the equality of results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Adequacy
public import Idealize.ShloMosaic.Init
public import proofs.«01_k».proof.Proof.Claims
public import proofs.«01_k».proof.Proof.DownInput
public import proofs.«01_k».proof.Proof.DownWeight
public import proofs.«01_k».proof.Proof.UpForward
public import proofs.«01_k».proof.Proof.NormClaims
public import proofs.«01_k».proof.Proof.DownNorm
public import proofs.«01_k».proof.Proof.OutWeight
public import proofs.«01_k».proof.Proof.OutInput
public import proofs.«01_k».proof.Proof.QkvWeight
public import proofs.«01_k».proof.Proof.QkvInput
public import proofs.«01_k».proof.Proof.DownForward
public import proofs.«01_k».proof.Proof.Qkv
public import proofs.«01_k».proof.Proof.OutNorm
public import proofs.«01_k».proof.Proof.MixWeight
public import proofs.«01_k».proof.Proof.MixNorm
public import proofs.«01_k».proof.Proof.NormPair
public import proofs.«01_k».proof.Proof.Loss
public import proofs.«01_k».proof.Proof.Assemble

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Ffn.preFacts, Cert.Norm.preFacts, Cert.Norm.Pair.preFacts,
    fun m ρ _ => Cert.Kernel.Gen.frame m ρ,
    fun m ρ _ => Cert.KernelIdeal.Gen.frame m ρ,
    fun m ρ _ => Cert.KernelIdeal.Gen.frame m ρ,
    fun m ρ _ => Cert.Ffn.reference_frame m ρ,
    fun m ρ _ => Cert.Ffn.reference_frame m ρ,
    fun m ρ _ => Cert.Kernel2.Gen.frame m ρ,
    fun m ρ _ => Cert.Kernel2Ideal.Gen.frame m ρ,
    fun m ρ _ => Cert.Ffn.DownInput.reference_frame m ρ,
    fun m ρ _ => Cert.Kernel3.Gen.frame m ρ,
    fun m ρ _ => Cert.Kernel3Ideal.Gen.frame m ρ,
    fun m ρ _ => Cert.Ffn.DownWeight.reference_frame m ρ,
    fun m ρ _ => Cert.Kernel4.Gen.frame m ρ,
    fun m ρ _ => Cert.Kernel4Ideal.Gen.frame m ρ,
    fun m ρ _ => Cert.Ffn.Up.reference_frame m ρ,
    fun m ρ _ => Cert.Kernel5.Gen.frame m ρ,
    fun m ρ _ => Cert.Kernel5Ideal.Gen.frame m ρ,
    fun m ρ _ => Cert.Kernel5Ideal.Gen.frame m ρ,
    fun m ρ _ => Cert.Norm.reference_frame m ρ,
    fun m ρ _ => Cert.Norm.reference_frame m ρ,
    fun m ρ _ => Cert.Kernel6.Gen.frame m ρ,
    fun m ρ _ => Cert.Kernel6Ideal.Gen.frame m ρ,
    fun m ρ _ => Cert.Norm.Down.reference_frame m ρ,
    fun m ρ _ => Cert.Kernel7.Gen.frame m ρ,
    fun m ρ _ => Cert.Kernel7Ideal.Gen.frame m ρ,
    fun m ρ _ => Cert.Att.OutWeight.reference_frame m ρ,
    fun m ρ _ => Cert.Kernel8.Gen.frame m ρ,
    fun m ρ _ => Cert.Kernel8Ideal.Gen.frame m ρ,
    fun m ρ _ => Cert.Att.OutInput.reference_frame m ρ,
    fun m ρ _ => Cert.Kernel9.Gen.frame m ρ,
    fun m ρ _ => Cert.Kernel9Ideal.Gen.frame m ρ,
    fun m ρ _ => Cert.Att.QkvWeight.reference_frame m ρ,
    fun m ρ _ => Cert.Kernel10.Gen.frame m ρ,
    fun m ρ _ => Cert.Kernel10Ideal.Gen.frame m ρ,
    fun m ρ _ => Cert.Att.QkvInput.reference_frame m ρ,
    fun m ρ _ => Cert.Kernel11.Gen.frame m ρ,
    fun m ρ _ => Cert.Kernel11Ideal.Gen.frame m ρ,
    fun m ρ _ => Cert.Ffn.DownForward.reference_frame m ρ,
    fun m ρ _ => Cert.Kernel12.Gen.frame m ρ,
    fun m ρ _ => Cert.Kernel12Ideal.Gen.frame m ρ,
    fun m ρ _ => Cert.Att.Qkv.reference_frame m ρ,
    fun m ρ _ => Cert.Kernel13.Gen.frame m ρ,
    fun m ρ _ => Cert.Kernel13Ideal.Gen.frame m ρ,
    fun m ρ _ => Cert.Norm.Out.reference_frame m ρ,
    fun m ρ _ => Cert.Kernel14.Gen.frame m ρ,
    fun m ρ _ => Cert.Kernel14Ideal.Gen.frame m ρ,
    fun m ρ _ => Cert.Mix.Weight.reference_frame m ρ,
    fun m ρ _ => Cert.Kernel15.Gen.frame m ρ,
    fun m ρ _ => Cert.Kernel15Ideal.Gen.frame m ρ,
    fun m ρ _ => Cert.Norm.Mix.reference_frame m ρ,
    fun m ρ _ => Cert.Kernel16.Gen.frame m ρ,
    fun m ρ _ => Cert.Kernel16Ideal.Gen.frame m ρ,
    fun m ρ _ => Cert.Kernel16Ideal.Gen.frame m ρ,
    fun m ρ _ => Cert.Norm.Pair.reference_frame m ρ,
    fun m ρ _ => Cert.Norm.Pair.reference_frame m ρ,
    fun m ρ _ => Cert.Kernel17.Gen.frame m ρ,
    fun m ρ _ => Cert.Kernel17Ideal.Gen.frame m ρ,
    fun m ρ _ => Cert.Norm.Loss.reference_frame m ρ,
    fun m ρ _ => Cert.Kernel18.Gen.frame m ρ,
    fun m ρ _ => Cert.Kernel18Ideal.Gen.frame m ρ,
    fun m ρ _ => Cert.Att.Assemble.reference_frame m ρ,
    ⟨IdealRules.named_const.statement Cert.KernelIdeal.κ "cubic" .f32 0x3D372713#32 ((8943 / 200000 : ℝ) : EReal) rfl,
      IdealRules.named_const.statement Cert.KernelIdeal.κ "cubic3" .f32 0x3E095D4F#32 ((26829 / 200000 : ℝ) : EReal) rfl⟩,
    @Cert.Ffn.algebraic Cert.Ffn.preFacts,
    trivial, Cert.Ffn.DownInput.algebraic,
    trivial, Cert.Ffn.DownWeight.algebraic,
    IdealRules.named_const.statement Cert.Kernel4Ideal.κ "cubic" .f32 0x3D372713#32 ((8943 / 200000 : ℝ) : EReal) rfl,
    Cert.Ffn.Up.algebraic,
    trivial, Cert.Norm.algebraic Cert.Norm.preFacts,
    trivial, Cert.Norm.Down.algebraic,
    trivial, Cert.Att.OutWeight.algebraic,
    trivial, Cert.Att.OutInput.algebraic,
    trivial, Cert.Att.QkvWeight.algebraic,
    trivial, Cert.Att.QkvInput.algebraic,
    trivial, Cert.Ffn.DownForward.algebraic,
    trivial, Cert.Att.Qkv.algebraic,
    trivial, Cert.Norm.Out.algebraic,
    trivial, Cert.Mix.Weight.algebraic,
    trivial, Cert.Norm.Mix.algebraic,
    trivial, Cert.Norm.Pair.algebraic Cert.Norm.Pair.preFacts,
    trivial, Cert.Norm.Loss.algebraic,
    trivial, Cert.Att.Assemble.algebraic⟩

end Cert.Proof

end
